-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32768x7168 : Shape := ⟨2, ![32768, 7168]⟩
abbrev S4x32x256x256 : Shape := ⟨4, ![4, 32, 256, 256]⟩
abbrev S1x1024 : Shape := ⟨2, ![1, 1024]⟩
abbrev S32768x1024 : Shape := ⟨2, ![32768, 1024]⟩
abbrev S256x1024 : Shape := ⟨2, ![256, 1024]⟩
abbrev S256x128 : Shape := ⟨2, ![256, 128]⟩
abbrev S128x1024 : Shape := ⟨2, ![128, 1024]⟩
abbrev S128x128 : Shape := ⟨2, ![128, 128]⟩
abbrev S8192x256 : Shape := ⟨2, ![8192, 256]⟩
abbrev S1x32x256x256 : Shape := ⟨4, ![1, 32, 256, 256]⟩
abbrev S8192x128 : Shape := ⟨2, ![8192, 128]⟩
abbrev S32x32x8x128 : Shape := ⟨4, ![32, 32, 8, 128]⟩
abbrev S32x8x128 : Shape := ⟨3, ![32, 8, 128]⟩
abbrev S2x256x512 : Shape := ⟨3, ![2, 256, 512]⟩
abbrev S2x128x512 : Shape := ⟨3, ![2, 128, 512]⟩
abbrev S2x512 : Shape := ⟨2, ![2, 512]⟩
abbrev S16x256 : Shape := ⟨2, ![16, 256]⟩
abbrev S1x128 : Shape := ⟨2, ![1, 128]⟩
abbrev S8x128 : Shape := ⟨2, ![8, 128]⟩
abbrev S1x1x8x128 : Shape := ⟨4, ![1, 1, 8, 128]⟩
abbrev S16x8x128 : Shape := ⟨3, ![16, 8, 128]⟩
abbrev S1x16x8x128 : Shape := ⟨4, ![1, 16, 8, 128]⟩
abbrev S1x8x128 : Shape := ⟨3, ![1, 8, 128]⟩
abbrev S128 : Shape := ⟨1, ![128]⟩
abbrev S1x32x8x128 : Shape := ⟨4, ![1, 32, 8, 128]⟩
abbrev S1x1x128 : Shape := ⟨3, ![1, 1, 128]⟩
abbrev S1 : Shape := ⟨1, ![1]⟩
abbrev S1x1x1 : Shape := ⟨3, ![1, 1, 1]⟩
abbrev S128x512 : Shape := ⟨2, ![128, 512]⟩
abbrev S256x512 : Shape := ⟨2, ![256, 512]⟩
abbrev S1x256x512 : Shape := ⟨3, ![1, 256, 512]⟩
abbrev S1x512 : Shape := ⟨2, ![1, 512]⟩
abbrev S512 : Shape := ⟨1, ![512]⟩
abbrev S1x1x128x256 : Shape := ⟨4, ![1, 1, 128, 256]⟩
abbrev S128x256 : Shape := ⟨2, ![128, 256]⟩
abbrev S144x256 : Shape := ⟨2, ![144, 256]⟩
abbrev S144x512 : Shape := ⟨2, ![144, 512]⟩
abbrev S1x128x512 : Shape := ⟨3, ![1, 128, 512]⟩

abbrev nBuf : Space → Nat
  | .hbm => 4
  | .vmem => 33
  | .smem => 0
  | _ => 0

abbrev bufTy : (tb : Table) → Fin (tcTables nBuf tb) → BufTy
  | .hbm, ⟨0, _⟩ => ⟨S32768x7168, .bf16⟩
  | .hbm, ⟨1, _⟩ => ⟨S4x32x256x256, .bf16⟩
  | .hbm, ⟨2, _⟩ => ⟨S1x1024, .f32⟩
  | .hbm, ⟨3, _⟩ => ⟨S32768x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x128, .bf16⟩
  | .local _ .vmem, ⟨5, _⟩ => ⟨S256x128, .bf16⟩
  | .local _ .vmem, ⟨6, _⟩ => ⟨S128x1024, .bf16⟩
  | .local _ .vmem, ⟨7, _⟩ => ⟨S128x1024, .bf16⟩
  | .local _ .vmem, ⟨8, _⟩ => ⟨S128x128, .bf16⟩
  | .local _ .vmem, ⟨9, _⟩ => ⟨S128x128, .bf16⟩
  | .local _ .vmem, ⟨10, _⟩ => ⟨S8192x256, .bf16⟩
  | .local _ .vmem, ⟨11, _⟩ => ⟨S8192x256, .bf16⟩
  | .local _ .vmem, ⟨12, _⟩ => ⟨S1x32x256x256, .bf16⟩
  | .local _ .vmem, ⟨13, _⟩ => ⟨S1x32x256x256, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S8192x128, .i32⟩
  | .local _ .vmem, ⟨22, _⟩ => ⟨S8192x128, .i32⟩
  | .local _ .vmem, ⟨23, _⟩ => ⟨S32x32x8x128, .i32⟩
  | .local _ .vmem, ⟨24, _⟩ => ⟨S32x32x8x128, .i32⟩
  | .local _ .vmem, ⟨25, _⟩ => ⟨S32x8x128, .i32⟩
  | .local _ .vmem, ⟨26, _⟩ => ⟨S2x256x512, .f32⟩
  | .local _ .vmem, ⟨27, _⟩ => ⟨S2x256x512, .f32⟩
  | .local _ .vmem, ⟨28, _⟩ => ⟨S128x1024, .bf16⟩
  | .local _ .vmem, ⟨29, _⟩ => ⟨S128x1024, .bf16⟩
  | .local _ .vmem, ⟨30, _⟩ => ⟨S2x128x512, .f32⟩
  | .local _ .vmem, ⟨31, _⟩ => ⟨S2x512, .f32⟩
  | .local _ .vmem, ⟨32, _⟩ => ⟨S2x512, .f32⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [BitOps F]

abbrev grid0 : Pipeline.Grid := ⟨2, ![4, 32], ![false, false]⟩

def k0_cond2 (i : grid0.Coords) : BitVec 1 :=
  let arg1 : BitVec 32 := BitVec.ofNat 32 (i 1).val
  let c0_i32_3 : BitVec 32 := 0#32
  let v11 : BitVec 1 := Scalar.cmpi .eq arg1 c0_i32_3
  let v12 : BitVec 32 := Scalar.extui v11
  let c0_i32_4 : BitVec 32 := 0#32
  let v13 : BitVec 1 := Scalar.cmpi .ne v12 c0_i32_4
  v13

def k0_mult1 : BitVec 32 :=
  let c0_i32_1957 : BitVec 32 := 0#32
  c0_i32_1957
def k0_mult2 : BitVec 32 :=
  let c256_i32_2341 : BitVec 32 := 256#32
  c256_i32_2341
def k0_cond3 (i : grid0.Coords) : BitVec 1 :=
  let c2_i32_46 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v101 : BitVec 32 := Scalar.muli c2_i32_46 v88
  let c16_i32 : BitVec 32 := 16#32
  let v102 : BitVec 1 := Scalar.cmpi .sle v101 c16_i32
  let v103 : BitVec 32 := Scalar.extui v102
  let c0_i32_47 : BitVec 32 := 0#32
  let v104 : BitVec 1 := Scalar.cmpi .ne v103 c0_i32_47
  v104

@[reducible] def k0_t1_loop : Scf.Loop 32 :=
  let c0_i32_1937 : BitVec 32 := 0#32
  let c32_i32 : BitVec 32 := 32#32
  let v5171 : BitVec 32 := Scalar.addi c0_i32_1937 c32_i32
  let c1_i32_1938 : BitVec 32 := 1#32
  ⟨c0_i32_1937, v5171, c1_i32_1938⟩
def k0_off1 (k0_t1 : Fin k0_t1_loop.trips) : Fin 4 → Nat :=
  let c31_i32_1940 : BitVec 32 := 31#32
  let c0_i32_1937 : BitVec 32 := 0#32
  let c1_i32_1938 : BitVec 32 := 1#32
  let arg25 : BitVec 32 := Scf.iv c0_i32_1937 c1_i32_1938 k0_t1
  let v5173 : BitVec 32 := Scalar.subi c31_i32_1940 arg25
  let v5175 : Index := Scalar.indexCast v5173
  let c0_1944 : Index := 0#32
  let c0_1945 : Index := 0#32
  let c0_1946 : Index := 0#32
  ![v5175.toNat, 0, 0, 0]
@[reducible] def k0_t2_loop : Scf.Loop 32 :=
  let c0_i32_1937 : BitVec 32 := 0#32
  let c32_i32 : BitVec 32 := 32#32
  let v5171 : BitVec 32 := Scalar.addi c0_i32_1937 c32_i32
  let c1_i32_1938 : BitVec 32 := 1#32
  ⟨c0_i32_1937, v5171, c1_i32_1938⟩
def k0_off2 (k0_t2 : Fin k0_t2_loop.trips) : Fin 4 → Nat :=
  let c31_i32_1940 : BitVec 32 := 31#32
  let c0_i32_1937 : BitVec 32 := 0#32
  let c1_i32_1938 : BitVec 32 := 1#32
  let arg25 : BitVec 32 := Scf.iv c0_i32_1937 c1_i32_1938 k0_t2
  let v5173 : BitVec 32 := Scalar.subi c31_i32_1940 arg25
  let v5175 : Index := Scalar.indexCast v5173
  let c0_1944 : Index := 0#32
  let c0_1945 : Index := 0#32
  let c0_1946 : Index := 0#32
  ![v5175.toNat, 0, 0, 0]
@[reducible] def k0_t3_loop : Scf.Loop 32 :=
  let c0_i32_1940 : BitVec 32 := 0#32
  let c14_i32 : BitVec 32 := 14#32
  let v5179 : BitVec 32 := Scalar.addi c0_i32_1940 c14_i32
  let c1_i32_1941 : BitVec 32 := 1#32
  ⟨c0_i32_1940, v5179, c1_i32_1941⟩
@[reducible] def k0_t4_loop (i : grid0.Coords) : Scf.Loop 32 :=
  let c0_i32_1952 : BitVec 32 := 0#32
  let c2_i32_1950 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5191 : BitVec 32 := Scalar.muli c2_i32_1950 v88
  let v5193 : BitVec 32 := Scalar.subi v5191 c0_i32_1952
  let c1_i32_1953 : BitVec 32 := 1#32
  let v5195 : BitVec 32 := Scalar.divsi v5193 c1_i32_1953
  let v5196 : BitVec 32 := Scalar.muli v5195 c1_i32_1953
  let v5197 : BitVec 32 := Scalar.addi c0_i32_1952 v5196
  let c1_i32_1954 : BitVec 32 := 1#32
  ⟨c0_i32_1952, v5197, c1_i32_1954⟩
def k0_mult3 (i : grid0.Coords) (k0_t4 : Fin (k0_t4_loop i).trips) : BitVec 32 :=
  let c0_i32_1952 : BitVec 32 := 0#32
  let c1_i32_1954 : BitVec 32 := 1#32
  let arg27 : BitVec 32 := Scf.iv c0_i32_1952 c1_i32_1954 k0_t4
  let c256_i32_1956 : BitVec 32 := 256#32
  let v5202 : BitVec 32 := Scalar.muli arg27 c256_i32_1956
  v5202
def k0_off3 (i : grid0.Coords) (k0_t4 : Fin (k0_t4_loop i).trips) : Fin 2 → Nat :=
  let c0_i32_1952 : BitVec 32 := 0#32
  let c1_i32_1954 : BitVec 32 := 1#32
  let arg27 : BitVec 32 := Scf.iv c0_i32_1952 c1_i32_1954 k0_t4
  let c256_i32_1956 : BitVec 32 := 256#32
  let v5202 : BitVec 32 := Scalar.muli arg27 c256_i32_1956
  let v5203 : BitVec 32 := v5202
  let v5204 : Index := Scalar.indexCast v5203
  let c0_1957 : Index := 0#32
  ![v5204.toNat, 0]
@[reducible] def k0_t5_loop (i : grid0.Coords) : Scf.Loop 32 :=
  let c0_i32_1952 : BitVec 32 := 0#32
  let c2_i32_1950 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5191 : BitVec 32 := Scalar.muli c2_i32_1950 v88
  let v5193 : BitVec 32 := Scalar.subi v5191 c0_i32_1952
  let c1_i32_1953 : BitVec 32 := 1#32
  let v5195 : BitVec 32 := Scalar.divsi v5193 c1_i32_1953
  let v5196 : BitVec 32 := Scalar.muli v5195 c1_i32_1953
  let v5197 : BitVec 32 := Scalar.addi c0_i32_1952 v5196
  let v5194 : BitVec 32 := Scalar.addi c0_i32_1952 v5193
  let c1_i32_1955 : BitVec 32 := 1#32
  ⟨v5197, v5194, c1_i32_1955⟩
def k0_mult4 (i : grid0.Coords) (k0_t5 : Fin (k0_t5_loop i).trips) : BitVec 32 :=
  let c0_i32_1952 : BitVec 32 := 0#32
  let c2_i32_1950 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5191 : BitVec 32 := Scalar.muli c2_i32_1950 v88
  let v5193 : BitVec 32 := Scalar.subi v5191 c0_i32_1952
  let c1_i32_1953 : BitVec 32 := 1#32
  let v5195 : BitVec 32 := Scalar.divsi v5193 c1_i32_1953
  let v5196 : BitVec 32 := Scalar.muli v5195 c1_i32_1953
  let v5197 : BitVec 32 := Scalar.addi c0_i32_1952 v5196
  let c1_i32_1955 : BitVec 32 := 1#32
  let arg27 : BitVec 32 := Scf.iv v5197 c1_i32_1955 k0_t5
  let c256_i32_1956 : BitVec 32 := 256#32
  let v5202 : BitVec 32 := Scalar.muli arg27 c256_i32_1956
  v5202
def k0_off4 (i : grid0.Coords) (k0_t5 : Fin (k0_t5_loop i).trips) : Fin 2 → Nat :=
  let c0_i32_1952 : BitVec 32 := 0#32
  let c2_i32_1950 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5191 : BitVec 32 := Scalar.muli c2_i32_1950 v88
  let v5193 : BitVec 32 := Scalar.subi v5191 c0_i32_1952
  let c1_i32_1953 : BitVec 32 := 1#32
  let v5195 : BitVec 32 := Scalar.divsi v5193 c1_i32_1953
  let v5196 : BitVec 32 := Scalar.muli v5195 c1_i32_1953
  let v5197 : BitVec 32 := Scalar.addi c0_i32_1952 v5196
  let c1_i32_1955 : BitVec 32 := 1#32
  let arg27 : BitVec 32 := Scf.iv v5197 c1_i32_1955 k0_t5
  let c256_i32_1956 : BitVec 32 := 256#32
  let v5202 : BitVec 32 := Scalar.muli arg27 c256_i32_1956
  let v5203 : BitVec 32 := v5202
  let v5204 : Index := Scalar.indexCast v5203
  let c0_1957 : Index := 0#32
  ![v5204.toNat, 0]
@[reducible] def k0_t6_loop (i : grid0.Coords) : Scf.Loop 32 :=
  let c0_i32_1945 : BitVec 32 := 0#32
  let c2_i32_1943 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5181 : BitVec 32 := Scalar.muli c2_i32_1943 v88
  let v5182 : BitVec 32 := Scalar.subi v5181 c0_i32_1945
  let c1_i32_1946 : BitVec 32 := 1#32
  let v5184 : BitVec 32 := Scalar.divsi v5182 c1_i32_1946
  let v5185 : BitVec 32 := Scalar.muli v5184 c1_i32_1946
  let v5186 : BitVec 32 := Scalar.addi c0_i32_1945 v5185
  let c1_i32_1947 : BitVec 32 := 1#32
  ⟨c0_i32_1945, v5186, c1_i32_1947⟩
def k0_mult5 (i : grid0.Coords) (k0_t6 : Fin (k0_t6_loop i).trips) : BitVec 32 :=
  let c0_i32_1945 : BitVec 32 := 0#32
  let c1_i32_1947 : BitVec 32 := 1#32
  let arg25 : BitVec 32 := Scf.iv c0_i32_1945 c1_i32_1947 k0_t6
  let c256_i32_1949 : BitVec 32 := 256#32
  let v5187 : BitVec 32 := Scalar.muli arg25 c256_i32_1949
  v5187
def k0_off5 (i : grid0.Coords) (k0_t6 : Fin (k0_t6_loop i).trips) : Fin 2 → Nat :=
  let c0_i32_1945 : BitVec 32 := 0#32
  let c1_i32_1947 : BitVec 32 := 1#32
  let arg25 : BitVec 32 := Scf.iv c0_i32_1945 c1_i32_1947 k0_t6
  let c256_i32_1949 : BitVec 32 := 256#32
  let v5187 : BitVec 32 := Scalar.muli arg25 c256_i32_1949
  let v5188 : BitVec 32 := v5187
  let v5189 : Index := Scalar.indexCast v5188
  let c0_1950 : Index := 0#32
  ![v5189.toNat, 0]
@[reducible] def k0_t7_loop (i : grid0.Coords) : Scf.Loop 32 :=
  let c0_i32_1945 : BitVec 32 := 0#32
  let c2_i32_1943 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5181 : BitVec 32 := Scalar.muli c2_i32_1943 v88
  let v5182 : BitVec 32 := Scalar.subi v5181 c0_i32_1945
  let c1_i32_1946 : BitVec 32 := 1#32
  let v5184 : BitVec 32 := Scalar.divsi v5182 c1_i32_1946
  let v5185 : BitVec 32 := Scalar.muli v5184 c1_i32_1946
  let v5186 : BitVec 32 := Scalar.addi c0_i32_1945 v5185
  let v5183 : BitVec 32 := Scalar.addi c0_i32_1945 v5182
  let c1_i32_1948 : BitVec 32 := 1#32
  ⟨v5186, v5183, c1_i32_1948⟩
def k0_mult6 (i : grid0.Coords) (k0_t7 : Fin (k0_t7_loop i).trips) : BitVec 32 :=
  let c0_i32_1945 : BitVec 32 := 0#32
  let c2_i32_1943 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5181 : BitVec 32 := Scalar.muli c2_i32_1943 v88
  let v5182 : BitVec 32 := Scalar.subi v5181 c0_i32_1945
  let c1_i32_1946 : BitVec 32 := 1#32
  let v5184 : BitVec 32 := Scalar.divsi v5182 c1_i32_1946
  let v5185 : BitVec 32 := Scalar.muli v5184 c1_i32_1946
  let v5186 : BitVec 32 := Scalar.addi c0_i32_1945 v5185
  let c1_i32_1948 : BitVec 32 := 1#32
  let arg25 : BitVec 32 := Scf.iv v5186 c1_i32_1948 k0_t7
  let c256_i32_1949 : BitVec 32 := 256#32
  let v5187 : BitVec 32 := Scalar.muli arg25 c256_i32_1949
  v5187
def k0_off6 (i : grid0.Coords) (k0_t7 : Fin (k0_t7_loop i).trips) : Fin 2 → Nat :=
  let c0_i32_1945 : BitVec 32 := 0#32
  let c2_i32_1943 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5181 : BitVec 32 := Scalar.muli c2_i32_1943 v88
  let v5182 : BitVec 32 := Scalar.subi v5181 c0_i32_1945
  let c1_i32_1946 : BitVec 32 := 1#32
  let v5184 : BitVec 32 := Scalar.divsi v5182 c1_i32_1946
  let v5185 : BitVec 32 := Scalar.muli v5184 c1_i32_1946
  let v5186 : BitVec 32 := Scalar.addi c0_i32_1945 v5185
  let c1_i32_1948 : BitVec 32 := 1#32
  let arg25 : BitVec 32 := Scf.iv v5186 c1_i32_1948 k0_t7
  let c256_i32_1949 : BitVec 32 := 256#32
  let v5187 : BitVec 32 := Scalar.muli arg25 c256_i32_1949
  let v5188 : BitVec 32 := v5187
  let v5189 : Index := Scalar.indexCast v5188
  let c0_1950 : Index := 0#32
  ![v5189.toNat, 0]
def k0_mult7 : BitVec 32 :=
  let c0_i32_93 : BitVec 32 := 0#32
  c0_i32_93
@[reducible] def k0_t8_loop (i : grid0.Coords) : Scf.Loop 32 :=
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_111 : BitVec 32 := 1#32
  ⟨c0_i32_109, v372, c1_i32_111⟩
def k0_mult8 (i : grid0.Coords) (k0_t8 : Fin (k0_t8_loop i).trips) : BitVec 32 :=
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let c1_i32_1938 : BitVec 32 := 1#32
  let v5172 : BitVec 32 := Scalar.addi v5171 c1_i32_1938
  let c256_i32_1939 : BitVec 32 := 256#32
  let v5173 : BitVec 32 := Scalar.muli v5172 c256_i32_1939
  v5173
def k0_off7 (i : grid0.Coords) (k0_t8 : Fin (k0_t8_loop i).trips) (c1_i32_1938 : BitVec 32) : Fin 2 → Nat :=
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let v5172 : BitVec 32 := Scalar.addi v5171 c1_i32_1938
  let c256_i32_1939 : BitVec 32 := 256#32
  let v5173 : BitVec 32 := Scalar.muli v5172 c256_i32_1939
  let v5174 : BitVec 32 := v5173
  let v5175 : Index := Scalar.indexCast v5174
  let c0_1940 : Index := 0#32
  ![v5175.toNat, 0]
def k0_off8 (i : grid0.Coords) (k0_t8 : Fin (k0_t8_loop i).trips) (c1_i32_1938 : BitVec 32) : Fin 2 → Nat :=
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let v5172 : BitVec 32 := Scalar.addi v5171 c1_i32_1938
  let c256_i32_1939 : BitVec 32 := 256#32
  let v5173 : BitVec 32 := Scalar.muli v5172 c256_i32_1939
  let v5174 : BitVec 32 := v5173
  let v5182 : Index := Scalar.indexCast v5174
  let c128_1947 : Index := 128#32
  ![v5182.toNat, 128]
def k0_mult9 (i : grid0.Coords) (k0_t8 : Fin (k0_t8_loop i).trips) : BitVec 32 :=
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let c256_i32_1954 : BitVec 32 := 256#32
  let v5189 : BitVec 32 := Scalar.muli v5171 c256_i32_1954
  v5189
def k0_off9 (i : grid0.Coords) (k0_t8 : Fin (k0_t8_loop i).trips) : Fin 2 → Nat :=
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let c256_i32_1954 : BitVec 32 := 256#32
  let v5189 : BitVec 32 := Scalar.muli v5171 c256_i32_1954
  let v5190 : BitVec 32 := v5189
  let v5191 : Index := Scalar.indexCast v5190
  let c0_1955 : Index := 0#32
  ![v5191.toNat, 0]
def k0_off10 (i : grid0.Coords) (k0_t8 : Fin (k0_t8_loop i).trips) : Fin 4 → Nat :=
  let c0_1968 : Index := 0#32
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let v5222 : Index := Scalar.indexCast v5171
  let c0_1969 : Index := 0#32
  let c0_1970 : Index := 0#32
  ![0, v5222.toNat, 0, 0]
def k0_off11 (i : grid0.Coords) (k0_t8 : Fin (k0_t8_loop i).trips) : Fin 4 → Nat :=
  let c0_1994 : Index := 0#32
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let v5271 : Index := Scalar.indexCast v5171
  let c128_1995 : Index := 128#32
  let c0_1996 : Index := 0#32
  ![0, v5271.toNat, 128, 0]
def k0_mult10 (i : grid0.Coords) (k0_t8 : Fin (k0_t8_loop i).trips) : BitVec 32 :=
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let c2_i32_2008 : BitVec 32 := 2#32
  let v5293 : BitVec 32 := Scalar.addi v5171 c2_i32_2008
  let c256_i32_2009 : BitVec 32 := 256#32
  let v5294 : BitVec 32 := Scalar.muli v5293 c256_i32_2009
  v5294
def k0_mult11 (i : grid0.Coords) (k0_t8 : Fin (k0_t8_loop i).trips) : BitVec 32 :=
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let c1_i32_2024 : BitVec 32 := 1#32
  let v5310 : BitVec 32 := Scalar.addi v5171 c1_i32_2024
  let c256_i32_2025 : BitVec 32 := 256#32
  let v5311 : BitVec 32 := Scalar.muli v5310 c256_i32_2025
  v5311
def k0_off12 (i : grid0.Coords) (k0_t8 : Fin (k0_t8_loop i).trips) : Fin 2 → Nat :=
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let c1_i32_2024 : BitVec 32 := 1#32
  let v5310 : BitVec 32 := Scalar.addi v5171 c1_i32_2024
  let c256_i32_2025 : BitVec 32 := 256#32
  let v5311 : BitVec 32 := Scalar.muli v5310 c256_i32_2025
  let v5312 : BitVec 32 := v5311
  let v5313 : Index := Scalar.indexCast v5312
  let c0_2026 : Index := 0#32
  ![v5313.toNat, 0]
def k0_off13 (i : grid0.Coords) (k0_t8 : Fin (k0_t8_loop i).trips) : Fin 4 → Nat :=
  let c0_2039 : Index := 0#32
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let c1_i32_2024 : BitVec 32 := 1#32
  let v5310 : BitVec 32 := Scalar.addi v5171 c1_i32_2024
  let v5344 : Index := Scalar.indexCast v5310
  let c0_2040 : Index := 0#32
  let c0_2041 : Index := 0#32
  ![0, v5344.toNat, 0, 0]
def k0_off14 (i : grid0.Coords) (k0_t8 : Fin (k0_t8_loop i).trips) : Fin 4 → Nat :=
  let c0_2065 : Index := 0#32
  let c2_i32_1937 : BitVec 32 := 2#32
  let c0_i32_109 : BitVec 32 := 0#32
  let c1_i32_111 : BitVec 32 := 1#32
  let arg25 : BitVec 32 := Scf.iv c0_i32_109 c1_i32_111 k0_t8
  let v5171 : BitVec 32 := Scalar.muli c2_i32_1937 arg25
  let c1_i32_2024 : BitVec 32 := 1#32
  let v5310 : BitVec 32 := Scalar.addi v5171 c1_i32_2024
  let v5393 : Index := Scalar.indexCast v5310
  let c128_2066 : Index := 128#32
  let c0_2067 : Index := 0#32
  ![0, v5393.toNat, 128, 0]
def k0_mult12 (i : grid0.Coords) (k0_t8 : Fin (k0_t8_loop i).trips) : BitVec 32 :=
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let c256_i32_2080 : BitVec 32 := 256#32
  let v5416 : BitVec 32 := Scalar.muli v5415 c256_i32_2080
  v5416
def k0_off15 (i : grid0.Coords) (k0_t8 : Fin (k0_t8_loop i).trips) : Fin 4 → Nat :=
  let c0_2334 : Index := 0#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6230 : Index := Scalar.indexCast v5415
  let c0_2335 : Index := 0#32
  let c0_2336 : Index := 0#32
  ![0, v6230.toNat, 0, 0]
def k0_off16 (i : grid0.Coords) (k0_t8 : Fin (k0_t8_loop i).trips) : Fin 4 → Nat :=
  let c1_2337 : Index := 1#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6234 : Index := Scalar.indexCast v5415
  let c0_2338 : Index := 0#32
  let c0_2339 : Index := 0#32
  ![1, v6234.toNat, 0, 0]
def k0_off17 (i : grid0.Coords) (k0_t8 : Fin (k0_t8_loop i).trips) : Fin 4 → Nat :=
  let c2_2340 : Index := 2#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6238 : Index := Scalar.indexCast v5415
  let c0_2341 : Index := 0#32
  let c0_2342 : Index := 0#32
  ![2, v6238.toNat, 0, 0]
def k0_off18 (i : grid0.Coords) (k0_t8 : Fin (k0_t8_loop i).trips) : Fin 4 → Nat :=
  let c3_2343 : Index := 3#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6242 : Index := Scalar.indexCast v5415
  let c0_2344 : Index := 0#32
  let c0_2345 : Index := 0#32
  ![3, v6242.toNat, 0, 0]
def k0_off19 (i : grid0.Coords) (k0_t8 : Fin (k0_t8_loop i).trips) : Fin 4 → Nat :=
  let c4_2346 : Index := 4#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6246 : Index := Scalar.indexCast v5415
  let c0_2347 : Index := 0#32
  let c0_2348 : Index := 0#32
  ![4, v6246.toNat, 0, 0]
def k0_off20 (i : grid0.Coords) (k0_t8 : Fin (k0_t8_loop i).trips) : Fin 4 → Nat :=
  let c5_2349 : Index := 5#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6250 : Index := Scalar.indexCast v5415
  let c0_2350 : Index := 0#32
  let c0_2351 : Index := 0#32
  ![5, v6250.toNat, 0, 0]
def k0_off21 (i : grid0.Coords) (k0_t8 : Fin (k0_t8_loop i).trips) : Fin 4 → Nat :=
  let c6_2352 : Index := 6#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6254 : Index := Scalar.indexCast v5415
  let c0_2353 : Index := 0#32
  let c0_2354 : Index := 0#32
  ![6, v6254.toNat, 0, 0]
def k0_off22 (i : grid0.Coords) (k0_t8 : Fin (k0_t8_loop i).trips) : Fin 4 → Nat :=
  let c7_2355 : Index := 7#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6258 : Index := Scalar.indexCast v5415
  let c0_2356 : Index := 0#32
  let c0_2357 : Index := 0#32
  ![7, v6258.toNat, 0, 0]
def k0_off23 (i : grid0.Coords) (k0_t8 : Fin (k0_t8_loop i).trips) : Fin 4 → Nat :=
  let c8_2358 : Index := 8#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6262 : Index := Scalar.indexCast v5415
  let c0_2359 : Index := 0#32
  let c0_2360 : Index := 0#32
  ![8, v6262.toNat, 0, 0]
def k0_off24 (i : grid0.Coords) (k0_t8 : Fin (k0_t8_loop i).trips) : Fin 4 → Nat :=
  let c9_2361 : Index := 9#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6266 : Index := Scalar.indexCast v5415
  let c0_2362 : Index := 0#32
  let c0_2363 : Index := 0#32
  ![9, v6266.toNat, 0, 0]
def k0_off25 (i : grid0.Coords) (k0_t8 : Fin (k0_t8_loop i).trips) : Fin 4 → Nat :=
  let c10_2364 : Index := 10#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6270 : Index := Scalar.indexCast v5415
  let c0_2365 : Index := 0#32
  let c0_2366 : Index := 0#32
  ![10, v6270.toNat, 0, 0]
def k0_off26 (i : grid0.Coords) (k0_t8 : Fin (k0_t8_loop i).trips) : Fin 4 → Nat :=
  let c11_2367 : Index := 11#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6274 : Index := Scalar.indexCast v5415
  let c0_2368 : Index := 0#32
  let c0_2369 : Index := 0#32
  ![11, v6274.toNat, 0, 0]
def k0_off27 (i : grid0.Coords) (k0_t8 : Fin (k0_t8_loop i).trips) : Fin 4 → Nat :=
  let c12_2370 : Index := 12#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6278 : Index := Scalar.indexCast v5415
  let c0_2371 : Index := 0#32
  let c0_2372 : Index := 0#32
  ![12, v6278.toNat, 0, 0]
def k0_off28 (i : grid0.Coords) (k0_t8 : Fin (k0_t8_loop i).trips) : Fin 4 → Nat :=
  let c13_2373 : Index := 13#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6282 : Index := Scalar.indexCast v5415
  let c0_2374 : Index := 0#32
  let c0_2375 : Index := 0#32
  ![13, v6282.toNat, 0, 0]
def k0_off29 (i : grid0.Coords) (k0_t8 : Fin (k0_t8_loop i).trips) : Fin 4 → Nat :=
  let c14_2376 : Index := 14#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6286 : Index := Scalar.indexCast v5415
  let c0_2377 : Index := 0#32
  let c0_2378 : Index := 0#32
  ![14, v6286.toNat, 0, 0]
def k0_off30 (i : grid0.Coords) (k0_t8 : Fin (k0_t8_loop i).trips) : Fin 4 → Nat :=
  let c15_2379 : Index := 15#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6290 : Index := Scalar.indexCast v5415
  let c0_2380 : Index := 0#32
  let c0_2381 : Index := 0#32
  ![15, v6290.toNat, 0, 0]
def k0_off31 (i : grid0.Coords) (k0_t8 : Fin (k0_t8_loop i).trips) : Fin 4 → Nat :=
  let c16_2382 : Index := 16#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6294 : Index := Scalar.indexCast v5415
  let c0_2383 : Index := 0#32
  let c0_2384 : Index := 0#32
  ![16, v6294.toNat, 0, 0]
def k0_off32 (i : grid0.Coords) (k0_t8 : Fin (k0_t8_loop i).trips) : Fin 4 → Nat :=
  let c17_2385 : Index := 17#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6298 : Index := Scalar.indexCast v5415
  let c0_2386 : Index := 0#32
  let c0_2387 : Index := 0#32
  ![17, v6298.toNat, 0, 0]
def k0_off33 (i : grid0.Coords) (k0_t8 : Fin (k0_t8_loop i).trips) : Fin 4 → Nat :=
  let c18_2388 : Index := 18#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6302 : Index := Scalar.indexCast v5415
  let c0_2389 : Index := 0#32
  let c0_2390 : Index := 0#32
  ![18, v6302.toNat, 0, 0]
def k0_off34 (i : grid0.Coords) (k0_t8 : Fin (k0_t8_loop i).trips) : Fin 4 → Nat :=
  let c19_2391 : Index := 19#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6306 : Index := Scalar.indexCast v5415
  let c0_2392 : Index := 0#32
  let c0_2393 : Index := 0#32
  ![19, v6306.toNat, 0, 0]
def k0_off35 (i : grid0.Coords) (k0_t8 : Fin (k0_t8_loop i).trips) : Fin 4 → Nat :=
  let c20_2394 : Index := 20#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6310 : Index := Scalar.indexCast v5415
  let c0_2395 : Index := 0#32
  let c0_2396 : Index := 0#32
  ![20, v6310.toNat, 0, 0]
def k0_off36 (i : grid0.Coords) (k0_t8 : Fin (k0_t8_loop i).trips) : Fin 4 → Nat :=
  let c21_2397 : Index := 21#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6314 : Index := Scalar.indexCast v5415
  let c0_2398 : Index := 0#32
  let c0_2399 : Index := 0#32
  ![21, v6314.toNat, 0, 0]
def k0_off37 (i : grid0.Coords) (k0_t8 : Fin (k0_t8_loop i).trips) : Fin 4 → Nat :=
  let c22_2400 : Index := 22#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6318 : Index := Scalar.indexCast v5415
  let c0_2401 : Index := 0#32
  let c0_2402 : Index := 0#32
  ![22, v6318.toNat, 0, 0]
def k0_off38 (i : grid0.Coords) (k0_t8 : Fin (k0_t8_loop i).trips) : Fin 4 → Nat :=
  let c23_2403 : Index := 23#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6322 : Index := Scalar.indexCast v5415
  let c0_2404 : Index := 0#32
  let c0_2405 : Index := 0#32
  ![23, v6322.toNat, 0, 0]
def k0_off39 (i : grid0.Coords) (k0_t8 : Fin (k0_t8_loop i).trips) : Fin 4 → Nat :=
  let c24_2406 : Index := 24#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6326 : Index := Scalar.indexCast v5415
  let c0_2407 : Index := 0#32
  let c0_2408 : Index := 0#32
  ![24, v6326.toNat, 0, 0]
def k0_off40 (i : grid0.Coords) (k0_t8 : Fin (k0_t8_loop i).trips) : Fin 4 → Nat :=
  let c25_2409 : Index := 25#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6330 : Index := Scalar.indexCast v5415
  let c0_2410 : Index := 0#32
  let c0_2411 : Index := 0#32
  ![25, v6330.toNat, 0, 0]
def k0_off41 (i : grid0.Coords) (k0_t8 : Fin (k0_t8_loop i).trips) : Fin 4 → Nat :=
  let c26_2412 : Index := 26#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6334 : Index := Scalar.indexCast v5415
  let c0_2413 : Index := 0#32
  let c0_2414 : Index := 0#32
  ![26, v6334.toNat, 0, 0]
def k0_off42 (i : grid0.Coords) (k0_t8 : Fin (k0_t8_loop i).trips) : Fin 4 → Nat :=
  let c27_2415 : Index := 27#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6338 : Index := Scalar.indexCast v5415
  let c0_2416 : Index := 0#32
  let c0_2417 : Index := 0#32
  ![27, v6338.toNat, 0, 0]
def k0_off43 (i : grid0.Coords) (k0_t8 : Fin (k0_t8_loop i).trips) : Fin 4 → Nat :=
  let c28_2418 : Index := 28#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6342 : Index := Scalar.indexCast v5415
  let c0_2419 : Index := 0#32
  let c0_2420 : Index := 0#32
  ![28, v6342.toNat, 0, 0]
def k0_off44 (i : grid0.Coords) (k0_t8 : Fin (k0_t8_loop i).trips) : Fin 4 → Nat :=
  let c29_2421 : Index := 29#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6346 : Index := Scalar.indexCast v5415
  let c0_2422 : Index := 0#32
  let c0_2423 : Index := 0#32
  ![29, v6346.toNat, 0, 0]
def k0_off45 (i : grid0.Coords) (k0_t8 : Fin (k0_t8_loop i).trips) : Fin 4 → Nat :=
  let c30_2424 : Index := 30#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6350 : Index := Scalar.indexCast v5415
  let c0_2425 : Index := 0#32
  let c0_2426 : Index := 0#32
  ![30, v6350.toNat, 0, 0]
def k0_off46 (i : grid0.Coords) (k0_t8 : Fin (k0_t8_loop i).trips) : Fin 4 → Nat :=
  let c31_2427 : Index := 31#32
  let c2_i32_2079 : BitVec 32 := 2#32
  let c0_i32_109 : BitVec 32 := 0#32
  let c1_i32_111 : BitVec 32 := 1#32
  let arg25 : BitVec 32 := Scf.iv c0_i32_109 c1_i32_111 k0_t8
  let v5415 : BitVec 32 := Scalar.muli c2_i32_2079 arg25
  let v6354 : Index := Scalar.indexCast v5415
  let c0_2428 : Index := 0#32
  let c0_2429 : Index := 0#32
  ![31, v6354.toNat, 0, 0]
def k0_mult13 (i : grid0.Coords) (k0_t8 : Fin (k0_t8_loop i).trips) : BitVec 32 :=
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let c256_i32_2432 : BitVec 32 := 256#32
  let v6360 : BitVec 32 := Scalar.muli v6359 c256_i32_2432
  v6360
def k0_off47 (i : grid0.Coords) (k0_t8 : Fin (k0_t8_loop i).trips) : Fin 4 → Nat :=
  let c0_2686 : Index := 0#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7174 : Index := Scalar.indexCast v6359
  let c0_2687 : Index := 0#32
  let c0_2688 : Index := 0#32
  ![0, v7174.toNat, 0, 0]
def k0_off48 (i : grid0.Coords) (k0_t8 : Fin (k0_t8_loop i).trips) : Fin 4 → Nat :=
  let c1_2689 : Index := 1#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7178 : Index := Scalar.indexCast v6359
  let c0_2690 : Index := 0#32
  let c0_2691 : Index := 0#32
  ![1, v7178.toNat, 0, 0]
def k0_off49 (i : grid0.Coords) (k0_t8 : Fin (k0_t8_loop i).trips) : Fin 4 → Nat :=
  let c2_2692 : Index := 2#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7182 : Index := Scalar.indexCast v6359
  let c0_2693 : Index := 0#32
  let c0_2694 : Index := 0#32
  ![2, v7182.toNat, 0, 0]
def k0_off50 (i : grid0.Coords) (k0_t8 : Fin (k0_t8_loop i).trips) : Fin 4 → Nat :=
  let c3_2695 : Index := 3#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7186 : Index := Scalar.indexCast v6359
  let c0_2696 : Index := 0#32
  let c0_2697 : Index := 0#32
  ![3, v7186.toNat, 0, 0]
def k0_off51 (i : grid0.Coords) (k0_t8 : Fin (k0_t8_loop i).trips) : Fin 4 → Nat :=
  let c4_2698 : Index := 4#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7190 : Index := Scalar.indexCast v6359
  let c0_2699 : Index := 0#32
  let c0_2700 : Index := 0#32
  ![4, v7190.toNat, 0, 0]
def k0_off52 (i : grid0.Coords) (k0_t8 : Fin (k0_t8_loop i).trips) : Fin 4 → Nat :=
  let c5_2701 : Index := 5#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7194 : Index := Scalar.indexCast v6359
  let c0_2702 : Index := 0#32
  let c0_2703 : Index := 0#32
  ![5, v7194.toNat, 0, 0]
def k0_off53 (i : grid0.Coords) (k0_t8 : Fin (k0_t8_loop i).trips) : Fin 4 → Nat :=
  let c6_2704 : Index := 6#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7198 : Index := Scalar.indexCast v6359
  let c0_2705 : Index := 0#32
  let c0_2706 : Index := 0#32
  ![6, v7198.toNat, 0, 0]
def k0_off54 (i : grid0.Coords) (k0_t8 : Fin (k0_t8_loop i).trips) : Fin 4 → Nat :=
  let c7_2707 : Index := 7#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7202 : Index := Scalar.indexCast v6359
  let c0_2708 : Index := 0#32
  let c0_2709 : Index := 0#32
  ![7, v7202.toNat, 0, 0]
def k0_off55 (i : grid0.Coords) (k0_t8 : Fin (k0_t8_loop i).trips) : Fin 4 → Nat :=
  let c8_2710 : Index := 8#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7206 : Index := Scalar.indexCast v6359
  let c0_2711 : Index := 0#32
  let c0_2712 : Index := 0#32
  ![8, v7206.toNat, 0, 0]
def k0_off56 (i : grid0.Coords) (k0_t8 : Fin (k0_t8_loop i).trips) : Fin 4 → Nat :=
  let c9_2713 : Index := 9#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7210 : Index := Scalar.indexCast v6359
  let c0_2714 : Index := 0#32
  let c0_2715 : Index := 0#32
  ![9, v7210.toNat, 0, 0]
def k0_off57 (i : grid0.Coords) (k0_t8 : Fin (k0_t8_loop i).trips) : Fin 4 → Nat :=
  let c10_2716 : Index := 10#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7214 : Index := Scalar.indexCast v6359
  let c0_2717 : Index := 0#32
  let c0_2718 : Index := 0#32
  ![10, v7214.toNat, 0, 0]
def k0_off58 (i : grid0.Coords) (k0_t8 : Fin (k0_t8_loop i).trips) : Fin 4 → Nat :=
  let c11_2719 : Index := 11#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7218 : Index := Scalar.indexCast v6359
  let c0_2720 : Index := 0#32
  let c0_2721 : Index := 0#32
  ![11, v7218.toNat, 0, 0]
def k0_off59 (i : grid0.Coords) (k0_t8 : Fin (k0_t8_loop i).trips) : Fin 4 → Nat :=
  let c12_2722 : Index := 12#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7222 : Index := Scalar.indexCast v6359
  let c0_2723 : Index := 0#32
  let c0_2724 : Index := 0#32
  ![12, v7222.toNat, 0, 0]
def k0_off60 (i : grid0.Coords) (k0_t8 : Fin (k0_t8_loop i).trips) : Fin 4 → Nat :=
  let c13_2725 : Index := 13#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7226 : Index := Scalar.indexCast v6359
  let c0_2726 : Index := 0#32
  let c0_2727 : Index := 0#32
  ![13, v7226.toNat, 0, 0]
def k0_off61 (i : grid0.Coords) (k0_t8 : Fin (k0_t8_loop i).trips) : Fin 4 → Nat :=
  let c14_2728 : Index := 14#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7230 : Index := Scalar.indexCast v6359
  let c0_2729 : Index := 0#32
  let c0_2730 : Index := 0#32
  ![14, v7230.toNat, 0, 0]
def k0_off62 (i : grid0.Coords) (k0_t8 : Fin (k0_t8_loop i).trips) : Fin 4 → Nat :=
  let c15_2731 : Index := 15#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7234 : Index := Scalar.indexCast v6359
  let c0_2732 : Index := 0#32
  let c0_2733 : Index := 0#32
  ![15, v7234.toNat, 0, 0]
def k0_off63 (i : grid0.Coords) (k0_t8 : Fin (k0_t8_loop i).trips) : Fin 4 → Nat :=
  let c16_2734 : Index := 16#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7238 : Index := Scalar.indexCast v6359
  let c0_2735 : Index := 0#32
  let c0_2736 : Index := 0#32
  ![16, v7238.toNat, 0, 0]
def k0_off64 (i : grid0.Coords) (k0_t8 : Fin (k0_t8_loop i).trips) : Fin 4 → Nat :=
  let c17_2737 : Index := 17#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7242 : Index := Scalar.indexCast v6359
  let c0_2738 : Index := 0#32
  let c0_2739 : Index := 0#32
  ![17, v7242.toNat, 0, 0]
def k0_off65 (i : grid0.Coords) (k0_t8 : Fin (k0_t8_loop i).trips) : Fin 4 → Nat :=
  let c18_2740 : Index := 18#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7246 : Index := Scalar.indexCast v6359
  let c0_2741 : Index := 0#32
  let c0_2742 : Index := 0#32
  ![18, v7246.toNat, 0, 0]
def k0_off66 (i : grid0.Coords) (k0_t8 : Fin (k0_t8_loop i).trips) : Fin 4 → Nat :=
  let c19_2743 : Index := 19#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7250 : Index := Scalar.indexCast v6359
  let c0_2744 : Index := 0#32
  let c0_2745 : Index := 0#32
  ![19, v7250.toNat, 0, 0]
def k0_off67 (i : grid0.Coords) (k0_t8 : Fin (k0_t8_loop i).trips) : Fin 4 → Nat :=
  let c20_2746 : Index := 20#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7254 : Index := Scalar.indexCast v6359
  let c0_2747 : Index := 0#32
  let c0_2748 : Index := 0#32
  ![20, v7254.toNat, 0, 0]
def k0_off68 (i : grid0.Coords) (k0_t8 : Fin (k0_t8_loop i).trips) : Fin 4 → Nat :=
  let c21_2749 : Index := 21#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7258 : Index := Scalar.indexCast v6359
  let c0_2750 : Index := 0#32
  let c0_2751 : Index := 0#32
  ![21, v7258.toNat, 0, 0]
def k0_off69 (i : grid0.Coords) (k0_t8 : Fin (k0_t8_loop i).trips) : Fin 4 → Nat :=
  let c22_2752 : Index := 22#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7262 : Index := Scalar.indexCast v6359
  let c0_2753 : Index := 0#32
  let c0_2754 : Index := 0#32
  ![22, v7262.toNat, 0, 0]
def k0_off70 (i : grid0.Coords) (k0_t8 : Fin (k0_t8_loop i).trips) : Fin 4 → Nat :=
  let c23_2755 : Index := 23#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7266 : Index := Scalar.indexCast v6359
  let c0_2756 : Index := 0#32
  let c0_2757 : Index := 0#32
  ![23, v7266.toNat, 0, 0]
def k0_off71 (i : grid0.Coords) (k0_t8 : Fin (k0_t8_loop i).trips) : Fin 4 → Nat :=
  let c24_2758 : Index := 24#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7270 : Index := Scalar.indexCast v6359
  let c0_2759 : Index := 0#32
  let c0_2760 : Index := 0#32
  ![24, v7270.toNat, 0, 0]
def k0_off72 (i : grid0.Coords) (k0_t8 : Fin (k0_t8_loop i).trips) : Fin 4 → Nat :=
  let c25_2761 : Index := 25#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7274 : Index := Scalar.indexCast v6359
  let c0_2762 : Index := 0#32
  let c0_2763 : Index := 0#32
  ![25, v7274.toNat, 0, 0]
def k0_off73 (i : grid0.Coords) (k0_t8 : Fin (k0_t8_loop i).trips) : Fin 4 → Nat :=
  let c26_2764 : Index := 26#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7278 : Index := Scalar.indexCast v6359
  let c0_2765 : Index := 0#32
  let c0_2766 : Index := 0#32
  ![26, v7278.toNat, 0, 0]
def k0_off74 (i : grid0.Coords) (k0_t8 : Fin (k0_t8_loop i).trips) : Fin 4 → Nat :=
  let c27_2767 : Index := 27#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7282 : Index := Scalar.indexCast v6359
  let c0_2768 : Index := 0#32
  let c0_2769 : Index := 0#32
  ![27, v7282.toNat, 0, 0]
def k0_off75 (i : grid0.Coords) (k0_t8 : Fin (k0_t8_loop i).trips) : Fin 4 → Nat :=
  let c28_2770 : Index := 28#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7286 : Index := Scalar.indexCast v6359
  let c0_2771 : Index := 0#32
  let c0_2772 : Index := 0#32
  ![28, v7286.toNat, 0, 0]
def k0_off76 (i : grid0.Coords) (k0_t8 : Fin (k0_t8_loop i).trips) : Fin 4 → Nat :=
  let c29_2773 : Index := 29#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7290 : Index := Scalar.indexCast v6359
  let c0_2774 : Index := 0#32
  let c0_2775 : Index := 0#32
  ![29, v7290.toNat, 0, 0]
def k0_off77 (i : grid0.Coords) (k0_t8 : Fin (k0_t8_loop i).trips) : Fin 4 → Nat :=
  let c30_2776 : Index := 30#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7294 : Index := Scalar.indexCast v6359
  let c0_2777 : Index := 0#32
  let c0_2778 : Index := 0#32
  ![30, v7294.toNat, 0, 0]
def k0_off78 (i : grid0.Coords) (k0_t8 : Fin (k0_t8_loop i).trips) : Fin 4 → Nat :=
  let c31_2779 : Index := 31#32
  let c2_i32_2430 : BitVec 32 := 2#32
  let c0_i32_109 : BitVec 32 := 0#32
  let c1_i32_111 : BitVec 32 := 1#32
  let arg25 : BitVec 32 := Scf.iv c0_i32_109 c1_i32_111 k0_t8
  let v6358 : BitVec 32 := Scalar.muli c2_i32_2430 arg25
  let c1_i32_2431 : BitVec 32 := 1#32
  let v6359 : BitVec 32 := Scalar.addi v6358 c1_i32_2431
  let v7298 : Index := Scalar.indexCast v6359
  let c0_2780 : Index := 0#32
  let c0_2781 : Index := 0#32
  ![31, v7298.toNat, 0, 0]
@[reducible] def k0_t9_loop (i : grid0.Coords) : Scf.Loop 32 :=
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let v369 : BitVec 32 := Scalar.addi c0_i32_109 v368
  let c1_i32_112 : BitVec 32 := 1#32
  ⟨v372, v369, c1_i32_112⟩
def k0_mult14 (i : grid0.Coords) (k0_t9 : Fin (k0_t9_loop i).trips) : BitVec 32 :=
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let c1_i32_1938 : BitVec 32 := 1#32
  let v5172 : BitVec 32 := Scalar.addi v5171 c1_i32_1938
  let c256_i32_1939 : BitVec 32 := 256#32
  let v5173 : BitVec 32 := Scalar.muli v5172 c256_i32_1939
  v5173
def k0_off79 (i : grid0.Coords) (k0_t9 : Fin (k0_t9_loop i).trips) (c1_i32_1938 : BitVec 32) : Fin 2 → Nat :=
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let v5172 : BitVec 32 := Scalar.addi v5171 c1_i32_1938
  let c256_i32_1939 : BitVec 32 := 256#32
  let v5173 : BitVec 32 := Scalar.muli v5172 c256_i32_1939
  let v5174 : BitVec 32 := v5173
  let v5175 : Index := Scalar.indexCast v5174
  let c0_1940 : Index := 0#32
  ![v5175.toNat, 0]
def k0_off80 (i : grid0.Coords) (k0_t9 : Fin (k0_t9_loop i).trips) (c1_i32_1938 : BitVec 32) : Fin 2 → Nat :=
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let v5172 : BitVec 32 := Scalar.addi v5171 c1_i32_1938
  let c256_i32_1939 : BitVec 32 := 256#32
  let v5173 : BitVec 32 := Scalar.muli v5172 c256_i32_1939
  let v5174 : BitVec 32 := v5173
  let v5182 : Index := Scalar.indexCast v5174
  let c128_1947 : Index := 128#32
  ![v5182.toNat, 128]
def k0_mult15 (i : grid0.Coords) (k0_t9 : Fin (k0_t9_loop i).trips) : BitVec 32 :=
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let c256_i32_1954 : BitVec 32 := 256#32
  let v5189 : BitVec 32 := Scalar.muli v5171 c256_i32_1954
  v5189
def k0_off81 (i : grid0.Coords) (k0_t9 : Fin (k0_t9_loop i).trips) : Fin 2 → Nat :=
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let c256_i32_1954 : BitVec 32 := 256#32
  let v5189 : BitVec 32 := Scalar.muli v5171 c256_i32_1954
  let v5190 : BitVec 32 := v5189
  let v5191 : Index := Scalar.indexCast v5190
  let c0_1955 : Index := 0#32
  ![v5191.toNat, 0]
def k0_off82 (i : grid0.Coords) (k0_t9 : Fin (k0_t9_loop i).trips) : Fin 4 → Nat :=
  let c0_1968 : Index := 0#32
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let v5222 : Index := Scalar.indexCast v5171
  let c0_1969 : Index := 0#32
  let c0_1970 : Index := 0#32
  ![0, v5222.toNat, 0, 0]
def k0_off83 (i : grid0.Coords) (k0_t9 : Fin (k0_t9_loop i).trips) : Fin 4 → Nat :=
  let c0_1994 : Index := 0#32
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let v5271 : Index := Scalar.indexCast v5171
  let c128_1995 : Index := 128#32
  let c0_1996 : Index := 0#32
  ![0, v5271.toNat, 128, 0]
def k0_mult16 (i : grid0.Coords) (k0_t9 : Fin (k0_t9_loop i).trips) : BitVec 32 :=
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let c2_i32_2008 : BitVec 32 := 2#32
  let v5293 : BitVec 32 := Scalar.addi v5171 c2_i32_2008
  let c256_i32_2009 : BitVec 32 := 256#32
  let v5294 : BitVec 32 := Scalar.muli v5293 c256_i32_2009
  v5294
def k0_mult17 (i : grid0.Coords) (k0_t9 : Fin (k0_t9_loop i).trips) : BitVec 32 :=
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let c1_i32_2024 : BitVec 32 := 1#32
  let v5310 : BitVec 32 := Scalar.addi v5171 c1_i32_2024
  let c256_i32_2025 : BitVec 32 := 256#32
  let v5311 : BitVec 32 := Scalar.muli v5310 c256_i32_2025
  v5311
def k0_off84 (i : grid0.Coords) (k0_t9 : Fin (k0_t9_loop i).trips) : Fin 2 → Nat :=
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let c1_i32_2024 : BitVec 32 := 1#32
  let v5310 : BitVec 32 := Scalar.addi v5171 c1_i32_2024
  let c256_i32_2025 : BitVec 32 := 256#32
  let v5311 : BitVec 32 := Scalar.muli v5310 c256_i32_2025
  let v5312 : BitVec 32 := v5311
  let v5313 : Index := Scalar.indexCast v5312
  let c0_2026 : Index := 0#32
  ![v5313.toNat, 0]
def k0_off85 (i : grid0.Coords) (k0_t9 : Fin (k0_t9_loop i).trips) : Fin 4 → Nat :=
  let c0_2039 : Index := 0#32
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let c1_i32_2024 : BitVec 32 := 1#32
  let v5310 : BitVec 32 := Scalar.addi v5171 c1_i32_2024
  let v5344 : Index := Scalar.indexCast v5310
  let c0_2040 : Index := 0#32
  let c0_2041 : Index := 0#32
  ![0, v5344.toNat, 0, 0]
def k0_off86 (i : grid0.Coords) (k0_t9 : Fin (k0_t9_loop i).trips) : Fin 4 → Nat :=
  let c0_2065 : Index := 0#32
  let c2_i32_1937 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5171 : BitVec 32 := Scalar.muli c2_i32_1937 arg25
  let c1_i32_2024 : BitVec 32 := 1#32
  let v5310 : BitVec 32 := Scalar.addi v5171 c1_i32_2024
  let v5393 : Index := Scalar.indexCast v5310
  let c128_2066 : Index := 128#32
  let c0_2067 : Index := 0#32
  ![0, v5393.toNat, 128, 0]
def k0_mult18 (i : grid0.Coords) (k0_t9 : Fin (k0_t9_loop i).trips) : BitVec 32 :=
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let c256_i32_2080 : BitVec 32 := 256#32
  let v5416 : BitVec 32 := Scalar.muli v5415 c256_i32_2080
  v5416
def k0_off87 (i : grid0.Coords) (k0_t9 : Fin (k0_t9_loop i).trips) : Fin 4 → Nat :=
  let c0_2334 : Index := 0#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6230 : Index := Scalar.indexCast v5415
  let c0_2335 : Index := 0#32
  let c0_2336 : Index := 0#32
  ![0, v6230.toNat, 0, 0]
def k0_off88 (i : grid0.Coords) (k0_t9 : Fin (k0_t9_loop i).trips) : Fin 4 → Nat :=
  let c1_2337 : Index := 1#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6234 : Index := Scalar.indexCast v5415
  let c0_2338 : Index := 0#32
  let c0_2339 : Index := 0#32
  ![1, v6234.toNat, 0, 0]
def k0_off89 (i : grid0.Coords) (k0_t9 : Fin (k0_t9_loop i).trips) : Fin 4 → Nat :=
  let c2_2340 : Index := 2#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6238 : Index := Scalar.indexCast v5415
  let c0_2341 : Index := 0#32
  let c0_2342 : Index := 0#32
  ![2, v6238.toNat, 0, 0]
def k0_off90 (i : grid0.Coords) (k0_t9 : Fin (k0_t9_loop i).trips) : Fin 4 → Nat :=
  let c3_2343 : Index := 3#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6242 : Index := Scalar.indexCast v5415
  let c0_2344 : Index := 0#32
  let c0_2345 : Index := 0#32
  ![3, v6242.toNat, 0, 0]
def k0_off91 (i : grid0.Coords) (k0_t9 : Fin (k0_t9_loop i).trips) : Fin 4 → Nat :=
  let c4_2346 : Index := 4#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6246 : Index := Scalar.indexCast v5415
  let c0_2347 : Index := 0#32
  let c0_2348 : Index := 0#32
  ![4, v6246.toNat, 0, 0]
def k0_off92 (i : grid0.Coords) (k0_t9 : Fin (k0_t9_loop i).trips) : Fin 4 → Nat :=
  let c5_2349 : Index := 5#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6250 : Index := Scalar.indexCast v5415
  let c0_2350 : Index := 0#32
  let c0_2351 : Index := 0#32
  ![5, v6250.toNat, 0, 0]
def k0_off93 (i : grid0.Coords) (k0_t9 : Fin (k0_t9_loop i).trips) : Fin 4 → Nat :=
  let c6_2352 : Index := 6#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6254 : Index := Scalar.indexCast v5415
  let c0_2353 : Index := 0#32
  let c0_2354 : Index := 0#32
  ![6, v6254.toNat, 0, 0]
def k0_off94 (i : grid0.Coords) (k0_t9 : Fin (k0_t9_loop i).trips) : Fin 4 → Nat :=
  let c7_2355 : Index := 7#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6258 : Index := Scalar.indexCast v5415
  let c0_2356 : Index := 0#32
  let c0_2357 : Index := 0#32
  ![7, v6258.toNat, 0, 0]
def k0_off95 (i : grid0.Coords) (k0_t9 : Fin (k0_t9_loop i).trips) : Fin 4 → Nat :=
  let c8_2358 : Index := 8#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6262 : Index := Scalar.indexCast v5415
  let c0_2359 : Index := 0#32
  let c0_2360 : Index := 0#32
  ![8, v6262.toNat, 0, 0]
def k0_off96 (i : grid0.Coords) (k0_t9 : Fin (k0_t9_loop i).trips) : Fin 4 → Nat :=
  let c9_2361 : Index := 9#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6266 : Index := Scalar.indexCast v5415
  let c0_2362 : Index := 0#32
  let c0_2363 : Index := 0#32
  ![9, v6266.toNat, 0, 0]
def k0_off97 (i : grid0.Coords) (k0_t9 : Fin (k0_t9_loop i).trips) : Fin 4 → Nat :=
  let c10_2364 : Index := 10#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6270 : Index := Scalar.indexCast v5415
  let c0_2365 : Index := 0#32
  let c0_2366 : Index := 0#32
  ![10, v6270.toNat, 0, 0]
def k0_off98 (i : grid0.Coords) (k0_t9 : Fin (k0_t9_loop i).trips) : Fin 4 → Nat :=
  let c11_2367 : Index := 11#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6274 : Index := Scalar.indexCast v5415
  let c0_2368 : Index := 0#32
  let c0_2369 : Index := 0#32
  ![11, v6274.toNat, 0, 0]
def k0_off99 (i : grid0.Coords) (k0_t9 : Fin (k0_t9_loop i).trips) : Fin 4 → Nat :=
  let c12_2370 : Index := 12#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6278 : Index := Scalar.indexCast v5415
  let c0_2371 : Index := 0#32
  let c0_2372 : Index := 0#32
  ![12, v6278.toNat, 0, 0]
def k0_off100 (i : grid0.Coords) (k0_t9 : Fin (k0_t9_loop i).trips) : Fin 4 → Nat :=
  let c13_2373 : Index := 13#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6282 : Index := Scalar.indexCast v5415
  let c0_2374 : Index := 0#32
  let c0_2375 : Index := 0#32
  ![13, v6282.toNat, 0, 0]
def k0_off101 (i : grid0.Coords) (k0_t9 : Fin (k0_t9_loop i).trips) : Fin 4 → Nat :=
  let c14_2376 : Index := 14#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6286 : Index := Scalar.indexCast v5415
  let c0_2377 : Index := 0#32
  let c0_2378 : Index := 0#32
  ![14, v6286.toNat, 0, 0]
def k0_off102 (i : grid0.Coords) (k0_t9 : Fin (k0_t9_loop i).trips) : Fin 4 → Nat :=
  let c15_2379 : Index := 15#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6290 : Index := Scalar.indexCast v5415
  let c0_2380 : Index := 0#32
  let c0_2381 : Index := 0#32
  ![15, v6290.toNat, 0, 0]
def k0_off103 (i : grid0.Coords) (k0_t9 : Fin (k0_t9_loop i).trips) : Fin 4 → Nat :=
  let c16_2382 : Index := 16#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6294 : Index := Scalar.indexCast v5415
  let c0_2383 : Index := 0#32
  let c0_2384 : Index := 0#32
  ![16, v6294.toNat, 0, 0]
def k0_off104 (i : grid0.Coords) (k0_t9 : Fin (k0_t9_loop i).trips) : Fin 4 → Nat :=
  let c17_2385 : Index := 17#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6298 : Index := Scalar.indexCast v5415
  let c0_2386 : Index := 0#32
  let c0_2387 : Index := 0#32
  ![17, v6298.toNat, 0, 0]
def k0_off105 (i : grid0.Coords) (k0_t9 : Fin (k0_t9_loop i).trips) : Fin 4 → Nat :=
  let c18_2388 : Index := 18#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6302 : Index := Scalar.indexCast v5415
  let c0_2389 : Index := 0#32
  let c0_2390 : Index := 0#32
  ![18, v6302.toNat, 0, 0]
def k0_off106 (i : grid0.Coords) (k0_t9 : Fin (k0_t9_loop i).trips) : Fin 4 → Nat :=
  let c19_2391 : Index := 19#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6306 : Index := Scalar.indexCast v5415
  let c0_2392 : Index := 0#32
  let c0_2393 : Index := 0#32
  ![19, v6306.toNat, 0, 0]
def k0_off107 (i : grid0.Coords) (k0_t9 : Fin (k0_t9_loop i).trips) : Fin 4 → Nat :=
  let c20_2394 : Index := 20#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6310 : Index := Scalar.indexCast v5415
  let c0_2395 : Index := 0#32
  let c0_2396 : Index := 0#32
  ![20, v6310.toNat, 0, 0]
def k0_off108 (i : grid0.Coords) (k0_t9 : Fin (k0_t9_loop i).trips) : Fin 4 → Nat :=
  let c21_2397 : Index := 21#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6314 : Index := Scalar.indexCast v5415
  let c0_2398 : Index := 0#32
  let c0_2399 : Index := 0#32
  ![21, v6314.toNat, 0, 0]
def k0_off109 (i : grid0.Coords) (k0_t9 : Fin (k0_t9_loop i).trips) : Fin 4 → Nat :=
  let c22_2400 : Index := 22#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6318 : Index := Scalar.indexCast v5415
  let c0_2401 : Index := 0#32
  let c0_2402 : Index := 0#32
  ![22, v6318.toNat, 0, 0]
def k0_off110 (i : grid0.Coords) (k0_t9 : Fin (k0_t9_loop i).trips) : Fin 4 → Nat :=
  let c23_2403 : Index := 23#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6322 : Index := Scalar.indexCast v5415
  let c0_2404 : Index := 0#32
  let c0_2405 : Index := 0#32
  ![23, v6322.toNat, 0, 0]
def k0_off111 (i : grid0.Coords) (k0_t9 : Fin (k0_t9_loop i).trips) : Fin 4 → Nat :=
  let c24_2406 : Index := 24#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6326 : Index := Scalar.indexCast v5415
  let c0_2407 : Index := 0#32
  let c0_2408 : Index := 0#32
  ![24, v6326.toNat, 0, 0]
def k0_off112 (i : grid0.Coords) (k0_t9 : Fin (k0_t9_loop i).trips) : Fin 4 → Nat :=
  let c25_2409 : Index := 25#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6330 : Index := Scalar.indexCast v5415
  let c0_2410 : Index := 0#32
  let c0_2411 : Index := 0#32
  ![25, v6330.toNat, 0, 0]
def k0_off113 (i : grid0.Coords) (k0_t9 : Fin (k0_t9_loop i).trips) : Fin 4 → Nat :=
  let c26_2412 : Index := 26#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6334 : Index := Scalar.indexCast v5415
  let c0_2413 : Index := 0#32
  let c0_2414 : Index := 0#32
  ![26, v6334.toNat, 0, 0]
def k0_off114 (i : grid0.Coords) (k0_t9 : Fin (k0_t9_loop i).trips) : Fin 4 → Nat :=
  let c27_2415 : Index := 27#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6338 : Index := Scalar.indexCast v5415
  let c0_2416 : Index := 0#32
  let c0_2417 : Index := 0#32
  ![27, v6338.toNat, 0, 0]
def k0_off115 (i : grid0.Coords) (k0_t9 : Fin (k0_t9_loop i).trips) : Fin 4 → Nat :=
  let c28_2418 : Index := 28#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6342 : Index := Scalar.indexCast v5415
  let c0_2419 : Index := 0#32
  let c0_2420 : Index := 0#32
  ![28, v6342.toNat, 0, 0]
def k0_off116 (i : grid0.Coords) (k0_t9 : Fin (k0_t9_loop i).trips) : Fin 4 → Nat :=
  let c29_2421 : Index := 29#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6346 : Index := Scalar.indexCast v5415
  let c0_2422 : Index := 0#32
  let c0_2423 : Index := 0#32
  ![29, v6346.toNat, 0, 0]
def k0_off117 (i : grid0.Coords) (k0_t9 : Fin (k0_t9_loop i).trips) : Fin 4 → Nat :=
  let c30_2424 : Index := 30#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6350 : Index := Scalar.indexCast v5415
  let c0_2425 : Index := 0#32
  let c0_2426 : Index := 0#32
  ![30, v6350.toNat, 0, 0]
def k0_off118 (i : grid0.Coords) (k0_t9 : Fin (k0_t9_loop i).trips) : Fin 4 → Nat :=
  let c31_2427 : Index := 31#32
  let c2_i32_2079 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v5415 : BitVec 32 := Scalar.muli c2_i32_2079 arg25
  let v6354 : Index := Scalar.indexCast v5415
  let c0_2428 : Index := 0#32
  let c0_2429 : Index := 0#32
  ![31, v6354.toNat, 0, 0]
def k0_mult19 (i : grid0.Coords) (k0_t9 : Fin (k0_t9_loop i).trips) : BitVec 32 :=
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let c256_i32_2432 : BitVec 32 := 256#32
  let v6360 : BitVec 32 := Scalar.muli v6359 c256_i32_2432
  v6360
def k0_off119 (i : grid0.Coords) (k0_t9 : Fin (k0_t9_loop i).trips) : Fin 4 → Nat :=
  let c0_2686 : Index := 0#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7174 : Index := Scalar.indexCast v6359
  let c0_2687 : Index := 0#32
  let c0_2688 : Index := 0#32
  ![0, v7174.toNat, 0, 0]
def k0_off120 (i : grid0.Coords) (k0_t9 : Fin (k0_t9_loop i).trips) : Fin 4 → Nat :=
  let c1_2689 : Index := 1#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7178 : Index := Scalar.indexCast v6359
  let c0_2690 : Index := 0#32
  let c0_2691 : Index := 0#32
  ![1, v7178.toNat, 0, 0]
def k0_off121 (i : grid0.Coords) (k0_t9 : Fin (k0_t9_loop i).trips) : Fin 4 → Nat :=
  let c2_2692 : Index := 2#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7182 : Index := Scalar.indexCast v6359
  let c0_2693 : Index := 0#32
  let c0_2694 : Index := 0#32
  ![2, v7182.toNat, 0, 0]
def k0_off122 (i : grid0.Coords) (k0_t9 : Fin (k0_t9_loop i).trips) : Fin 4 → Nat :=
  let c3_2695 : Index := 3#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7186 : Index := Scalar.indexCast v6359
  let c0_2696 : Index := 0#32
  let c0_2697 : Index := 0#32
  ![3, v7186.toNat, 0, 0]
def k0_off123 (i : grid0.Coords) (k0_t9 : Fin (k0_t9_loop i).trips) : Fin 4 → Nat :=
  let c4_2698 : Index := 4#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7190 : Index := Scalar.indexCast v6359
  let c0_2699 : Index := 0#32
  let c0_2700 : Index := 0#32
  ![4, v7190.toNat, 0, 0]
def k0_off124 (i : grid0.Coords) (k0_t9 : Fin (k0_t9_loop i).trips) : Fin 4 → Nat :=
  let c5_2701 : Index := 5#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7194 : Index := Scalar.indexCast v6359
  let c0_2702 : Index := 0#32
  let c0_2703 : Index := 0#32
  ![5, v7194.toNat, 0, 0]
def k0_off125 (i : grid0.Coords) (k0_t9 : Fin (k0_t9_loop i).trips) : Fin 4 → Nat :=
  let c6_2704 : Index := 6#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7198 : Index := Scalar.indexCast v6359
  let c0_2705 : Index := 0#32
  let c0_2706 : Index := 0#32
  ![6, v7198.toNat, 0, 0]
def k0_off126 (i : grid0.Coords) (k0_t9 : Fin (k0_t9_loop i).trips) : Fin 4 → Nat :=
  let c7_2707 : Index := 7#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7202 : Index := Scalar.indexCast v6359
  let c0_2708 : Index := 0#32
  let c0_2709 : Index := 0#32
  ![7, v7202.toNat, 0, 0]
def k0_off127 (i : grid0.Coords) (k0_t9 : Fin (k0_t9_loop i).trips) : Fin 4 → Nat :=
  let c8_2710 : Index := 8#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7206 : Index := Scalar.indexCast v6359
  let c0_2711 : Index := 0#32
  let c0_2712 : Index := 0#32
  ![8, v7206.toNat, 0, 0]
def k0_off128 (i : grid0.Coords) (k0_t9 : Fin (k0_t9_loop i).trips) : Fin 4 → Nat :=
  let c9_2713 : Index := 9#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7210 : Index := Scalar.indexCast v6359
  let c0_2714 : Index := 0#32
  let c0_2715 : Index := 0#32
  ![9, v7210.toNat, 0, 0]
def k0_off129 (i : grid0.Coords) (k0_t9 : Fin (k0_t9_loop i).trips) : Fin 4 → Nat :=
  let c10_2716 : Index := 10#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7214 : Index := Scalar.indexCast v6359
  let c0_2717 : Index := 0#32
  let c0_2718 : Index := 0#32
  ![10, v7214.toNat, 0, 0]
def k0_off130 (i : grid0.Coords) (k0_t9 : Fin (k0_t9_loop i).trips) : Fin 4 → Nat :=
  let c11_2719 : Index := 11#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7218 : Index := Scalar.indexCast v6359
  let c0_2720 : Index := 0#32
  let c0_2721 : Index := 0#32
  ![11, v7218.toNat, 0, 0]
def k0_off131 (i : grid0.Coords) (k0_t9 : Fin (k0_t9_loop i).trips) : Fin 4 → Nat :=
  let c12_2722 : Index := 12#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7222 : Index := Scalar.indexCast v6359
  let c0_2723 : Index := 0#32
  let c0_2724 : Index := 0#32
  ![12, v7222.toNat, 0, 0]
def k0_off132 (i : grid0.Coords) (k0_t9 : Fin (k0_t9_loop i).trips) : Fin 4 → Nat :=
  let c13_2725 : Index := 13#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7226 : Index := Scalar.indexCast v6359
  let c0_2726 : Index := 0#32
  let c0_2727 : Index := 0#32
  ![13, v7226.toNat, 0, 0]
def k0_off133 (i : grid0.Coords) (k0_t9 : Fin (k0_t9_loop i).trips) : Fin 4 → Nat :=
  let c14_2728 : Index := 14#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7230 : Index := Scalar.indexCast v6359
  let c0_2729 : Index := 0#32
  let c0_2730 : Index := 0#32
  ![14, v7230.toNat, 0, 0]
def k0_off134 (i : grid0.Coords) (k0_t9 : Fin (k0_t9_loop i).trips) : Fin 4 → Nat :=
  let c15_2731 : Index := 15#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7234 : Index := Scalar.indexCast v6359
  let c0_2732 : Index := 0#32
  let c0_2733 : Index := 0#32
  ![15, v7234.toNat, 0, 0]
def k0_off135 (i : grid0.Coords) (k0_t9 : Fin (k0_t9_loop i).trips) : Fin 4 → Nat :=
  let c16_2734 : Index := 16#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7238 : Index := Scalar.indexCast v6359
  let c0_2735 : Index := 0#32
  let c0_2736 : Index := 0#32
  ![16, v7238.toNat, 0, 0]
def k0_off136 (i : grid0.Coords) (k0_t9 : Fin (k0_t9_loop i).trips) : Fin 4 → Nat :=
  let c17_2737 : Index := 17#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7242 : Index := Scalar.indexCast v6359
  let c0_2738 : Index := 0#32
  let c0_2739 : Index := 0#32
  ![17, v7242.toNat, 0, 0]
def k0_off137 (i : grid0.Coords) (k0_t9 : Fin (k0_t9_loop i).trips) : Fin 4 → Nat :=
  let c18_2740 : Index := 18#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7246 : Index := Scalar.indexCast v6359
  let c0_2741 : Index := 0#32
  let c0_2742 : Index := 0#32
  ![18, v7246.toNat, 0, 0]
def k0_off138 (i : grid0.Coords) (k0_t9 : Fin (k0_t9_loop i).trips) : Fin 4 → Nat :=
  let c19_2743 : Index := 19#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7250 : Index := Scalar.indexCast v6359
  let c0_2744 : Index := 0#32
  let c0_2745 : Index := 0#32
  ![19, v7250.toNat, 0, 0]
def k0_off139 (i : grid0.Coords) (k0_t9 : Fin (k0_t9_loop i).trips) : Fin 4 → Nat :=
  let c20_2746 : Index := 20#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7254 : Index := Scalar.indexCast v6359
  let c0_2747 : Index := 0#32
  let c0_2748 : Index := 0#32
  ![20, v7254.toNat, 0, 0]
def k0_off140 (i : grid0.Coords) (k0_t9 : Fin (k0_t9_loop i).trips) : Fin 4 → Nat :=
  let c21_2749 : Index := 21#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7258 : Index := Scalar.indexCast v6359
  let c0_2750 : Index := 0#32
  let c0_2751 : Index := 0#32
  ![21, v7258.toNat, 0, 0]
def k0_off141 (i : grid0.Coords) (k0_t9 : Fin (k0_t9_loop i).trips) : Fin 4 → Nat :=
  let c22_2752 : Index := 22#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7262 : Index := Scalar.indexCast v6359
  let c0_2753 : Index := 0#32
  let c0_2754 : Index := 0#32
  ![22, v7262.toNat, 0, 0]
def k0_off142 (i : grid0.Coords) (k0_t9 : Fin (k0_t9_loop i).trips) : Fin 4 → Nat :=
  let c23_2755 : Index := 23#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7266 : Index := Scalar.indexCast v6359
  let c0_2756 : Index := 0#32
  let c0_2757 : Index := 0#32
  ![23, v7266.toNat, 0, 0]
def k0_off143 (i : grid0.Coords) (k0_t9 : Fin (k0_t9_loop i).trips) : Fin 4 → Nat :=
  let c24_2758 : Index := 24#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7270 : Index := Scalar.indexCast v6359
  let c0_2759 : Index := 0#32
  let c0_2760 : Index := 0#32
  ![24, v7270.toNat, 0, 0]
def k0_off144 (i : grid0.Coords) (k0_t9 : Fin (k0_t9_loop i).trips) : Fin 4 → Nat :=
  let c25_2761 : Index := 25#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7274 : Index := Scalar.indexCast v6359
  let c0_2762 : Index := 0#32
  let c0_2763 : Index := 0#32
  ![25, v7274.toNat, 0, 0]
def k0_off145 (i : grid0.Coords) (k0_t9 : Fin (k0_t9_loop i).trips) : Fin 4 → Nat :=
  let c26_2764 : Index := 26#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7278 : Index := Scalar.indexCast v6359
  let c0_2765 : Index := 0#32
  let c0_2766 : Index := 0#32
  ![26, v7278.toNat, 0, 0]
def k0_off146 (i : grid0.Coords) (k0_t9 : Fin (k0_t9_loop i).trips) : Fin 4 → Nat :=
  let c27_2767 : Index := 27#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7282 : Index := Scalar.indexCast v6359
  let c0_2768 : Index := 0#32
  let c0_2769 : Index := 0#32
  ![27, v7282.toNat, 0, 0]
def k0_off147 (i : grid0.Coords) (k0_t9 : Fin (k0_t9_loop i).trips) : Fin 4 → Nat :=
  let c28_2770 : Index := 28#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7286 : Index := Scalar.indexCast v6359
  let c0_2771 : Index := 0#32
  let c0_2772 : Index := 0#32
  ![28, v7286.toNat, 0, 0]
def k0_off148 (i : grid0.Coords) (k0_t9 : Fin (k0_t9_loop i).trips) : Fin 4 → Nat :=
  let c29_2773 : Index := 29#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7290 : Index := Scalar.indexCast v6359
  let c0_2774 : Index := 0#32
  let c0_2775 : Index := 0#32
  ![29, v7290.toNat, 0, 0]
def k0_off149 (i : grid0.Coords) (k0_t9 : Fin (k0_t9_loop i).trips) : Fin 4 → Nat :=
  let c30_2776 : Index := 30#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7294 : Index := Scalar.indexCast v6359
  let c0_2777 : Index := 0#32
  let c0_2778 : Index := 0#32
  ![30, v7294.toNat, 0, 0]
def k0_off150 (i : grid0.Coords) (k0_t9 : Fin (k0_t9_loop i).trips) : Fin 4 → Nat :=
  let c31_2779 : Index := 31#32
  let c2_i32_2430 : BitVec 32 := 2#32
  let c0_i32_109 : BitVec 32 := 0#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_107 : BitVec 32 := 1#32
  let v367 : BitVec 32 := Scalar.subi v88 c1_i32_107
  let v368 : BitVec 32 := Scalar.subi v367 c0_i32_109
  let c1_i32_110 : BitVec 32 := 1#32
  let v370 : BitVec 32 := Scalar.divsi v368 c1_i32_110
  let v371 : BitVec 32 := Scalar.muli v370 c1_i32_110
  let v372 : BitVec 32 := Scalar.addi c0_i32_109 v371
  let c1_i32_112 : BitVec 32 := 1#32
  let arg25 : BitVec 32 := Scf.iv v372 c1_i32_112 k0_t9
  let v6358 : BitVec 32 := Scalar.muli c2_i32_2430 arg25
  let c1_i32_2431 : BitVec 32 := 1#32
  let v6359 : BitVec 32 := Scalar.addi v6358 c1_i32_2431
  let v7298 : Index := Scalar.indexCast v6359
  let c0_2780 : Index := 0#32
  let c0_2781 : Index := 0#32
  ![31, v7298.toNat, 0, 0]
def k0_mult20 (i : grid0.Coords) : BitVec 32 :=
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let c1_i32_115 : BitVec 32 := 1#32
  let v375 : BitVec 32 := Scalar.addi v374 c1_i32_115
  let c256_i32_116 : BitVec 32 := 256#32
  let v376 : BitVec 32 := Scalar.muli v375 c256_i32_116
  v376
def k0_off151 (i : grid0.Coords) : Fin 2 → Nat :=
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let c1_i32_115 : BitVec 32 := 1#32
  let v375 : BitVec 32 := Scalar.addi v374 c1_i32_115
  let c256_i32_116 : BitVec 32 := 256#32
  let v376 : BitVec 32 := Scalar.muli v375 c256_i32_116
  let v377 : BitVec 32 := v376
  let v378 : Index := Scalar.indexCast v377
  let c0_117 : Index := 0#32
  ![v378.toNat, 0]
def k0_off152 (i : grid0.Coords) : Fin 2 → Nat :=
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let c1_i32_115 : BitVec 32 := 1#32
  let v375 : BitVec 32 := Scalar.addi v374 c1_i32_115
  let c256_i32_116 : BitVec 32 := 256#32
  let v376 : BitVec 32 := Scalar.muli v375 c256_i32_116
  let v377 : BitVec 32 := v376
  let v385 : Index := Scalar.indexCast v377
  let c128_124 : Index := 128#32
  ![v385.toNat, 128]
def k0_mult21 (i : grid0.Coords) : BitVec 32 :=
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let c256_i32_131 : BitVec 32 := 256#32
  let v392 : BitVec 32 := Scalar.muli v374 c256_i32_131
  v392
def k0_off153 (i : grid0.Coords) : Fin 2 → Nat :=
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let c256_i32_131 : BitVec 32 := 256#32
  let v392 : BitVec 32 := Scalar.muli v374 c256_i32_131
  let v393 : BitVec 32 := v392
  let v394 : Index := Scalar.indexCast v393
  let c0_132 : Index := 0#32
  ![v394.toNat, 0]
def k0_off154 (i : grid0.Coords) : Fin 4 → Nat :=
  let c0_145 : Index := 0#32
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let v425 : Index := Scalar.indexCast v374
  let c0_146 : Index := 0#32
  let c0_147 : Index := 0#32
  ![0, v425.toNat, 0, 0]
def k0_off155 (i : grid0.Coords) : Fin 4 → Nat :=
  let c0_171 : Index := 0#32
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let v474 : Index := Scalar.indexCast v374
  let c128_172 : Index := 128#32
  let c0_173 : Index := 0#32
  ![0, v474.toNat, 128, 0]
def k0_mult22 (i : grid0.Coords) : BitVec 32 :=
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let c1_i32_185 : BitVec 32 := 1#32
  let v496 : BitVec 32 := Scalar.addi v374 c1_i32_185
  let c256_i32_186 : BitVec 32 := 256#32
  let v497 : BitVec 32 := Scalar.muli v496 c256_i32_186
  v497
def k0_off156 (i : grid0.Coords) : Fin 2 → Nat :=
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let c1_i32_185 : BitVec 32 := 1#32
  let v496 : BitVec 32 := Scalar.addi v374 c1_i32_185
  let c256_i32_186 : BitVec 32 := 256#32
  let v497 : BitVec 32 := Scalar.muli v496 c256_i32_186
  let v498 : BitVec 32 := v497
  let v499 : Index := Scalar.indexCast v498
  let c0_187 : Index := 0#32
  ![v499.toNat, 0]
def k0_off157 (i : grid0.Coords) : Fin 4 → Nat :=
  let c0_200 : Index := 0#32
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let c1_i32_185 : BitVec 32 := 1#32
  let v496 : BitVec 32 := Scalar.addi v374 c1_i32_185
  let v530 : Index := Scalar.indexCast v496
  let c0_201 : Index := 0#32
  let c0_202 : Index := 0#32
  ![0, v530.toNat, 0, 0]
def k0_off158 (i : grid0.Coords) : Fin 4 → Nat :=
  let c0_226 : Index := 0#32
  let c2_i32_114 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_113 : BitVec 32 := 1#32
  let v373 : BitVec 32 := Scalar.subi v88 c1_i32_113
  let v374 : BitVec 32 := Scalar.muli c2_i32_114 v373
  let c1_i32_185 : BitVec 32 := 1#32
  let v496 : BitVec 32 := Scalar.addi v374 c1_i32_185
  let v579 : Index := Scalar.indexCast v496
  let c128_227 : Index := 128#32
  let c0_228 : Index := 0#32
  ![0, v579.toNat, 128, 0]
def k0_mult23 (i : grid0.Coords) : BitVec 32 :=
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let c256_i32_242 : BitVec 32 := 256#32
  let v603 : BitVec 32 := Scalar.muli v602 c256_i32_242
  v603
def k0_off159 (i : grid0.Coords) : Fin 4 → Nat :=
  let c0_488 : Index := 0#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1424 : Index := Scalar.indexCast v602
  let c0_489 : Index := 0#32
  let c0_490 : Index := 0#32
  ![0, v1424.toNat, 0, 0]
def k0_off160 (i : grid0.Coords) : Fin 4 → Nat :=
  let c1_491 : Index := 1#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1428 : Index := Scalar.indexCast v602
  let c0_492 : Index := 0#32
  let c0_493 : Index := 0#32
  ![1, v1428.toNat, 0, 0]
def k0_off161 (i : grid0.Coords) : Fin 4 → Nat :=
  let c2 : Index := 2#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1432 : Index := Scalar.indexCast v602
  let c0_494 : Index := 0#32
  let c0_495 : Index := 0#32
  ![2, v1432.toNat, 0, 0]
def k0_off162 (i : grid0.Coords) : Fin 4 → Nat :=
  let c3 : Index := 3#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1436 : Index := Scalar.indexCast v602
  let c0_496 : Index := 0#32
  let c0_497 : Index := 0#32
  ![3, v1436.toNat, 0, 0]
def k0_off163 (i : grid0.Coords) : Fin 4 → Nat :=
  let c4 : Index := 4#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1440 : Index := Scalar.indexCast v602
  let c0_498 : Index := 0#32
  let c0_499 : Index := 0#32
  ![4, v1440.toNat, 0, 0]
def k0_off164 (i : grid0.Coords) : Fin 4 → Nat :=
  let c5 : Index := 5#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1444 : Index := Scalar.indexCast v602
  let c0_500 : Index := 0#32
  let c0_501 : Index := 0#32
  ![5, v1444.toNat, 0, 0]
def k0_off165 (i : grid0.Coords) : Fin 4 → Nat :=
  let c6 : Index := 6#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1448 : Index := Scalar.indexCast v602
  let c0_502 : Index := 0#32
  let c0_503 : Index := 0#32
  ![6, v1448.toNat, 0, 0]
def k0_off166 (i : grid0.Coords) : Fin 4 → Nat :=
  let c7 : Index := 7#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1452 : Index := Scalar.indexCast v602
  let c0_504 : Index := 0#32
  let c0_505 : Index := 0#32
  ![7, v1452.toNat, 0, 0]
def k0_off167 (i : grid0.Coords) : Fin 4 → Nat :=
  let c8 : Index := 8#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1456 : Index := Scalar.indexCast v602
  let c0_506 : Index := 0#32
  let c0_507 : Index := 0#32
  ![8, v1456.toNat, 0, 0]
def k0_off168 (i : grid0.Coords) : Fin 4 → Nat :=
  let c9 : Index := 9#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1460 : Index := Scalar.indexCast v602
  let c0_508 : Index := 0#32
  let c0_509 : Index := 0#32
  ![9, v1460.toNat, 0, 0]
def k0_off169 (i : grid0.Coords) : Fin 4 → Nat :=
  let c10 : Index := 10#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1464 : Index := Scalar.indexCast v602
  let c0_510 : Index := 0#32
  let c0_511 : Index := 0#32
  ![10, v1464.toNat, 0, 0]
def k0_off170 (i : grid0.Coords) : Fin 4 → Nat :=
  let c11 : Index := 11#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1468 : Index := Scalar.indexCast v602
  let c0_512 : Index := 0#32
  let c0_513 : Index := 0#32
  ![11, v1468.toNat, 0, 0]
def k0_off171 (i : grid0.Coords) : Fin 4 → Nat :=
  let c12 : Index := 12#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1472 : Index := Scalar.indexCast v602
  let c0_514 : Index := 0#32
  let c0_515 : Index := 0#32
  ![12, v1472.toNat, 0, 0]
def k0_off172 (i : grid0.Coords) : Fin 4 → Nat :=
  let c13 : Index := 13#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1476 : Index := Scalar.indexCast v602
  let c0_516 : Index := 0#32
  let c0_517 : Index := 0#32
  ![13, v1476.toNat, 0, 0]
def k0_off173 (i : grid0.Coords) : Fin 4 → Nat :=
  let c14 : Index := 14#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1480 : Index := Scalar.indexCast v602
  let c0_518 : Index := 0#32
  let c0_519 : Index := 0#32
  ![14, v1480.toNat, 0, 0]
def k0_off174 (i : grid0.Coords) : Fin 4 → Nat :=
  let c15 : Index := 15#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1484 : Index := Scalar.indexCast v602
  let c0_520 : Index := 0#32
  let c0_521 : Index := 0#32
  ![15, v1484.toNat, 0, 0]
def k0_off175 (i : grid0.Coords) : Fin 4 → Nat :=
  let c16 : Index := 16#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1488 : Index := Scalar.indexCast v602
  let c0_522 : Index := 0#32
  let c0_523 : Index := 0#32
  ![16, v1488.toNat, 0, 0]
def k0_off176 (i : grid0.Coords) : Fin 4 → Nat :=
  let c17 : Index := 17#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1492 : Index := Scalar.indexCast v602
  let c0_524 : Index := 0#32
  let c0_525 : Index := 0#32
  ![17, v1492.toNat, 0, 0]
def k0_off177 (i : grid0.Coords) : Fin 4 → Nat :=
  let c18 : Index := 18#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1496 : Index := Scalar.indexCast v602
  let c0_526 : Index := 0#32
  let c0_527 : Index := 0#32
  ![18, v1496.toNat, 0, 0]
def k0_off178 (i : grid0.Coords) : Fin 4 → Nat :=
  let c19 : Index := 19#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1500 : Index := Scalar.indexCast v602
  let c0_528 : Index := 0#32
  let c0_529 : Index := 0#32
  ![19, v1500.toNat, 0, 0]
def k0_off179 (i : grid0.Coords) : Fin 4 → Nat :=
  let c20 : Index := 20#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1504 : Index := Scalar.indexCast v602
  let c0_530 : Index := 0#32
  let c0_531 : Index := 0#32
  ![20, v1504.toNat, 0, 0]
def k0_off180 (i : grid0.Coords) : Fin 4 → Nat :=
  let c21 : Index := 21#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1508 : Index := Scalar.indexCast v602
  let c0_532 : Index := 0#32
  let c0_533 : Index := 0#32
  ![21, v1508.toNat, 0, 0]
def k0_off181 (i : grid0.Coords) : Fin 4 → Nat :=
  let c22 : Index := 22#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1512 : Index := Scalar.indexCast v602
  let c0_534 : Index := 0#32
  let c0_535 : Index := 0#32
  ![22, v1512.toNat, 0, 0]
def k0_off182 (i : grid0.Coords) : Fin 4 → Nat :=
  let c23 : Index := 23#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1516 : Index := Scalar.indexCast v602
  let c0_536 : Index := 0#32
  let c0_537 : Index := 0#32
  ![23, v1516.toNat, 0, 0]
def k0_off183 (i : grid0.Coords) : Fin 4 → Nat :=
  let c24 : Index := 24#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1520 : Index := Scalar.indexCast v602
  let c0_538 : Index := 0#32
  let c0_539 : Index := 0#32
  ![24, v1520.toNat, 0, 0]
def k0_off184 (i : grid0.Coords) : Fin 4 → Nat :=
  let c25 : Index := 25#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1524 : Index := Scalar.indexCast v602
  let c0_540 : Index := 0#32
  let c0_541 : Index := 0#32
  ![25, v1524.toNat, 0, 0]
def k0_off185 (i : grid0.Coords) : Fin 4 → Nat :=
  let c26 : Index := 26#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1528 : Index := Scalar.indexCast v602
  let c0_542 : Index := 0#32
  let c0_543 : Index := 0#32
  ![26, v1528.toNat, 0, 0]
def k0_off186 (i : grid0.Coords) : Fin 4 → Nat :=
  let c27 : Index := 27#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1532 : Index := Scalar.indexCast v602
  let c0_544 : Index := 0#32
  let c0_545 : Index := 0#32
  ![27, v1532.toNat, 0, 0]
def k0_off187 (i : grid0.Coords) : Fin 4 → Nat :=
  let c28 : Index := 28#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1536 : Index := Scalar.indexCast v602
  let c0_546 : Index := 0#32
  let c0_547 : Index := 0#32
  ![28, v1536.toNat, 0, 0]
def k0_off188 (i : grid0.Coords) : Fin 4 → Nat :=
  let c29 : Index := 29#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1540 : Index := Scalar.indexCast v602
  let c0_548 : Index := 0#32
  let c0_549 : Index := 0#32
  ![29, v1540.toNat, 0, 0]
def k0_off189 (i : grid0.Coords) : Fin 4 → Nat :=
  let c30 : Index := 30#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1544 : Index := Scalar.indexCast v602
  let c0_550 : Index := 0#32
  let c0_551 : Index := 0#32
  ![30, v1544.toNat, 0, 0]
def k0_off190 (i : grid0.Coords) : Fin 4 → Nat :=
  let c31 : Index := 31#32
  let c2_i32_241 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v602 : BitVec 32 := Scalar.muli c2_i32_241 v601
  let v1548 : Index := Scalar.indexCast v602
  let c0_552 : Index := 0#32
  let c0_553 : Index := 0#32
  ![31, v1548.toNat, 0, 0]
def k0_mult24 (i : grid0.Coords) : BitVec 32 :=
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let c256_i32_556 : BitVec 32 := 256#32
  let v1554 : BitVec 32 := Scalar.muli v1553 c256_i32_556
  v1554
def k0_off191 (i : grid0.Coords) : Fin 4 → Nat :=
  let c0_811 : Index := 0#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2375 : Index := Scalar.indexCast v1553
  let c0_812 : Index := 0#32
  let c0_813 : Index := 0#32
  ![0, v2375.toNat, 0, 0]
def k0_off192 (i : grid0.Coords) : Fin 4 → Nat :=
  let c1_814 : Index := 1#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2379 : Index := Scalar.indexCast v1553
  let c0_815 : Index := 0#32
  let c0_816 : Index := 0#32
  ![1, v2379.toNat, 0, 0]
def k0_off193 (i : grid0.Coords) : Fin 4 → Nat :=
  let c2_817 : Index := 2#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2383 : Index := Scalar.indexCast v1553
  let c0_818 : Index := 0#32
  let c0_819 : Index := 0#32
  ![2, v2383.toNat, 0, 0]
def k0_off194 (i : grid0.Coords) : Fin 4 → Nat :=
  let c3_820 : Index := 3#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2387 : Index := Scalar.indexCast v1553
  let c0_821 : Index := 0#32
  let c0_822 : Index := 0#32
  ![3, v2387.toNat, 0, 0]
def k0_off195 (i : grid0.Coords) : Fin 4 → Nat :=
  let c4_823 : Index := 4#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2391 : Index := Scalar.indexCast v1553
  let c0_824 : Index := 0#32
  let c0_825 : Index := 0#32
  ![4, v2391.toNat, 0, 0]
def k0_off196 (i : grid0.Coords) : Fin 4 → Nat :=
  let c5_826 : Index := 5#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2395 : Index := Scalar.indexCast v1553
  let c0_827 : Index := 0#32
  let c0_828 : Index := 0#32
  ![5, v2395.toNat, 0, 0]
def k0_off197 (i : grid0.Coords) : Fin 4 → Nat :=
  let c6_829 : Index := 6#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2399 : Index := Scalar.indexCast v1553
  let c0_830 : Index := 0#32
  let c0_831 : Index := 0#32
  ![6, v2399.toNat, 0, 0]
def k0_off198 (i : grid0.Coords) : Fin 4 → Nat :=
  let c7_832 : Index := 7#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2403 : Index := Scalar.indexCast v1553
  let c0_833 : Index := 0#32
  let c0_834 : Index := 0#32
  ![7, v2403.toNat, 0, 0]
def k0_off199 (i : grid0.Coords) : Fin 4 → Nat :=
  let c8_835 : Index := 8#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2407 : Index := Scalar.indexCast v1553
  let c0_836 : Index := 0#32
  let c0_837 : Index := 0#32
  ![8, v2407.toNat, 0, 0]
def k0_off200 (i : grid0.Coords) : Fin 4 → Nat :=
  let c9_838 : Index := 9#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2411 : Index := Scalar.indexCast v1553
  let c0_839 : Index := 0#32
  let c0_840 : Index := 0#32
  ![9, v2411.toNat, 0, 0]
def k0_off201 (i : grid0.Coords) : Fin 4 → Nat :=
  let c10_841 : Index := 10#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2415 : Index := Scalar.indexCast v1553
  let c0_842 : Index := 0#32
  let c0_843 : Index := 0#32
  ![10, v2415.toNat, 0, 0]
def k0_off202 (i : grid0.Coords) : Fin 4 → Nat :=
  let c11_844 : Index := 11#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2419 : Index := Scalar.indexCast v1553
  let c0_845 : Index := 0#32
  let c0_846 : Index := 0#32
  ![11, v2419.toNat, 0, 0]
def k0_off203 (i : grid0.Coords) : Fin 4 → Nat :=
  let c12_847 : Index := 12#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2423 : Index := Scalar.indexCast v1553
  let c0_848 : Index := 0#32
  let c0_849 : Index := 0#32
  ![12, v2423.toNat, 0, 0]
def k0_off204 (i : grid0.Coords) : Fin 4 → Nat :=
  let c13_850 : Index := 13#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2427 : Index := Scalar.indexCast v1553
  let c0_851 : Index := 0#32
  let c0_852 : Index := 0#32
  ![13, v2427.toNat, 0, 0]
def k0_off205 (i : grid0.Coords) : Fin 4 → Nat :=
  let c14_853 : Index := 14#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2431 : Index := Scalar.indexCast v1553
  let c0_854 : Index := 0#32
  let c0_855 : Index := 0#32
  ![14, v2431.toNat, 0, 0]
def k0_off206 (i : grid0.Coords) : Fin 4 → Nat :=
  let c15_856 : Index := 15#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2435 : Index := Scalar.indexCast v1553
  let c0_857 : Index := 0#32
  let c0_858 : Index := 0#32
  ![15, v2435.toNat, 0, 0]
def k0_off207 (i : grid0.Coords) : Fin 4 → Nat :=
  let c16_859 : Index := 16#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2439 : Index := Scalar.indexCast v1553
  let c0_860 : Index := 0#32
  let c0_861 : Index := 0#32
  ![16, v2439.toNat, 0, 0]
def k0_off208 (i : grid0.Coords) : Fin 4 → Nat :=
  let c17_862 : Index := 17#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2443 : Index := Scalar.indexCast v1553
  let c0_863 : Index := 0#32
  let c0_864 : Index := 0#32
  ![17, v2443.toNat, 0, 0]
def k0_off209 (i : grid0.Coords) : Fin 4 → Nat :=
  let c18_865 : Index := 18#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2447 : Index := Scalar.indexCast v1553
  let c0_866 : Index := 0#32
  let c0_867 : Index := 0#32
  ![18, v2447.toNat, 0, 0]
def k0_off210 (i : grid0.Coords) : Fin 4 → Nat :=
  let c19_868 : Index := 19#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2451 : Index := Scalar.indexCast v1553
  let c0_869 : Index := 0#32
  let c0_870 : Index := 0#32
  ![19, v2451.toNat, 0, 0]
def k0_off211 (i : grid0.Coords) : Fin 4 → Nat :=
  let c20_871 : Index := 20#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2455 : Index := Scalar.indexCast v1553
  let c0_872 : Index := 0#32
  let c0_873 : Index := 0#32
  ![20, v2455.toNat, 0, 0]
def k0_off212 (i : grid0.Coords) : Fin 4 → Nat :=
  let c21_874 : Index := 21#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2459 : Index := Scalar.indexCast v1553
  let c0_875 : Index := 0#32
  let c0_876 : Index := 0#32
  ![21, v2459.toNat, 0, 0]
def k0_off213 (i : grid0.Coords) : Fin 4 → Nat :=
  let c22_877 : Index := 22#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2463 : Index := Scalar.indexCast v1553
  let c0_878 : Index := 0#32
  let c0_879 : Index := 0#32
  ![22, v2463.toNat, 0, 0]
def k0_off214 (i : grid0.Coords) : Fin 4 → Nat :=
  let c23_880 : Index := 23#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2467 : Index := Scalar.indexCast v1553
  let c0_881 : Index := 0#32
  let c0_882 : Index := 0#32
  ![23, v2467.toNat, 0, 0]
def k0_off215 (i : grid0.Coords) : Fin 4 → Nat :=
  let c24_883 : Index := 24#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2471 : Index := Scalar.indexCast v1553
  let c0_884 : Index := 0#32
  let c0_885 : Index := 0#32
  ![24, v2471.toNat, 0, 0]
def k0_off216 (i : grid0.Coords) : Fin 4 → Nat :=
  let c25_886 : Index := 25#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2475 : Index := Scalar.indexCast v1553
  let c0_887 : Index := 0#32
  let c0_888 : Index := 0#32
  ![25, v2475.toNat, 0, 0]
def k0_off217 (i : grid0.Coords) : Fin 4 → Nat :=
  let c26_889 : Index := 26#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2479 : Index := Scalar.indexCast v1553
  let c0_890 : Index := 0#32
  let c0_891 : Index := 0#32
  ![26, v2479.toNat, 0, 0]
def k0_off218 (i : grid0.Coords) : Fin 4 → Nat :=
  let c27_892 : Index := 27#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2483 : Index := Scalar.indexCast v1553
  let c0_893 : Index := 0#32
  let c0_894 : Index := 0#32
  ![27, v2483.toNat, 0, 0]
def k0_off219 (i : grid0.Coords) : Fin 4 → Nat :=
  let c28_895 : Index := 28#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2487 : Index := Scalar.indexCast v1553
  let c0_896 : Index := 0#32
  let c0_897 : Index := 0#32
  ![28, v2487.toNat, 0, 0]
def k0_off220 (i : grid0.Coords) : Fin 4 → Nat :=
  let c29_898 : Index := 29#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2491 : Index := Scalar.indexCast v1553
  let c0_899 : Index := 0#32
  let c0_900 : Index := 0#32
  ![29, v2491.toNat, 0, 0]
def k0_off221 (i : grid0.Coords) : Fin 4 → Nat :=
  let c30_901 : Index := 30#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2495 : Index := Scalar.indexCast v1553
  let c0_902 : Index := 0#32
  let c0_903 : Index := 0#32
  ![30, v2495.toNat, 0, 0]
def k0_off222 (i : grid0.Coords) : Fin 4 → Nat :=
  let c31_904 : Index := 31#32
  let c2_i32_554 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let c1_i32_240 : BitVec 32 := 1#32
  let v601 : BitVec 32 := Scalar.subi v88 c1_i32_240
  let v1552 : BitVec 32 := Scalar.muli c2_i32_554 v601
  let c1_i32_555 : BitVec 32 := 1#32
  let v1553 : BitVec 32 := Scalar.addi v1552 c1_i32_555
  let v2499 : Index := Scalar.indexCast v1553
  let c0_905 : Index := 0#32
  let c0_906 : Index := 0#32
  ![31, v2499.toNat, 0, 0]
def k0_cond5 (i : grid0.Coords) : BitVec 1 :=
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_7 : BitVec 32 := 2#32
  let v17 : BitVec 32 := Scalar.addi v9 c2_i32_7
  let c0_i32_9 : BitVec 32 := 0#32
  let v19 : BitVec 1 := Scalar.cmpi .sgt v17 c0_i32_9
  let v20 : BitVec 32 := Scalar.extui v19
  let c0_i32_10 : BitVec 32 := 0#32
  let v21 : BitVec 1 := Scalar.cmpi .slt v17 c0_i32_10
  let v22 : BitVec 32 := Scalar.extui v21
  let v23 : BitVec 32 := Scalar.subi v20 v22
  let c2_i32_8 : BitVec 32 := 2#32
  let c0_i32_11 : BitVec 32 := 0#32
  let v24 : BitVec 1 := Scalar.cmpi .sgt c2_i32_8 c0_i32_11
  let v25 : BitVec 32 := Scalar.extui v24
  let c0_i32_12 : BitVec 32 := 0#32
  let v26 : BitVec 1 := Scalar.cmpi .slt c2_i32_8 c0_i32_12
  let v27 : BitVec 32 := Scalar.extui v26
  let v28 : BitVec 32 := Scalar.subi v25 v27
  let v29 : BitVec 1 := Scalar.cmpi .ne v23 v28
  let v30 : BitVec 32 := Scalar.remsi v17 c2_i32_8
  let c0_i32_13 : BitVec 32 := 0#32
  let v31 : BitVec 1 := Scalar.cmpi .ne v30 c0_i32_13
  let v32 : BitVec 1 := Scalar.andi v29 v31
  let v18 : BitVec 32 := Scalar.divsi v17 c2_i32_8
  let c1_i32_14 : BitVec 32 := 1#32
  let v33 : BitVec 32 := Scalar.subi v18 c1_i32_14
  let v34 : BitVec 32 := Scalar.select v32 v33 v18
  let c1_i32_15 : BitVec 32 := 1#32
  let v35 : BitVec 32 := Scalar.addi v34 c1_i32_15
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c2_i32_16 : BitVec 32 := 2#32
  let c0_i32_19 : BitVec 32 := 0#32
  let v42 : BitVec 1 := Scalar.cmpi .sgt c2_i32_16 c0_i32_19
  let v43 : BitVec 32 := Scalar.extui v42
  let c0_i32_20 : BitVec 32 := 0#32
  let v44 : BitVec 1 := Scalar.cmpi .slt c2_i32_16 c0_i32_20
  let v45 : BitVec 32 := Scalar.extui v44
  let v46 : BitVec 32 := Scalar.subi v43 v45
  let v47 : BitVec 1 := Scalar.cmpi .ne v41 v46
  let v48 : BitVec 32 := Scalar.remsi v35 c2_i32_16
  let c0_i32_21 : BitVec 32 := 0#32
  let v49 : BitVec 1 := Scalar.cmpi .ne v48 c0_i32_21
  let v50 : BitVec 1 := Scalar.andi v47 v49
  let v36 : BitVec 32 := Scalar.divsi v35 c2_i32_16
  let c1_i32_22 : BitVec 32 := 1#32
  let v51 : BitVec 32 := Scalar.subi v36 c1_i32_22
  let v52 : BitVec 32 := Scalar.select v50 v51 v36
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v2503 : BitVec 1 := Scalar.cmpi .sgt v52 v88
  let v2504 : BitVec 32 := Scalar.extui v2503
  let c0_i32_907 : BitVec 32 := 0#32
  let v2505 : BitVec 1 := Scalar.cmpi .ne v2504 c0_i32_907
  v2505

def k0_mult25 (i : grid0.Coords) : BitVec 32 :=
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let c256_i32_1938 : BitVec 32 := 256#32
  let v5172 : BitVec 32 := Scalar.muli v5171 c256_i32_1938
  v5172
def k0_off223 (i : grid0.Coords) : Fin 2 → Nat :=
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let c256_i32_1938 : BitVec 32 := 256#32
  let v5172 : BitVec 32 := Scalar.muli v5171 c256_i32_1938
  let v5173 : BitVec 32 := v5172
  let v5175 : Index := Scalar.indexCast v5173
  let c0_1941 : Index := 0#32
  ![v5175.toNat, 0]
def k0_off224 (i : grid0.Coords) : Fin 4 → Nat :=
  let c0_2193 : Index := 0#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v5993 : Index := Scalar.indexCast v5171
  let c0_2194 : Index := 0#32
  let c0_2195 : Index := 0#32
  ![0, v5993.toNat, 0, 0]
def k0_off225 (i : grid0.Coords) : Fin 4 → Nat :=
  let c1_2196 : Index := 1#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v5997 : Index := Scalar.indexCast v5171
  let c0_2197 : Index := 0#32
  let c0_2198 : Index := 0#32
  ![1, v5997.toNat, 0, 0]
def k0_off226 (i : grid0.Coords) : Fin 4 → Nat :=
  let c2_2199 : Index := 2#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6001 : Index := Scalar.indexCast v5171
  let c0_2200 : Index := 0#32
  let c0_2201 : Index := 0#32
  ![2, v6001.toNat, 0, 0]
def k0_off227 (i : grid0.Coords) : Fin 4 → Nat :=
  let c3_2202 : Index := 3#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6005 : Index := Scalar.indexCast v5171
  let c0_2203 : Index := 0#32
  let c0_2204 : Index := 0#32
  ![3, v6005.toNat, 0, 0]
def k0_off228 (i : grid0.Coords) : Fin 4 → Nat :=
  let c4_2205 : Index := 4#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6009 : Index := Scalar.indexCast v5171
  let c0_2206 : Index := 0#32
  let c0_2207 : Index := 0#32
  ![4, v6009.toNat, 0, 0]
def k0_off229 (i : grid0.Coords) : Fin 4 → Nat :=
  let c5_2208 : Index := 5#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6013 : Index := Scalar.indexCast v5171
  let c0_2209 : Index := 0#32
  let c0_2210 : Index := 0#32
  ![5, v6013.toNat, 0, 0]
def k0_off230 (i : grid0.Coords) : Fin 4 → Nat :=
  let c6_2211 : Index := 6#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6017 : Index := Scalar.indexCast v5171
  let c0_2212 : Index := 0#32
  let c0_2213 : Index := 0#32
  ![6, v6017.toNat, 0, 0]
def k0_off231 (i : grid0.Coords) : Fin 4 → Nat :=
  let c7_2214 : Index := 7#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6021 : Index := Scalar.indexCast v5171
  let c0_2215 : Index := 0#32
  let c0_2216 : Index := 0#32
  ![7, v6021.toNat, 0, 0]
def k0_off232 (i : grid0.Coords) : Fin 4 → Nat :=
  let c8_2217 : Index := 8#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6025 : Index := Scalar.indexCast v5171
  let c0_2218 : Index := 0#32
  let c0_2219 : Index := 0#32
  ![8, v6025.toNat, 0, 0]
def k0_off233 (i : grid0.Coords) : Fin 4 → Nat :=
  let c9_2220 : Index := 9#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6029 : Index := Scalar.indexCast v5171
  let c0_2221 : Index := 0#32
  let c0_2222 : Index := 0#32
  ![9, v6029.toNat, 0, 0]
def k0_off234 (i : grid0.Coords) : Fin 4 → Nat :=
  let c10_2223 : Index := 10#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6033 : Index := Scalar.indexCast v5171
  let c0_2224 : Index := 0#32
  let c0_2225 : Index := 0#32
  ![10, v6033.toNat, 0, 0]
def k0_off235 (i : grid0.Coords) : Fin 4 → Nat :=
  let c11_2226 : Index := 11#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6037 : Index := Scalar.indexCast v5171
  let c0_2227 : Index := 0#32
  let c0_2228 : Index := 0#32
  ![11, v6037.toNat, 0, 0]
def k0_off236 (i : grid0.Coords) : Fin 4 → Nat :=
  let c12_2229 : Index := 12#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6041 : Index := Scalar.indexCast v5171
  let c0_2230 : Index := 0#32
  let c0_2231 : Index := 0#32
  ![12, v6041.toNat, 0, 0]
def k0_off237 (i : grid0.Coords) : Fin 4 → Nat :=
  let c13_2232 : Index := 13#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6045 : Index := Scalar.indexCast v5171
  let c0_2233 : Index := 0#32
  let c0_2234 : Index := 0#32
  ![13, v6045.toNat, 0, 0]
def k0_off238 (i : grid0.Coords) : Fin 4 → Nat :=
  let c14_2235 : Index := 14#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6049 : Index := Scalar.indexCast v5171
  let c0_2236 : Index := 0#32
  let c0_2237 : Index := 0#32
  ![14, v6049.toNat, 0, 0]
def k0_off239 (i : grid0.Coords) : Fin 4 → Nat :=
  let c15_2238 : Index := 15#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6053 : Index := Scalar.indexCast v5171
  let c0_2239 : Index := 0#32
  let c0_2240 : Index := 0#32
  ![15, v6053.toNat, 0, 0]
def k0_off240 (i : grid0.Coords) : Fin 4 → Nat :=
  let c16_2241 : Index := 16#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6057 : Index := Scalar.indexCast v5171
  let c0_2242 : Index := 0#32
  let c0_2243 : Index := 0#32
  ![16, v6057.toNat, 0, 0]
def k0_off241 (i : grid0.Coords) : Fin 4 → Nat :=
  let c17_2244 : Index := 17#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6061 : Index := Scalar.indexCast v5171
  let c0_2245 : Index := 0#32
  let c0_2246 : Index := 0#32
  ![17, v6061.toNat, 0, 0]
def k0_off242 (i : grid0.Coords) : Fin 4 → Nat :=
  let c18_2247 : Index := 18#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6065 : Index := Scalar.indexCast v5171
  let c0_2248 : Index := 0#32
  let c0_2249 : Index := 0#32
  ![18, v6065.toNat, 0, 0]
def k0_off243 (i : grid0.Coords) : Fin 4 → Nat :=
  let c19_2250 : Index := 19#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6069 : Index := Scalar.indexCast v5171
  let c0_2251 : Index := 0#32
  let c0_2252 : Index := 0#32
  ![19, v6069.toNat, 0, 0]
def k0_off244 (i : grid0.Coords) : Fin 4 → Nat :=
  let c20_2253 : Index := 20#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6073 : Index := Scalar.indexCast v5171
  let c0_2254 : Index := 0#32
  let c0_2255 : Index := 0#32
  ![20, v6073.toNat, 0, 0]
def k0_off245 (i : grid0.Coords) : Fin 4 → Nat :=
  let c21_2256 : Index := 21#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6077 : Index := Scalar.indexCast v5171
  let c0_2257 : Index := 0#32
  let c0_2258 : Index := 0#32
  ![21, v6077.toNat, 0, 0]
def k0_off246 (i : grid0.Coords) : Fin 4 → Nat :=
  let c22_2259 : Index := 22#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6081 : Index := Scalar.indexCast v5171
  let c0_2260 : Index := 0#32
  let c0_2261 : Index := 0#32
  ![22, v6081.toNat, 0, 0]
def k0_off247 (i : grid0.Coords) : Fin 4 → Nat :=
  let c23_2262 : Index := 23#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6085 : Index := Scalar.indexCast v5171
  let c0_2263 : Index := 0#32
  let c0_2264 : Index := 0#32
  ![23, v6085.toNat, 0, 0]
def k0_off248 (i : grid0.Coords) : Fin 4 → Nat :=
  let c24_2265 : Index := 24#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6089 : Index := Scalar.indexCast v5171
  let c0_2266 : Index := 0#32
  let c0_2267 : Index := 0#32
  ![24, v6089.toNat, 0, 0]
def k0_off249 (i : grid0.Coords) : Fin 4 → Nat :=
  let c25_2268 : Index := 25#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6093 : Index := Scalar.indexCast v5171
  let c0_2269 : Index := 0#32
  let c0_2270 : Index := 0#32
  ![25, v6093.toNat, 0, 0]
def k0_off250 (i : grid0.Coords) : Fin 4 → Nat :=
  let c26_2271 : Index := 26#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6097 : Index := Scalar.indexCast v5171
  let c0_2272 : Index := 0#32
  let c0_2273 : Index := 0#32
  ![26, v6097.toNat, 0, 0]
def k0_off251 (i : grid0.Coords) : Fin 4 → Nat :=
  let c27_2274 : Index := 27#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6101 : Index := Scalar.indexCast v5171
  let c0_2275 : Index := 0#32
  let c0_2276 : Index := 0#32
  ![27, v6101.toNat, 0, 0]
def k0_off252 (i : grid0.Coords) : Fin 4 → Nat :=
  let c28_2277 : Index := 28#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6105 : Index := Scalar.indexCast v5171
  let c0_2278 : Index := 0#32
  let c0_2279 : Index := 0#32
  ![28, v6105.toNat, 0, 0]
def k0_off253 (i : grid0.Coords) : Fin 4 → Nat :=
  let c29_2280 : Index := 29#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6109 : Index := Scalar.indexCast v5171
  let c0_2281 : Index := 0#32
  let c0_2282 : Index := 0#32
  ![29, v6109.toNat, 0, 0]
def k0_off254 (i : grid0.Coords) : Fin 4 → Nat :=
  let c30_2283 : Index := 30#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6113 : Index := Scalar.indexCast v5171
  let c0_2284 : Index := 0#32
  let c0_2285 : Index := 0#32
  ![30, v6113.toNat, 0, 0]
def k0_off255 (i : grid0.Coords) : Fin 4 → Nat :=
  let c31_2286 : Index := 31#32
  let c2_i32_1937 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v5171 : BitVec 32 := Scalar.muli c2_i32_1937 v88
  let v6117 : Index := Scalar.indexCast v5171
  let c0_2287 : Index := 0#32
  let c0_2288 : Index := 0#32
  ![31, v6117.toNat, 0, 0]
def k0_mult26 (i : grid0.Coords) : BitVec 32 :=
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let c256_i32_2291 : BitVec 32 := 256#32
  let v6123 : BitVec 32 := Scalar.muli v6122 c256_i32_2291
  v6123
def k0_off256 (i : grid0.Coords) : Fin 2 → Nat :=
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let c256_i32_2291 : BitVec 32 := 256#32
  let v6123 : BitVec 32 := Scalar.muli v6122 c256_i32_2291
  let v6124 : BitVec 32 := v6123
  let v6126 : Index := Scalar.indexCast v6124
  let c0_2294 : Index := 0#32
  ![v6126.toNat, 0]
def k0_off257 (i : grid0.Coords) : Fin 4 → Nat :=
  let c0_2546 : Index := 0#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6944 : Index := Scalar.indexCast v6122
  let c0_2547 : Index := 0#32
  let c0_2548 : Index := 0#32
  ![0, v6944.toNat, 0, 0]
def k0_off258 (i : grid0.Coords) : Fin 4 → Nat :=
  let c1_2549 : Index := 1#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6948 : Index := Scalar.indexCast v6122
  let c0_2550 : Index := 0#32
  let c0_2551 : Index := 0#32
  ![1, v6948.toNat, 0, 0]
def k0_off259 (i : grid0.Coords) : Fin 4 → Nat :=
  let c2_2552 : Index := 2#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6952 : Index := Scalar.indexCast v6122
  let c0_2553 : Index := 0#32
  let c0_2554 : Index := 0#32
  ![2, v6952.toNat, 0, 0]
def k0_off260 (i : grid0.Coords) : Fin 4 → Nat :=
  let c3_2555 : Index := 3#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6956 : Index := Scalar.indexCast v6122
  let c0_2556 : Index := 0#32
  let c0_2557 : Index := 0#32
  ![3, v6956.toNat, 0, 0]
def k0_off261 (i : grid0.Coords) : Fin 4 → Nat :=
  let c4_2558 : Index := 4#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6960 : Index := Scalar.indexCast v6122
  let c0_2559 : Index := 0#32
  let c0_2560 : Index := 0#32
  ![4, v6960.toNat, 0, 0]
def k0_off262 (i : grid0.Coords) : Fin 4 → Nat :=
  let c5_2561 : Index := 5#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6964 : Index := Scalar.indexCast v6122
  let c0_2562 : Index := 0#32
  let c0_2563 : Index := 0#32
  ![5, v6964.toNat, 0, 0]
def k0_off263 (i : grid0.Coords) : Fin 4 → Nat :=
  let c6_2564 : Index := 6#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6968 : Index := Scalar.indexCast v6122
  let c0_2565 : Index := 0#32
  let c0_2566 : Index := 0#32
  ![6, v6968.toNat, 0, 0]
def k0_off264 (i : grid0.Coords) : Fin 4 → Nat :=
  let c7_2567 : Index := 7#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6972 : Index := Scalar.indexCast v6122
  let c0_2568 : Index := 0#32
  let c0_2569 : Index := 0#32
  ![7, v6972.toNat, 0, 0]
def k0_off265 (i : grid0.Coords) : Fin 4 → Nat :=
  let c8_2570 : Index := 8#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6976 : Index := Scalar.indexCast v6122
  let c0_2571 : Index := 0#32
  let c0_2572 : Index := 0#32
  ![8, v6976.toNat, 0, 0]
def k0_off266 (i : grid0.Coords) : Fin 4 → Nat :=
  let c9_2573 : Index := 9#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6980 : Index := Scalar.indexCast v6122
  let c0_2574 : Index := 0#32
  let c0_2575 : Index := 0#32
  ![9, v6980.toNat, 0, 0]
def k0_off267 (i : grid0.Coords) : Fin 4 → Nat :=
  let c10_2576 : Index := 10#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6984 : Index := Scalar.indexCast v6122
  let c0_2577 : Index := 0#32
  let c0_2578 : Index := 0#32
  ![10, v6984.toNat, 0, 0]
def k0_off268 (i : grid0.Coords) : Fin 4 → Nat :=
  let c11_2579 : Index := 11#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6988 : Index := Scalar.indexCast v6122
  let c0_2580 : Index := 0#32
  let c0_2581 : Index := 0#32
  ![11, v6988.toNat, 0, 0]
def k0_off269 (i : grid0.Coords) : Fin 4 → Nat :=
  let c12_2582 : Index := 12#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6992 : Index := Scalar.indexCast v6122
  let c0_2583 : Index := 0#32
  let c0_2584 : Index := 0#32
  ![12, v6992.toNat, 0, 0]
def k0_off270 (i : grid0.Coords) : Fin 4 → Nat :=
  let c13_2585 : Index := 13#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v6996 : Index := Scalar.indexCast v6122
  let c0_2586 : Index := 0#32
  let c0_2587 : Index := 0#32
  ![13, v6996.toNat, 0, 0]
def k0_off271 (i : grid0.Coords) : Fin 4 → Nat :=
  let c14_2588 : Index := 14#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7000 : Index := Scalar.indexCast v6122
  let c0_2589 : Index := 0#32
  let c0_2590 : Index := 0#32
  ![14, v7000.toNat, 0, 0]
def k0_off272 (i : grid0.Coords) : Fin 4 → Nat :=
  let c15_2591 : Index := 15#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7004 : Index := Scalar.indexCast v6122
  let c0_2592 : Index := 0#32
  let c0_2593 : Index := 0#32
  ![15, v7004.toNat, 0, 0]
def k0_off273 (i : grid0.Coords) : Fin 4 → Nat :=
  let c16_2594 : Index := 16#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7008 : Index := Scalar.indexCast v6122
  let c0_2595 : Index := 0#32
  let c0_2596 : Index := 0#32
  ![16, v7008.toNat, 0, 0]
def k0_off274 (i : grid0.Coords) : Fin 4 → Nat :=
  let c17_2597 : Index := 17#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7012 : Index := Scalar.indexCast v6122
  let c0_2598 : Index := 0#32
  let c0_2599 : Index := 0#32
  ![17, v7012.toNat, 0, 0]
def k0_off275 (i : grid0.Coords) : Fin 4 → Nat :=
  let c18_2600 : Index := 18#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7016 : Index := Scalar.indexCast v6122
  let c0_2601 : Index := 0#32
  let c0_2602 : Index := 0#32
  ![18, v7016.toNat, 0, 0]
def k0_off276 (i : grid0.Coords) : Fin 4 → Nat :=
  let c19_2603 : Index := 19#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7020 : Index := Scalar.indexCast v6122
  let c0_2604 : Index := 0#32
  let c0_2605 : Index := 0#32
  ![19, v7020.toNat, 0, 0]
def k0_off277 (i : grid0.Coords) : Fin 4 → Nat :=
  let c20_2606 : Index := 20#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7024 : Index := Scalar.indexCast v6122
  let c0_2607 : Index := 0#32
  let c0_2608 : Index := 0#32
  ![20, v7024.toNat, 0, 0]
def k0_off278 (i : grid0.Coords) : Fin 4 → Nat :=
  let c21_2609 : Index := 21#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7028 : Index := Scalar.indexCast v6122
  let c0_2610 : Index := 0#32
  let c0_2611 : Index := 0#32
  ![21, v7028.toNat, 0, 0]
def k0_off279 (i : grid0.Coords) : Fin 4 → Nat :=
  let c22_2612 : Index := 22#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7032 : Index := Scalar.indexCast v6122
  let c0_2613 : Index := 0#32
  let c0_2614 : Index := 0#32
  ![22, v7032.toNat, 0, 0]
def k0_off280 (i : grid0.Coords) : Fin 4 → Nat :=
  let c23_2615 : Index := 23#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7036 : Index := Scalar.indexCast v6122
  let c0_2616 : Index := 0#32
  let c0_2617 : Index := 0#32
  ![23, v7036.toNat, 0, 0]
def k0_off281 (i : grid0.Coords) : Fin 4 → Nat :=
  let c24_2618 : Index := 24#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7040 : Index := Scalar.indexCast v6122
  let c0_2619 : Index := 0#32
  let c0_2620 : Index := 0#32
  ![24, v7040.toNat, 0, 0]
def k0_off282 (i : grid0.Coords) : Fin 4 → Nat :=
  let c25_2621 : Index := 25#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7044 : Index := Scalar.indexCast v6122
  let c0_2622 : Index := 0#32
  let c0_2623 : Index := 0#32
  ![25, v7044.toNat, 0, 0]
def k0_off283 (i : grid0.Coords) : Fin 4 → Nat :=
  let c26_2624 : Index := 26#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7048 : Index := Scalar.indexCast v6122
  let c0_2625 : Index := 0#32
  let c0_2626 : Index := 0#32
  ![26, v7048.toNat, 0, 0]
def k0_off284 (i : grid0.Coords) : Fin 4 → Nat :=
  let c27_2627 : Index := 27#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7052 : Index := Scalar.indexCast v6122
  let c0_2628 : Index := 0#32
  let c0_2629 : Index := 0#32
  ![27, v7052.toNat, 0, 0]
def k0_off285 (i : grid0.Coords) : Fin 4 → Nat :=
  let c28_2630 : Index := 28#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7056 : Index := Scalar.indexCast v6122
  let c0_2631 : Index := 0#32
  let c0_2632 : Index := 0#32
  ![28, v7056.toNat, 0, 0]
def k0_off286 (i : grid0.Coords) : Fin 4 → Nat :=
  let c29_2633 : Index := 29#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7060 : Index := Scalar.indexCast v6122
  let c0_2634 : Index := 0#32
  let c0_2635 : Index := 0#32
  ![29, v7060.toNat, 0, 0]
def k0_off287 (i : grid0.Coords) : Fin 4 → Nat :=
  let c30_2636 : Index := 30#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7064 : Index := Scalar.indexCast v6122
  let c0_2637 : Index := 0#32
  let c0_2638 : Index := 0#32
  ![30, v7064.toNat, 0, 0]
def k0_off288 (i : grid0.Coords) : Fin 4 → Nat :=
  let c31_2639 : Index := 31#32
  let c2_i32_2289 : BitVec 32 := 2#32
  let c2_i32 : BitVec 32 := 2#32
  let arg1 : BitVec 32 := BitVec.ofNat 32 (i 1).val
  let v8 : BitVec 32 := Scalar.muli c2_i32 arg1
  let c2_i32_23 : BitVec 32 := 2#32
  let v53 : BitVec 32 := Scalar.addi v8 c2_i32_23
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c2_i32_24 : BitVec 32 := 2#32
  let c0_i32_27 : BitVec 32 := 0#32
  let v60 : BitVec 1 := Scalar.cmpi .sgt c2_i32_24 c0_i32_27
  let v61 : BitVec 32 := Scalar.extui v60
  let c0_i32_28 : BitVec 32 := 0#32
  let v62 : BitVec 1 := Scalar.cmpi .slt c2_i32_24 c0_i32_28
  let v63 : BitVec 32 := Scalar.extui v62
  let v64 : BitVec 32 := Scalar.subi v61 v63
  let v65 : BitVec 1 := Scalar.cmpi .ne v59 v64
  let v66 : BitVec 32 := Scalar.remsi v53 c2_i32_24
  let c0_i32_29 : BitVec 32 := 0#32
  let v67 : BitVec 1 := Scalar.cmpi .ne v66 c0_i32_29
  let v68 : BitVec 1 := Scalar.andi v65 v67
  let v54 : BitVec 32 := Scalar.divsi v53 c2_i32_24
  let c1_i32_30 : BitVec 32 := 1#32
  let v69 : BitVec 32 := Scalar.subi v54 c1_i32_30
  let v70 : BitVec 32 := Scalar.select v68 v69 v54
  let c1_i32_31 : BitVec 32 := 1#32
  let v71 : BitVec 32 := Scalar.addi v70 c1_i32_31
  let c0_i32_33 : BitVec 32 := 0#32
  let v73 : BitVec 1 := Scalar.cmpi .sgt v71 c0_i32_33
  let v74 : BitVec 32 := Scalar.extui v73
  let c0_i32_34 : BitVec 32 := 0#32
  let v75 : BitVec 1 := Scalar.cmpi .slt v71 c0_i32_34
  let v76 : BitVec 32 := Scalar.extui v75
  let v77 : BitVec 32 := Scalar.subi v74 v76
  let c2_i32_32 : BitVec 32 := 2#32
  let c0_i32_35 : BitVec 32 := 0#32
  let v78 : BitVec 1 := Scalar.cmpi .sgt c2_i32_32 c0_i32_35
  let v79 : BitVec 32 := Scalar.extui v78
  let c0_i32_36 : BitVec 32 := 0#32
  let v80 : BitVec 1 := Scalar.cmpi .slt c2_i32_32 c0_i32_36
  let v81 : BitVec 32 := Scalar.extui v80
  let v82 : BitVec 32 := Scalar.subi v79 v81
  let v83 : BitVec 1 := Scalar.cmpi .ne v77 v82
  let v84 : BitVec 32 := Scalar.remsi v71 c2_i32_32
  let c0_i32_37 : BitVec 32 := 0#32
  let v85 : BitVec 1 := Scalar.cmpi .ne v84 c0_i32_37
  let v86 : BitVec 1 := Scalar.andi v83 v85
  let v72 : BitVec 32 := Scalar.divsi v71 c2_i32_32
  let c1_i32_38 : BitVec 32 := 1#32
  let v87 : BitVec 32 := Scalar.subi v72 c1_i32_38
  let v88 : BitVec 32 := Scalar.select v86 v87 v72
  let v6121 : BitVec 32 := Scalar.muli c2_i32_2289 v88
  let c1_i32_2290 : BitVec 32 := 1#32
  let v6122 : BitVec 32 := Scalar.addi v6121 c1_i32_2290
  let v7068 : Index := Scalar.indexCast v6122
  let c0_2640 : Index := 0#32
  let c0_2641 : Index := 0#32
  ![31, v7068.toNat, 0, 0]
def k0_cond6 (i : grid0.Coords) : BitVec 1 :=
  let c2_i32_997 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v2699 : BitVec 32 := Scalar.muli c2_i32_997 v2686
  let c16_i32_998 : BitVec 32 := 16#32
  let v2700 : BitVec 1 := Scalar.cmpi .sle v2699 c16_i32_998
  let v2701 : BitVec 32 := Scalar.extui v2700
  let c0_i32_999 : BitVec 32 := 0#32
  let v2702 : BitVec 1 := Scalar.cmpi .ne v2701 c0_i32_999
  v2702

@[reducible] def k0_t10_loop : Scf.Loop 32 :=
  let c0_i32_1937 : BitVec 32 := 0#32
  let c32_i32 : BitVec 32 := 32#32
  let v5171 : BitVec 32 := Scalar.addi c0_i32_1937 c32_i32
  let c1_i32_1938 : BitVec 32 := 1#32
  ⟨c0_i32_1937, v5171, c1_i32_1938⟩
def k0_off289 (k0_t10 : Fin k0_t10_loop.trips) : Fin 4 → Nat :=
  let c31_i32_1940 : BitVec 32 := 31#32
  let c0_i32_1937 : BitVec 32 := 0#32
  let c1_i32_1938 : BitVec 32 := 1#32
  let arg25 : BitVec 32 := Scf.iv c0_i32_1937 c1_i32_1938 k0_t10
  let v5173 : BitVec 32 := Scalar.subi c31_i32_1940 arg25
  let v5175 : Index := Scalar.indexCast v5173
  let c0_1944 : Index := 0#32
  let c0_1945 : Index := 0#32
  let c0_1946 : Index := 0#32
  ![v5175.toNat, 0, 0, 0]
@[reducible] def k0_t11_loop : Scf.Loop 32 :=
  let c0_i32_1937 : BitVec 32 := 0#32
  let c32_i32 : BitVec 32 := 32#32
  let v5171 : BitVec 32 := Scalar.addi c0_i32_1937 c32_i32
  let c1_i32_1938 : BitVec 32 := 1#32
  ⟨c0_i32_1937, v5171, c1_i32_1938⟩
def k0_off290 (k0_t11 : Fin k0_t11_loop.trips) : Fin 4 → Nat :=
  let c31_i32_1940 : BitVec 32 := 31#32
  let c0_i32_1937 : BitVec 32 := 0#32
  let c1_i32_1938 : BitVec 32 := 1#32
  let arg25 : BitVec 32 := Scf.iv c0_i32_1937 c1_i32_1938 k0_t11
  let v5173 : BitVec 32 := Scalar.subi c31_i32_1940 arg25
  let v5175 : Index := Scalar.indexCast v5173
  let c0_1944 : Index := 0#32
  let c0_1945 : Index := 0#32
  let c0_1946 : Index := 0#32
  ![v5175.toNat, 0, 0, 0]
@[reducible] def k0_t12_loop : Scf.Loop 32 :=
  let c0_i32_1940 : BitVec 32 := 0#32
  let c14_i32 : BitVec 32 := 14#32
  let v5179 : BitVec 32 := Scalar.addi c0_i32_1940 c14_i32
  let c1_i32_1941 : BitVec 32 := 1#32
  ⟨c0_i32_1940, v5179, c1_i32_1941⟩
@[reducible] def k0_t13_loop (i : grid0.Coords) : Scf.Loop 32 :=
  let c0_i32_1952 : BitVec 32 := 0#32
  let c2_i32_1950 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5191 : BitVec 32 := Scalar.muli c2_i32_1950 v2686
  let v5193 : BitVec 32 := Scalar.subi v5191 c0_i32_1952
  let c1_i32_1953 : BitVec 32 := 1#32
  let v5195 : BitVec 32 := Scalar.divsi v5193 c1_i32_1953
  let v5196 : BitVec 32 := Scalar.muli v5195 c1_i32_1953
  let v5197 : BitVec 32 := Scalar.addi c0_i32_1952 v5196
  let c1_i32_1954 : BitVec 32 := 1#32
  ⟨c0_i32_1952, v5197, c1_i32_1954⟩
def k0_mult27 (i : grid0.Coords) (k0_t13 : Fin (k0_t13_loop i).trips) : BitVec 32 :=
  let c0_i32_1952 : BitVec 32 := 0#32
  let c1_i32_1954 : BitVec 32 := 1#32
  let arg27 : BitVec 32 := Scf.iv c0_i32_1952 c1_i32_1954 k0_t13
  let c256_i32_1956 : BitVec 32 := 256#32
  let v5202 : BitVec 32 := Scalar.muli arg27 c256_i32_1956
  v5202
def k0_off291 (i : grid0.Coords) (k0_t13 : Fin (k0_t13_loop i).trips) : Fin 2 → Nat :=
  let c0_i32_1952 : BitVec 32 := 0#32
  let c1_i32_1954 : BitVec 32 := 1#32
  let arg27 : BitVec 32 := Scf.iv c0_i32_1952 c1_i32_1954 k0_t13
  let c256_i32_1956 : BitVec 32 := 256#32
  let v5202 : BitVec 32 := Scalar.muli arg27 c256_i32_1956
  let v5203 : BitVec 32 := v5202
  let v5204 : Index := Scalar.indexCast v5203
  let c0_1957 : Index := 0#32
  ![v5204.toNat, 0]
@[reducible] def k0_t14_loop (i : grid0.Coords) : Scf.Loop 32 :=
  let c0_i32_1952 : BitVec 32 := 0#32
  let c2_i32_1950 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5191 : BitVec 32 := Scalar.muli c2_i32_1950 v2686
  let v5193 : BitVec 32 := Scalar.subi v5191 c0_i32_1952
  let c1_i32_1953 : BitVec 32 := 1#32
  let v5195 : BitVec 32 := Scalar.divsi v5193 c1_i32_1953
  let v5196 : BitVec 32 := Scalar.muli v5195 c1_i32_1953
  let v5197 : BitVec 32 := Scalar.addi c0_i32_1952 v5196
  let v5194 : BitVec 32 := Scalar.addi c0_i32_1952 v5193
  let c1_i32_1955 : BitVec 32 := 1#32
  ⟨v5197, v5194, c1_i32_1955⟩
def k0_mult28 (i : grid0.Coords) (k0_t14 : Fin (k0_t14_loop i).trips) : BitVec 32 :=
  let c0_i32_1952 : BitVec 32 := 0#32
  let c2_i32_1950 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5191 : BitVec 32 := Scalar.muli c2_i32_1950 v2686
  let v5193 : BitVec 32 := Scalar.subi v5191 c0_i32_1952
  let c1_i32_1953 : BitVec 32 := 1#32
  let v5195 : BitVec 32 := Scalar.divsi v5193 c1_i32_1953
  let v5196 : BitVec 32 := Scalar.muli v5195 c1_i32_1953
  let v5197 : BitVec 32 := Scalar.addi c0_i32_1952 v5196
  let c1_i32_1955 : BitVec 32 := 1#32
  let arg27 : BitVec 32 := Scf.iv v5197 c1_i32_1955 k0_t14
  let c256_i32_1956 : BitVec 32 := 256#32
  let v5202 : BitVec 32 := Scalar.muli arg27 c256_i32_1956
  v5202
def k0_off292 (i : grid0.Coords) (k0_t14 : Fin (k0_t14_loop i).trips) : Fin 2 → Nat :=
  let c0_i32_1952 : BitVec 32 := 0#32
  let c2_i32_1950 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5191 : BitVec 32 := Scalar.muli c2_i32_1950 v2686
  let v5193 : BitVec 32 := Scalar.subi v5191 c0_i32_1952
  let c1_i32_1953 : BitVec 32 := 1#32
  let v5195 : BitVec 32 := Scalar.divsi v5193 c1_i32_1953
  let v5196 : BitVec 32 := Scalar.muli v5195 c1_i32_1953
  let v5197 : BitVec 32 := Scalar.addi c0_i32_1952 v5196
  let c1_i32_1955 : BitVec 32 := 1#32
  let arg27 : BitVec 32 := Scf.iv v5197 c1_i32_1955 k0_t14
  let c256_i32_1956 : BitVec 32 := 256#32
  let v5202 : BitVec 32 := Scalar.muli arg27 c256_i32_1956
  let v5203 : BitVec 32 := v5202
  let v5204 : Index := Scalar.indexCast v5203
  let c0_1957 : Index := 0#32
  ![v5204.toNat, 0]
@[reducible] def k0_t15_loop (i : grid0.Coords) : Scf.Loop 32 :=
  let c0_i32_1945 : BitVec 32 := 0#32
  let c2_i32_1943 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5181 : BitVec 32 := Scalar.muli c2_i32_1943 v2686
  let v5182 : BitVec 32 := Scalar.subi v5181 c0_i32_1945
  let c1_i32_1946 : BitVec 32 := 1#32
  let v5184 : BitVec 32 := Scalar.divsi v5182 c1_i32_1946
  let v5185 : BitVec 32 := Scalar.muli v5184 c1_i32_1946
  let v5186 : BitVec 32 := Scalar.addi c0_i32_1945 v5185
  let c1_i32_1947 : BitVec 32 := 1#32
  ⟨c0_i32_1945, v5186, c1_i32_1947⟩
def k0_mult29 (i : grid0.Coords) (k0_t15 : Fin (k0_t15_loop i).trips) : BitVec 32 :=
  let c0_i32_1945 : BitVec 32 := 0#32
  let c1_i32_1947 : BitVec 32 := 1#32
  let arg25 : BitVec 32 := Scf.iv c0_i32_1945 c1_i32_1947 k0_t15
  let c256_i32_1949 : BitVec 32 := 256#32
  let v5187 : BitVec 32 := Scalar.muli arg25 c256_i32_1949
  v5187
def k0_off293 (i : grid0.Coords) (k0_t15 : Fin (k0_t15_loop i).trips) : Fin 2 → Nat :=
  let c0_i32_1945 : BitVec 32 := 0#32
  let c1_i32_1947 : BitVec 32 := 1#32
  let arg25 : BitVec 32 := Scf.iv c0_i32_1945 c1_i32_1947 k0_t15
  let c256_i32_1949 : BitVec 32 := 256#32
  let v5187 : BitVec 32 := Scalar.muli arg25 c256_i32_1949
  let v5188 : BitVec 32 := v5187
  let v5189 : Index := Scalar.indexCast v5188
  let c0_1950 : Index := 0#32
  ![v5189.toNat, 0]
@[reducible] def k0_t16_loop (i : grid0.Coords) : Scf.Loop 32 :=
  let c0_i32_1945 : BitVec 32 := 0#32
  let c2_i32_1943 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5181 : BitVec 32 := Scalar.muli c2_i32_1943 v2686
  let v5182 : BitVec 32 := Scalar.subi v5181 c0_i32_1945
  let c1_i32_1946 : BitVec 32 := 1#32
  let v5184 : BitVec 32 := Scalar.divsi v5182 c1_i32_1946
  let v5185 : BitVec 32 := Scalar.muli v5184 c1_i32_1946
  let v5186 : BitVec 32 := Scalar.addi c0_i32_1945 v5185
  let v5183 : BitVec 32 := Scalar.addi c0_i32_1945 v5182
  let c1_i32_1948 : BitVec 32 := 1#32
  ⟨v5186, v5183, c1_i32_1948⟩
def k0_mult30 (i : grid0.Coords) (k0_t16 : Fin (k0_t16_loop i).trips) : BitVec 32 :=
  let c0_i32_1945 : BitVec 32 := 0#32
  let c2_i32_1943 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5181 : BitVec 32 := Scalar.muli c2_i32_1943 v2686
  let v5182 : BitVec 32 := Scalar.subi v5181 c0_i32_1945
  let c1_i32_1946 : BitVec 32 := 1#32
  let v5184 : BitVec 32 := Scalar.divsi v5182 c1_i32_1946
  let v5185 : BitVec 32 := Scalar.muli v5184 c1_i32_1946
  let v5186 : BitVec 32 := Scalar.addi c0_i32_1945 v5185
  let c1_i32_1948 : BitVec 32 := 1#32
  let arg25 : BitVec 32 := Scf.iv v5186 c1_i32_1948 k0_t16
  let c256_i32_1949 : BitVec 32 := 256#32
  let v5187 : BitVec 32 := Scalar.muli arg25 c256_i32_1949
  v5187
def k0_off294 (i : grid0.Coords) (k0_t16 : Fin (k0_t16_loop i).trips) : Fin 2 → Nat :=
  let c0_i32_1945 : BitVec 32 := 0#32
  let c2_i32_1943 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5181 : BitVec 32 := Scalar.muli c2_i32_1943 v2686
  let v5182 : BitVec 32 := Scalar.subi v5181 c0_i32_1945
  let c1_i32_1946 : BitVec 32 := 1#32
  let v5184 : BitVec 32 := Scalar.divsi v5182 c1_i32_1946
  let v5185 : BitVec 32 := Scalar.muli v5184 c1_i32_1946
  let v5186 : BitVec 32 := Scalar.addi c0_i32_1945 v5185
  let c1_i32_1948 : BitVec 32 := 1#32
  let arg25 : BitVec 32 := Scf.iv v5186 c1_i32_1948 k0_t16
  let c256_i32_1949 : BitVec 32 := 256#32
  let v5187 : BitVec 32 := Scalar.muli arg25 c256_i32_1949
  let v5188 : BitVec 32 := v5187
  let v5189 : Index := Scalar.indexCast v5188
  let c0_1950 : Index := 0#32
  ![v5189.toNat, 0]
def k0_mult31 : BitVec 32 :=
  let c0_i32_1054 : BitVec 32 := 0#32
  c0_i32_1054
@[reducible] def k0_t17_loop (i : grid0.Coords) : Scf.Loop 32 :=
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1073 : BitVec 32 := 1#32
  ⟨c0_i32_1071, v2970, c1_i32_1073⟩
def k0_mult32 (i : grid0.Coords) (k0_t17 : Fin (k0_t17_loop i).trips) : BitVec 32 :=
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let c1_i32_1938 : BitVec 32 := 1#32
  let v5172 : BitVec 32 := Scalar.addi v5171 c1_i32_1938
  let c256_i32_1939 : BitVec 32 := 256#32
  let v5173 : BitVec 32 := Scalar.muli v5172 c256_i32_1939
  v5173
def k0_off295 (i : grid0.Coords) (k0_t17 : Fin (k0_t17_loop i).trips) (c1_i32_1938 : BitVec 32) : Fin 2 → Nat :=
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let v5172 : BitVec 32 := Scalar.addi v5171 c1_i32_1938
  let c256_i32_1939 : BitVec 32 := 256#32
  let v5173 : BitVec 32 := Scalar.muli v5172 c256_i32_1939
  let v5174 : BitVec 32 := v5173
  let v5175 : Index := Scalar.indexCast v5174
  let c0_1940 : Index := 0#32
  ![v5175.toNat, 0]
def k0_off296 (i : grid0.Coords) (k0_t17 : Fin (k0_t17_loop i).trips) (c1_i32_1938 : BitVec 32) : Fin 2 → Nat :=
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let v5172 : BitVec 32 := Scalar.addi v5171 c1_i32_1938
  let c256_i32_1939 : BitVec 32 := 256#32
  let v5173 : BitVec 32 := Scalar.muli v5172 c256_i32_1939
  let v5174 : BitVec 32 := v5173
  let v5182 : Index := Scalar.indexCast v5174
  let c128_1947 : Index := 128#32
  ![v5182.toNat, 128]
def k0_mult33 (i : grid0.Coords) (k0_t17 : Fin (k0_t17_loop i).trips) : BitVec 32 :=
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let c256_i32_1954 : BitVec 32 := 256#32
  let v5189 : BitVec 32 := Scalar.muli v5171 c256_i32_1954
  v5189
def k0_off297 (i : grid0.Coords) (k0_t17 : Fin (k0_t17_loop i).trips) : Fin 2 → Nat :=
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let c256_i32_1954 : BitVec 32 := 256#32
  let v5189 : BitVec 32 := Scalar.muli v5171 c256_i32_1954
  let v5190 : BitVec 32 := v5189
  let v5191 : Index := Scalar.indexCast v5190
  let c0_1955 : Index := 0#32
  ![v5191.toNat, 0]
def k0_off298 (i : grid0.Coords) (k0_t17 : Fin (k0_t17_loop i).trips) : Fin 4 → Nat :=
  let c0_1968 : Index := 0#32
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let v5222 : Index := Scalar.indexCast v5171
  let c0_1969 : Index := 0#32
  let c0_1970 : Index := 0#32
  ![0, v5222.toNat, 0, 0]
def k0_off299 (i : grid0.Coords) (k0_t17 : Fin (k0_t17_loop i).trips) : Fin 4 → Nat :=
  let c0_1994 : Index := 0#32
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let v5271 : Index := Scalar.indexCast v5171
  let c128_1995 : Index := 128#32
  let c0_1996 : Index := 0#32
  ![0, v5271.toNat, 128, 0]
def k0_mult34 (i : grid0.Coords) (k0_t17 : Fin (k0_t17_loop i).trips) : BitVec 32 :=
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let c2_i32_2008 : BitVec 32 := 2#32
  let v5293 : BitVec 32 := Scalar.addi v5171 c2_i32_2008
  let c256_i32_2009 : BitVec 32 := 256#32
  let v5294 : BitVec 32 := Scalar.muli v5293 c256_i32_2009
  v5294
def k0_mult35 (i : grid0.Coords) (k0_t17 : Fin (k0_t17_loop i).trips) : BitVec 32 :=
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let c1_i32_2024 : BitVec 32 := 1#32
  let v5310 : BitVec 32 := Scalar.addi v5171 c1_i32_2024
  let c256_i32_2025 : BitVec 32 := 256#32
  let v5311 : BitVec 32 := Scalar.muli v5310 c256_i32_2025
  v5311
def k0_off300 (i : grid0.Coords) (k0_t17 : Fin (k0_t17_loop i).trips) : Fin 2 → Nat :=
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let c1_i32_2024 : BitVec 32 := 1#32
  let v5310 : BitVec 32 := Scalar.addi v5171 c1_i32_2024
  let c256_i32_2025 : BitVec 32 := 256#32
  let v5311 : BitVec 32 := Scalar.muli v5310 c256_i32_2025
  let v5312 : BitVec 32 := v5311
  let v5313 : Index := Scalar.indexCast v5312
  let c0_2026 : Index := 0#32
  ![v5313.toNat, 0]
def k0_off301 (i : grid0.Coords) (k0_t17 : Fin (k0_t17_loop i).trips) : Fin 4 → Nat :=
  let c0_2039 : Index := 0#32
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let c1_i32_2024 : BitVec 32 := 1#32
  let v5310 : BitVec 32 := Scalar.addi v5171 c1_i32_2024
  let v5344 : Index := Scalar.indexCast v5310
  let c0_2040 : Index := 0#32
  let c0_2041 : Index := 0#32
  ![0, v5344.toNat, 0, 0]
def k0_off302 (i : grid0.Coords) (k0_t17 : Fin (k0_t17_loop i).trips) : Fin 4 → Nat :=
  let c0_2065 : Index := 0#32
  let c2_i32_1937 : BitVec 32 := 2#32
  let c0_i32_1071 : BitVec 32 := 0#32
  let c1_i32_1073 : BitVec 32 := 1#32
  let arg25 : BitVec 32 := Scf.iv c0_i32_1071 c1_i32_1073 k0_t17
  let v5171 : BitVec 32 := Scalar.muli c2_i32_1937 arg25
  let c1_i32_2024 : BitVec 32 := 1#32
  let v5310 : BitVec 32 := Scalar.addi v5171 c1_i32_2024
  let v5393 : Index := Scalar.indexCast v5310
  let c128_2066 : Index := 128#32
  let c0_2067 : Index := 0#32
  ![0, v5393.toNat, 128, 0]
def k0_mult36 (i : grid0.Coords) (k0_t17 : Fin (k0_t17_loop i).trips) : BitVec 32 :=
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let c256_i32_2080 : BitVec 32 := 256#32
  let v5416 : BitVec 32 := Scalar.muli v5415 c256_i32_2080
  v5416
def k0_off303 (i : grid0.Coords) (k0_t17 : Fin (k0_t17_loop i).trips) : Fin 4 → Nat :=
  let c0_2334 : Index := 0#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6230 : Index := Scalar.indexCast v5415
  let c0_2335 : Index := 0#32
  let c0_2336 : Index := 0#32
  ![0, v6230.toNat, 0, 0]
def k0_off304 (i : grid0.Coords) (k0_t17 : Fin (k0_t17_loop i).trips) : Fin 4 → Nat :=
  let c1_2337 : Index := 1#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6234 : Index := Scalar.indexCast v5415
  let c0_2338 : Index := 0#32
  let c0_2339 : Index := 0#32
  ![1, v6234.toNat, 0, 0]
def k0_off305 (i : grid0.Coords) (k0_t17 : Fin (k0_t17_loop i).trips) : Fin 4 → Nat :=
  let c2_2340 : Index := 2#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6238 : Index := Scalar.indexCast v5415
  let c0_2341 : Index := 0#32
  let c0_2342 : Index := 0#32
  ![2, v6238.toNat, 0, 0]
def k0_off306 (i : grid0.Coords) (k0_t17 : Fin (k0_t17_loop i).trips) : Fin 4 → Nat :=
  let c3_2343 : Index := 3#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6242 : Index := Scalar.indexCast v5415
  let c0_2344 : Index := 0#32
  let c0_2345 : Index := 0#32
  ![3, v6242.toNat, 0, 0]
def k0_off307 (i : grid0.Coords) (k0_t17 : Fin (k0_t17_loop i).trips) : Fin 4 → Nat :=
  let c4_2346 : Index := 4#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6246 : Index := Scalar.indexCast v5415
  let c0_2347 : Index := 0#32
  let c0_2348 : Index := 0#32
  ![4, v6246.toNat, 0, 0]
def k0_off308 (i : grid0.Coords) (k0_t17 : Fin (k0_t17_loop i).trips) : Fin 4 → Nat :=
  let c5_2349 : Index := 5#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6250 : Index := Scalar.indexCast v5415
  let c0_2350 : Index := 0#32
  let c0_2351 : Index := 0#32
  ![5, v6250.toNat, 0, 0]
def k0_off309 (i : grid0.Coords) (k0_t17 : Fin (k0_t17_loop i).trips) : Fin 4 → Nat :=
  let c6_2352 : Index := 6#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6254 : Index := Scalar.indexCast v5415
  let c0_2353 : Index := 0#32
  let c0_2354 : Index := 0#32
  ![6, v6254.toNat, 0, 0]
def k0_off310 (i : grid0.Coords) (k0_t17 : Fin (k0_t17_loop i).trips) : Fin 4 → Nat :=
  let c7_2355 : Index := 7#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6258 : Index := Scalar.indexCast v5415
  let c0_2356 : Index := 0#32
  let c0_2357 : Index := 0#32
  ![7, v6258.toNat, 0, 0]
def k0_off311 (i : grid0.Coords) (k0_t17 : Fin (k0_t17_loop i).trips) : Fin 4 → Nat :=
  let c8_2358 : Index := 8#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6262 : Index := Scalar.indexCast v5415
  let c0_2359 : Index := 0#32
  let c0_2360 : Index := 0#32
  ![8, v6262.toNat, 0, 0]
def k0_off312 (i : grid0.Coords) (k0_t17 : Fin (k0_t17_loop i).trips) : Fin 4 → Nat :=
  let c9_2361 : Index := 9#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6266 : Index := Scalar.indexCast v5415
  let c0_2362 : Index := 0#32
  let c0_2363 : Index := 0#32
  ![9, v6266.toNat, 0, 0]
def k0_off313 (i : grid0.Coords) (k0_t17 : Fin (k0_t17_loop i).trips) : Fin 4 → Nat :=
  let c10_2364 : Index := 10#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6270 : Index := Scalar.indexCast v5415
  let c0_2365 : Index := 0#32
  let c0_2366 : Index := 0#32
  ![10, v6270.toNat, 0, 0]
def k0_off314 (i : grid0.Coords) (k0_t17 : Fin (k0_t17_loop i).trips) : Fin 4 → Nat :=
  let c11_2367 : Index := 11#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6274 : Index := Scalar.indexCast v5415
  let c0_2368 : Index := 0#32
  let c0_2369 : Index := 0#32
  ![11, v6274.toNat, 0, 0]
def k0_off315 (i : grid0.Coords) (k0_t17 : Fin (k0_t17_loop i).trips) : Fin 4 → Nat :=
  let c12_2370 : Index := 12#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6278 : Index := Scalar.indexCast v5415
  let c0_2371 : Index := 0#32
  let c0_2372 : Index := 0#32
  ![12, v6278.toNat, 0, 0]
def k0_off316 (i : grid0.Coords) (k0_t17 : Fin (k0_t17_loop i).trips) : Fin 4 → Nat :=
  let c13_2373 : Index := 13#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6282 : Index := Scalar.indexCast v5415
  let c0_2374 : Index := 0#32
  let c0_2375 : Index := 0#32
  ![13, v6282.toNat, 0, 0]
def k0_off317 (i : grid0.Coords) (k0_t17 : Fin (k0_t17_loop i).trips) : Fin 4 → Nat :=
  let c14_2376 : Index := 14#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6286 : Index := Scalar.indexCast v5415
  let c0_2377 : Index := 0#32
  let c0_2378 : Index := 0#32
  ![14, v6286.toNat, 0, 0]
def k0_off318 (i : grid0.Coords) (k0_t17 : Fin (k0_t17_loop i).trips) : Fin 4 → Nat :=
  let c15_2379 : Index := 15#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6290 : Index := Scalar.indexCast v5415
  let c0_2380 : Index := 0#32
  let c0_2381 : Index := 0#32
  ![15, v6290.toNat, 0, 0]
def k0_off319 (i : grid0.Coords) (k0_t17 : Fin (k0_t17_loop i).trips) : Fin 4 → Nat :=
  let c16_2382 : Index := 16#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6294 : Index := Scalar.indexCast v5415
  let c0_2383 : Index := 0#32
  let c0_2384 : Index := 0#32
  ![16, v6294.toNat, 0, 0]
def k0_off320 (i : grid0.Coords) (k0_t17 : Fin (k0_t17_loop i).trips) : Fin 4 → Nat :=
  let c17_2385 : Index := 17#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6298 : Index := Scalar.indexCast v5415
  let c0_2386 : Index := 0#32
  let c0_2387 : Index := 0#32
  ![17, v6298.toNat, 0, 0]
def k0_off321 (i : grid0.Coords) (k0_t17 : Fin (k0_t17_loop i).trips) : Fin 4 → Nat :=
  let c18_2388 : Index := 18#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6302 : Index := Scalar.indexCast v5415
  let c0_2389 : Index := 0#32
  let c0_2390 : Index := 0#32
  ![18, v6302.toNat, 0, 0]
def k0_off322 (i : grid0.Coords) (k0_t17 : Fin (k0_t17_loop i).trips) : Fin 4 → Nat :=
  let c19_2391 : Index := 19#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6306 : Index := Scalar.indexCast v5415
  let c0_2392 : Index := 0#32
  let c0_2393 : Index := 0#32
  ![19, v6306.toNat, 0, 0]
def k0_off323 (i : grid0.Coords) (k0_t17 : Fin (k0_t17_loop i).trips) : Fin 4 → Nat :=
  let c20_2394 : Index := 20#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6310 : Index := Scalar.indexCast v5415
  let c0_2395 : Index := 0#32
  let c0_2396 : Index := 0#32
  ![20, v6310.toNat, 0, 0]
def k0_off324 (i : grid0.Coords) (k0_t17 : Fin (k0_t17_loop i).trips) : Fin 4 → Nat :=
  let c21_2397 : Index := 21#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6314 : Index := Scalar.indexCast v5415
  let c0_2398 : Index := 0#32
  let c0_2399 : Index := 0#32
  ![21, v6314.toNat, 0, 0]
def k0_off325 (i : grid0.Coords) (k0_t17 : Fin (k0_t17_loop i).trips) : Fin 4 → Nat :=
  let c22_2400 : Index := 22#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6318 : Index := Scalar.indexCast v5415
  let c0_2401 : Index := 0#32
  let c0_2402 : Index := 0#32
  ![22, v6318.toNat, 0, 0]
def k0_off326 (i : grid0.Coords) (k0_t17 : Fin (k0_t17_loop i).trips) : Fin 4 → Nat :=
  let c23_2403 : Index := 23#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6322 : Index := Scalar.indexCast v5415
  let c0_2404 : Index := 0#32
  let c0_2405 : Index := 0#32
  ![23, v6322.toNat, 0, 0]
def k0_off327 (i : grid0.Coords) (k0_t17 : Fin (k0_t17_loop i).trips) : Fin 4 → Nat :=
  let c24_2406 : Index := 24#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6326 : Index := Scalar.indexCast v5415
  let c0_2407 : Index := 0#32
  let c0_2408 : Index := 0#32
  ![24, v6326.toNat, 0, 0]
def k0_off328 (i : grid0.Coords) (k0_t17 : Fin (k0_t17_loop i).trips) : Fin 4 → Nat :=
  let c25_2409 : Index := 25#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6330 : Index := Scalar.indexCast v5415
  let c0_2410 : Index := 0#32
  let c0_2411 : Index := 0#32
  ![25, v6330.toNat, 0, 0]
def k0_off329 (i : grid0.Coords) (k0_t17 : Fin (k0_t17_loop i).trips) : Fin 4 → Nat :=
  let c26_2412 : Index := 26#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6334 : Index := Scalar.indexCast v5415
  let c0_2413 : Index := 0#32
  let c0_2414 : Index := 0#32
  ![26, v6334.toNat, 0, 0]
def k0_off330 (i : grid0.Coords) (k0_t17 : Fin (k0_t17_loop i).trips) : Fin 4 → Nat :=
  let c27_2415 : Index := 27#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6338 : Index := Scalar.indexCast v5415
  let c0_2416 : Index := 0#32
  let c0_2417 : Index := 0#32
  ![27, v6338.toNat, 0, 0]
def k0_off331 (i : grid0.Coords) (k0_t17 : Fin (k0_t17_loop i).trips) : Fin 4 → Nat :=
  let c28_2418 : Index := 28#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6342 : Index := Scalar.indexCast v5415
  let c0_2419 : Index := 0#32
  let c0_2420 : Index := 0#32
  ![28, v6342.toNat, 0, 0]
def k0_off332 (i : grid0.Coords) (k0_t17 : Fin (k0_t17_loop i).trips) : Fin 4 → Nat :=
  let c29_2421 : Index := 29#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6346 : Index := Scalar.indexCast v5415
  let c0_2422 : Index := 0#32
  let c0_2423 : Index := 0#32
  ![29, v6346.toNat, 0, 0]
def k0_off333 (i : grid0.Coords) (k0_t17 : Fin (k0_t17_loop i).trips) : Fin 4 → Nat :=
  let c30_2424 : Index := 30#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6350 : Index := Scalar.indexCast v5415
  let c0_2425 : Index := 0#32
  let c0_2426 : Index := 0#32
  ![30, v6350.toNat, 0, 0]
def k0_off334 (i : grid0.Coords) (k0_t17 : Fin (k0_t17_loop i).trips) : Fin 4 → Nat :=
  let c31_2427 : Index := 31#32
  let c2_i32_2079 : BitVec 32 := 2#32
  let c0_i32_1071 : BitVec 32 := 0#32
  let c1_i32_1073 : BitVec 32 := 1#32
  let arg25 : BitVec 32 := Scf.iv c0_i32_1071 c1_i32_1073 k0_t17
  let v5415 : BitVec 32 := Scalar.muli c2_i32_2079 arg25
  let v6354 : Index := Scalar.indexCast v5415
  let c0_2428 : Index := 0#32
  let c0_2429 : Index := 0#32
  ![31, v6354.toNat, 0, 0]
def k0_mult37 (i : grid0.Coords) (k0_t17 : Fin (k0_t17_loop i).trips) : BitVec 32 :=
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let c256_i32_2432 : BitVec 32 := 256#32
  let v6360 : BitVec 32 := Scalar.muli v6359 c256_i32_2432
  v6360
def k0_off335 (i : grid0.Coords) (k0_t17 : Fin (k0_t17_loop i).trips) : Fin 4 → Nat :=
  let c0_2686 : Index := 0#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7174 : Index := Scalar.indexCast v6359
  let c0_2687 : Index := 0#32
  let c0_2688 : Index := 0#32
  ![0, v7174.toNat, 0, 0]
def k0_off336 (i : grid0.Coords) (k0_t17 : Fin (k0_t17_loop i).trips) : Fin 4 → Nat :=
  let c1_2689 : Index := 1#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7178 : Index := Scalar.indexCast v6359
  let c0_2690 : Index := 0#32
  let c0_2691 : Index := 0#32
  ![1, v7178.toNat, 0, 0]
def k0_off337 (i : grid0.Coords) (k0_t17 : Fin (k0_t17_loop i).trips) : Fin 4 → Nat :=
  let c2_2692 : Index := 2#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7182 : Index := Scalar.indexCast v6359
  let c0_2693 : Index := 0#32
  let c0_2694 : Index := 0#32
  ![2, v7182.toNat, 0, 0]
def k0_off338 (i : grid0.Coords) (k0_t17 : Fin (k0_t17_loop i).trips) : Fin 4 → Nat :=
  let c3_2695 : Index := 3#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7186 : Index := Scalar.indexCast v6359
  let c0_2696 : Index := 0#32
  let c0_2697 : Index := 0#32
  ![3, v7186.toNat, 0, 0]
def k0_off339 (i : grid0.Coords) (k0_t17 : Fin (k0_t17_loop i).trips) : Fin 4 → Nat :=
  let c4_2698 : Index := 4#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7190 : Index := Scalar.indexCast v6359
  let c0_2699 : Index := 0#32
  let c0_2700 : Index := 0#32
  ![4, v7190.toNat, 0, 0]
def k0_off340 (i : grid0.Coords) (k0_t17 : Fin (k0_t17_loop i).trips) : Fin 4 → Nat :=
  let c5_2701 : Index := 5#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7194 : Index := Scalar.indexCast v6359
  let c0_2702 : Index := 0#32
  let c0_2703 : Index := 0#32
  ![5, v7194.toNat, 0, 0]
def k0_off341 (i : grid0.Coords) (k0_t17 : Fin (k0_t17_loop i).trips) : Fin 4 → Nat :=
  let c6_2704 : Index := 6#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7198 : Index := Scalar.indexCast v6359
  let c0_2705 : Index := 0#32
  let c0_2706 : Index := 0#32
  ![6, v7198.toNat, 0, 0]
def k0_off342 (i : grid0.Coords) (k0_t17 : Fin (k0_t17_loop i).trips) : Fin 4 → Nat :=
  let c7_2707 : Index := 7#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7202 : Index := Scalar.indexCast v6359
  let c0_2708 : Index := 0#32
  let c0_2709 : Index := 0#32
  ![7, v7202.toNat, 0, 0]
def k0_off343 (i : grid0.Coords) (k0_t17 : Fin (k0_t17_loop i).trips) : Fin 4 → Nat :=
  let c8_2710 : Index := 8#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7206 : Index := Scalar.indexCast v6359
  let c0_2711 : Index := 0#32
  let c0_2712 : Index := 0#32
  ![8, v7206.toNat, 0, 0]
def k0_off344 (i : grid0.Coords) (k0_t17 : Fin (k0_t17_loop i).trips) : Fin 4 → Nat :=
  let c9_2713 : Index := 9#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7210 : Index := Scalar.indexCast v6359
  let c0_2714 : Index := 0#32
  let c0_2715 : Index := 0#32
  ![9, v7210.toNat, 0, 0]
def k0_off345 (i : grid0.Coords) (k0_t17 : Fin (k0_t17_loop i).trips) : Fin 4 → Nat :=
  let c10_2716 : Index := 10#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7214 : Index := Scalar.indexCast v6359
  let c0_2717 : Index := 0#32
  let c0_2718 : Index := 0#32
  ![10, v7214.toNat, 0, 0]
def k0_off346 (i : grid0.Coords) (k0_t17 : Fin (k0_t17_loop i).trips) : Fin 4 → Nat :=
  let c11_2719 : Index := 11#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7218 : Index := Scalar.indexCast v6359
  let c0_2720 : Index := 0#32
  let c0_2721 : Index := 0#32
  ![11, v7218.toNat, 0, 0]
def k0_off347 (i : grid0.Coords) (k0_t17 : Fin (k0_t17_loop i).trips) : Fin 4 → Nat :=
  let c12_2722 : Index := 12#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7222 : Index := Scalar.indexCast v6359
  let c0_2723 : Index := 0#32
  let c0_2724 : Index := 0#32
  ![12, v7222.toNat, 0, 0]
def k0_off348 (i : grid0.Coords) (k0_t17 : Fin (k0_t17_loop i).trips) : Fin 4 → Nat :=
  let c13_2725 : Index := 13#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7226 : Index := Scalar.indexCast v6359
  let c0_2726 : Index := 0#32
  let c0_2727 : Index := 0#32
  ![13, v7226.toNat, 0, 0]
def k0_off349 (i : grid0.Coords) (k0_t17 : Fin (k0_t17_loop i).trips) : Fin 4 → Nat :=
  let c14_2728 : Index := 14#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7230 : Index := Scalar.indexCast v6359
  let c0_2729 : Index := 0#32
  let c0_2730 : Index := 0#32
  ![14, v7230.toNat, 0, 0]
def k0_off350 (i : grid0.Coords) (k0_t17 : Fin (k0_t17_loop i).trips) : Fin 4 → Nat :=
  let c15_2731 : Index := 15#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7234 : Index := Scalar.indexCast v6359
  let c0_2732 : Index := 0#32
  let c0_2733 : Index := 0#32
  ![15, v7234.toNat, 0, 0]
def k0_off351 (i : grid0.Coords) (k0_t17 : Fin (k0_t17_loop i).trips) : Fin 4 → Nat :=
  let c16_2734 : Index := 16#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7238 : Index := Scalar.indexCast v6359
  let c0_2735 : Index := 0#32
  let c0_2736 : Index := 0#32
  ![16, v7238.toNat, 0, 0]
def k0_off352 (i : grid0.Coords) (k0_t17 : Fin (k0_t17_loop i).trips) : Fin 4 → Nat :=
  let c17_2737 : Index := 17#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7242 : Index := Scalar.indexCast v6359
  let c0_2738 : Index := 0#32
  let c0_2739 : Index := 0#32
  ![17, v7242.toNat, 0, 0]
def k0_off353 (i : grid0.Coords) (k0_t17 : Fin (k0_t17_loop i).trips) : Fin 4 → Nat :=
  let c18_2740 : Index := 18#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7246 : Index := Scalar.indexCast v6359
  let c0_2741 : Index := 0#32
  let c0_2742 : Index := 0#32
  ![18, v7246.toNat, 0, 0]
def k0_off354 (i : grid0.Coords) (k0_t17 : Fin (k0_t17_loop i).trips) : Fin 4 → Nat :=
  let c19_2743 : Index := 19#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7250 : Index := Scalar.indexCast v6359
  let c0_2744 : Index := 0#32
  let c0_2745 : Index := 0#32
  ![19, v7250.toNat, 0, 0]
def k0_off355 (i : grid0.Coords) (k0_t17 : Fin (k0_t17_loop i).trips) : Fin 4 → Nat :=
  let c20_2746 : Index := 20#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7254 : Index := Scalar.indexCast v6359
  let c0_2747 : Index := 0#32
  let c0_2748 : Index := 0#32
  ![20, v7254.toNat, 0, 0]
def k0_off356 (i : grid0.Coords) (k0_t17 : Fin (k0_t17_loop i).trips) : Fin 4 → Nat :=
  let c21_2749 : Index := 21#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7258 : Index := Scalar.indexCast v6359
  let c0_2750 : Index := 0#32
  let c0_2751 : Index := 0#32
  ![21, v7258.toNat, 0, 0]
def k0_off357 (i : grid0.Coords) (k0_t17 : Fin (k0_t17_loop i).trips) : Fin 4 → Nat :=
  let c22_2752 : Index := 22#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7262 : Index := Scalar.indexCast v6359
  let c0_2753 : Index := 0#32
  let c0_2754 : Index := 0#32
  ![22, v7262.toNat, 0, 0]
def k0_off358 (i : grid0.Coords) (k0_t17 : Fin (k0_t17_loop i).trips) : Fin 4 → Nat :=
  let c23_2755 : Index := 23#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7266 : Index := Scalar.indexCast v6359
  let c0_2756 : Index := 0#32
  let c0_2757 : Index := 0#32
  ![23, v7266.toNat, 0, 0]
def k0_off359 (i : grid0.Coords) (k0_t17 : Fin (k0_t17_loop i).trips) : Fin 4 → Nat :=
  let c24_2758 : Index := 24#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7270 : Index := Scalar.indexCast v6359
  let c0_2759 : Index := 0#32
  let c0_2760 : Index := 0#32
  ![24, v7270.toNat, 0, 0]
def k0_off360 (i : grid0.Coords) (k0_t17 : Fin (k0_t17_loop i).trips) : Fin 4 → Nat :=
  let c25_2761 : Index := 25#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7274 : Index := Scalar.indexCast v6359
  let c0_2762 : Index := 0#32
  let c0_2763 : Index := 0#32
  ![25, v7274.toNat, 0, 0]
def k0_off361 (i : grid0.Coords) (k0_t17 : Fin (k0_t17_loop i).trips) : Fin 4 → Nat :=
  let c26_2764 : Index := 26#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7278 : Index := Scalar.indexCast v6359
  let c0_2765 : Index := 0#32
  let c0_2766 : Index := 0#32
  ![26, v7278.toNat, 0, 0]
def k0_off362 (i : grid0.Coords) (k0_t17 : Fin (k0_t17_loop i).trips) : Fin 4 → Nat :=
  let c27_2767 : Index := 27#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7282 : Index := Scalar.indexCast v6359
  let c0_2768 : Index := 0#32
  let c0_2769 : Index := 0#32
  ![27, v7282.toNat, 0, 0]
def k0_off363 (i : grid0.Coords) (k0_t17 : Fin (k0_t17_loop i).trips) : Fin 4 → Nat :=
  let c28_2770 : Index := 28#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7286 : Index := Scalar.indexCast v6359
  let c0_2771 : Index := 0#32
  let c0_2772 : Index := 0#32
  ![28, v7286.toNat, 0, 0]
def k0_off364 (i : grid0.Coords) (k0_t17 : Fin (k0_t17_loop i).trips) : Fin 4 → Nat :=
  let c29_2773 : Index := 29#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7290 : Index := Scalar.indexCast v6359
  let c0_2774 : Index := 0#32
  let c0_2775 : Index := 0#32
  ![29, v7290.toNat, 0, 0]
def k0_off365 (i : grid0.Coords) (k0_t17 : Fin (k0_t17_loop i).trips) : Fin 4 → Nat :=
  let c30_2776 : Index := 30#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7294 : Index := Scalar.indexCast v6359
  let c0_2777 : Index := 0#32
  let c0_2778 : Index := 0#32
  ![30, v7294.toNat, 0, 0]
def k0_off366 (i : grid0.Coords) (k0_t17 : Fin (k0_t17_loop i).trips) : Fin 4 → Nat :=
  let c31_2779 : Index := 31#32
  let c2_i32_2430 : BitVec 32 := 2#32
  let c0_i32_1071 : BitVec 32 := 0#32
  let c1_i32_1073 : BitVec 32 := 1#32
  let arg25 : BitVec 32 := Scf.iv c0_i32_1071 c1_i32_1073 k0_t17
  let v6358 : BitVec 32 := Scalar.muli c2_i32_2430 arg25
  let c1_i32_2431 : BitVec 32 := 1#32
  let v6359 : BitVec 32 := Scalar.addi v6358 c1_i32_2431
  let v7298 : Index := Scalar.indexCast v6359
  let c0_2780 : Index := 0#32
  let c0_2781 : Index := 0#32
  ![31, v7298.toNat, 0, 0]
@[reducible] def k0_t18_loop (i : grid0.Coords) : Scf.Loop 32 :=
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let v2967 : BitVec 32 := Scalar.addi c0_i32_1071 v2966
  let c1_i32_1074 : BitVec 32 := 1#32
  ⟨v2970, v2967, c1_i32_1074⟩
def k0_mult38 (i : grid0.Coords) (k0_t18 : Fin (k0_t18_loop i).trips) : BitVec 32 :=
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let c1_i32_1938 : BitVec 32 := 1#32
  let v5172 : BitVec 32 := Scalar.addi v5171 c1_i32_1938
  let c256_i32_1939 : BitVec 32 := 256#32
  let v5173 : BitVec 32 := Scalar.muli v5172 c256_i32_1939
  v5173
def k0_off367 (i : grid0.Coords) (k0_t18 : Fin (k0_t18_loop i).trips) (c1_i32_1938 : BitVec 32) : Fin 2 → Nat :=
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let v5172 : BitVec 32 := Scalar.addi v5171 c1_i32_1938
  let c256_i32_1939 : BitVec 32 := 256#32
  let v5173 : BitVec 32 := Scalar.muli v5172 c256_i32_1939
  let v5174 : BitVec 32 := v5173
  let v5175 : Index := Scalar.indexCast v5174
  let c0_1940 : Index := 0#32
  ![v5175.toNat, 0]
def k0_off368 (i : grid0.Coords) (k0_t18 : Fin (k0_t18_loop i).trips) (c1_i32_1938 : BitVec 32) : Fin 2 → Nat :=
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let v5172 : BitVec 32 := Scalar.addi v5171 c1_i32_1938
  let c256_i32_1939 : BitVec 32 := 256#32
  let v5173 : BitVec 32 := Scalar.muli v5172 c256_i32_1939
  let v5174 : BitVec 32 := v5173
  let v5182 : Index := Scalar.indexCast v5174
  let c128_1947 : Index := 128#32
  ![v5182.toNat, 128]
def k0_mult39 (i : grid0.Coords) (k0_t18 : Fin (k0_t18_loop i).trips) : BitVec 32 :=
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let c256_i32_1954 : BitVec 32 := 256#32
  let v5189 : BitVec 32 := Scalar.muli v5171 c256_i32_1954
  v5189
def k0_off369 (i : grid0.Coords) (k0_t18 : Fin (k0_t18_loop i).trips) : Fin 2 → Nat :=
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let c256_i32_1954 : BitVec 32 := 256#32
  let v5189 : BitVec 32 := Scalar.muli v5171 c256_i32_1954
  let v5190 : BitVec 32 := v5189
  let v5191 : Index := Scalar.indexCast v5190
  let c0_1955 : Index := 0#32
  ![v5191.toNat, 0]
def k0_off370 (i : grid0.Coords) (k0_t18 : Fin (k0_t18_loop i).trips) : Fin 4 → Nat :=
  let c0_1968 : Index := 0#32
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let v5222 : Index := Scalar.indexCast v5171
  let c0_1969 : Index := 0#32
  let c0_1970 : Index := 0#32
  ![0, v5222.toNat, 0, 0]
def k0_off371 (i : grid0.Coords) (k0_t18 : Fin (k0_t18_loop i).trips) : Fin 4 → Nat :=
  let c0_1994 : Index := 0#32
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let v5271 : Index := Scalar.indexCast v5171
  let c128_1995 : Index := 128#32
  let c0_1996 : Index := 0#32
  ![0, v5271.toNat, 128, 0]
def k0_mult40 (i : grid0.Coords) (k0_t18 : Fin (k0_t18_loop i).trips) : BitVec 32 :=
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let c2_i32_2008 : BitVec 32 := 2#32
  let v5293 : BitVec 32 := Scalar.addi v5171 c2_i32_2008
  let c256_i32_2009 : BitVec 32 := 256#32
  let v5294 : BitVec 32 := Scalar.muli v5293 c256_i32_2009
  v5294
def k0_mult41 (i : grid0.Coords) (k0_t18 : Fin (k0_t18_loop i).trips) : BitVec 32 :=
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let c1_i32_2024 : BitVec 32 := 1#32
  let v5310 : BitVec 32 := Scalar.addi v5171 c1_i32_2024
  let c256_i32_2025 : BitVec 32 := 256#32
  let v5311 : BitVec 32 := Scalar.muli v5310 c256_i32_2025
  v5311
def k0_off372 (i : grid0.Coords) (k0_t18 : Fin (k0_t18_loop i).trips) : Fin 2 → Nat :=
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let c1_i32_2024 : BitVec 32 := 1#32
  let v5310 : BitVec 32 := Scalar.addi v5171 c1_i32_2024
  let c256_i32_2025 : BitVec 32 := 256#32
  let v5311 : BitVec 32 := Scalar.muli v5310 c256_i32_2025
  let v5312 : BitVec 32 := v5311
  let v5313 : Index := Scalar.indexCast v5312
  let c0_2026 : Index := 0#32
  ![v5313.toNat, 0]
def k0_off373 (i : grid0.Coords) (k0_t18 : Fin (k0_t18_loop i).trips) : Fin 4 → Nat :=
  let c0_2039 : Index := 0#32
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let c1_i32_2024 : BitVec 32 := 1#32
  let v5310 : BitVec 32 := Scalar.addi v5171 c1_i32_2024
  let v5344 : Index := Scalar.indexCast v5310
  let c0_2040 : Index := 0#32
  let c0_2041 : Index := 0#32
  ![0, v5344.toNat, 0, 0]
def k0_off374 (i : grid0.Coords) (k0_t18 : Fin (k0_t18_loop i).trips) : Fin 4 → Nat :=
  let c0_2065 : Index := 0#32
  let c2_i32_1937 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5171 : BitVec 32 := Scalar.muli c2_i32_1937 arg25
  let c1_i32_2024 : BitVec 32 := 1#32
  let v5310 : BitVec 32 := Scalar.addi v5171 c1_i32_2024
  let v5393 : Index := Scalar.indexCast v5310
  let c128_2066 : Index := 128#32
  let c0_2067 : Index := 0#32
  ![0, v5393.toNat, 128, 0]
def k0_mult42 (i : grid0.Coords) (k0_t18 : Fin (k0_t18_loop i).trips) : BitVec 32 :=
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let c256_i32_2080 : BitVec 32 := 256#32
  let v5416 : BitVec 32 := Scalar.muli v5415 c256_i32_2080
  v5416
def k0_off375 (i : grid0.Coords) (k0_t18 : Fin (k0_t18_loop i).trips) : Fin 4 → Nat :=
  let c0_2334 : Index := 0#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6230 : Index := Scalar.indexCast v5415
  let c0_2335 : Index := 0#32
  let c0_2336 : Index := 0#32
  ![0, v6230.toNat, 0, 0]
def k0_off376 (i : grid0.Coords) (k0_t18 : Fin (k0_t18_loop i).trips) : Fin 4 → Nat :=
  let c1_2337 : Index := 1#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6234 : Index := Scalar.indexCast v5415
  let c0_2338 : Index := 0#32
  let c0_2339 : Index := 0#32
  ![1, v6234.toNat, 0, 0]
def k0_off377 (i : grid0.Coords) (k0_t18 : Fin (k0_t18_loop i).trips) : Fin 4 → Nat :=
  let c2_2340 : Index := 2#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6238 : Index := Scalar.indexCast v5415
  let c0_2341 : Index := 0#32
  let c0_2342 : Index := 0#32
  ![2, v6238.toNat, 0, 0]
def k0_off378 (i : grid0.Coords) (k0_t18 : Fin (k0_t18_loop i).trips) : Fin 4 → Nat :=
  let c3_2343 : Index := 3#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6242 : Index := Scalar.indexCast v5415
  let c0_2344 : Index := 0#32
  let c0_2345 : Index := 0#32
  ![3, v6242.toNat, 0, 0]
def k0_off379 (i : grid0.Coords) (k0_t18 : Fin (k0_t18_loop i).trips) : Fin 4 → Nat :=
  let c4_2346 : Index := 4#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6246 : Index := Scalar.indexCast v5415
  let c0_2347 : Index := 0#32
  let c0_2348 : Index := 0#32
  ![4, v6246.toNat, 0, 0]
def k0_off380 (i : grid0.Coords) (k0_t18 : Fin (k0_t18_loop i).trips) : Fin 4 → Nat :=
  let c5_2349 : Index := 5#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6250 : Index := Scalar.indexCast v5415
  let c0_2350 : Index := 0#32
  let c0_2351 : Index := 0#32
  ![5, v6250.toNat, 0, 0]
def k0_off381 (i : grid0.Coords) (k0_t18 : Fin (k0_t18_loop i).trips) : Fin 4 → Nat :=
  let c6_2352 : Index := 6#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6254 : Index := Scalar.indexCast v5415
  let c0_2353 : Index := 0#32
  let c0_2354 : Index := 0#32
  ![6, v6254.toNat, 0, 0]
def k0_off382 (i : grid0.Coords) (k0_t18 : Fin (k0_t18_loop i).trips) : Fin 4 → Nat :=
  let c7_2355 : Index := 7#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6258 : Index := Scalar.indexCast v5415
  let c0_2356 : Index := 0#32
  let c0_2357 : Index := 0#32
  ![7, v6258.toNat, 0, 0]
def k0_off383 (i : grid0.Coords) (k0_t18 : Fin (k0_t18_loop i).trips) : Fin 4 → Nat :=
  let c8_2358 : Index := 8#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6262 : Index := Scalar.indexCast v5415
  let c0_2359 : Index := 0#32
  let c0_2360 : Index := 0#32
  ![8, v6262.toNat, 0, 0]
def k0_off384 (i : grid0.Coords) (k0_t18 : Fin (k0_t18_loop i).trips) : Fin 4 → Nat :=
  let c9_2361 : Index := 9#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6266 : Index := Scalar.indexCast v5415
  let c0_2362 : Index := 0#32
  let c0_2363 : Index := 0#32
  ![9, v6266.toNat, 0, 0]
def k0_off385 (i : grid0.Coords) (k0_t18 : Fin (k0_t18_loop i).trips) : Fin 4 → Nat :=
  let c10_2364 : Index := 10#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6270 : Index := Scalar.indexCast v5415
  let c0_2365 : Index := 0#32
  let c0_2366 : Index := 0#32
  ![10, v6270.toNat, 0, 0]
def k0_off386 (i : grid0.Coords) (k0_t18 : Fin (k0_t18_loop i).trips) : Fin 4 → Nat :=
  let c11_2367 : Index := 11#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6274 : Index := Scalar.indexCast v5415
  let c0_2368 : Index := 0#32
  let c0_2369 : Index := 0#32
  ![11, v6274.toNat, 0, 0]
def k0_off387 (i : grid0.Coords) (k0_t18 : Fin (k0_t18_loop i).trips) : Fin 4 → Nat :=
  let c12_2370 : Index := 12#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6278 : Index := Scalar.indexCast v5415
  let c0_2371 : Index := 0#32
  let c0_2372 : Index := 0#32
  ![12, v6278.toNat, 0, 0]
def k0_off388 (i : grid0.Coords) (k0_t18 : Fin (k0_t18_loop i).trips) : Fin 4 → Nat :=
  let c13_2373 : Index := 13#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6282 : Index := Scalar.indexCast v5415
  let c0_2374 : Index := 0#32
  let c0_2375 : Index := 0#32
  ![13, v6282.toNat, 0, 0]
def k0_off389 (i : grid0.Coords) (k0_t18 : Fin (k0_t18_loop i).trips) : Fin 4 → Nat :=
  let c14_2376 : Index := 14#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6286 : Index := Scalar.indexCast v5415
  let c0_2377 : Index := 0#32
  let c0_2378 : Index := 0#32
  ![14, v6286.toNat, 0, 0]
def k0_off390 (i : grid0.Coords) (k0_t18 : Fin (k0_t18_loop i).trips) : Fin 4 → Nat :=
  let c15_2379 : Index := 15#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6290 : Index := Scalar.indexCast v5415
  let c0_2380 : Index := 0#32
  let c0_2381 : Index := 0#32
  ![15, v6290.toNat, 0, 0]
def k0_off391 (i : grid0.Coords) (k0_t18 : Fin (k0_t18_loop i).trips) : Fin 4 → Nat :=
  let c16_2382 : Index := 16#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6294 : Index := Scalar.indexCast v5415
  let c0_2383 : Index := 0#32
  let c0_2384 : Index := 0#32
  ![16, v6294.toNat, 0, 0]
def k0_off392 (i : grid0.Coords) (k0_t18 : Fin (k0_t18_loop i).trips) : Fin 4 → Nat :=
  let c17_2385 : Index := 17#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6298 : Index := Scalar.indexCast v5415
  let c0_2386 : Index := 0#32
  let c0_2387 : Index := 0#32
  ![17, v6298.toNat, 0, 0]
def k0_off393 (i : grid0.Coords) (k0_t18 : Fin (k0_t18_loop i).trips) : Fin 4 → Nat :=
  let c18_2388 : Index := 18#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6302 : Index := Scalar.indexCast v5415
  let c0_2389 : Index := 0#32
  let c0_2390 : Index := 0#32
  ![18, v6302.toNat, 0, 0]
def k0_off394 (i : grid0.Coords) (k0_t18 : Fin (k0_t18_loop i).trips) : Fin 4 → Nat :=
  let c19_2391 : Index := 19#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6306 : Index := Scalar.indexCast v5415
  let c0_2392 : Index := 0#32
  let c0_2393 : Index := 0#32
  ![19, v6306.toNat, 0, 0]
def k0_off395 (i : grid0.Coords) (k0_t18 : Fin (k0_t18_loop i).trips) : Fin 4 → Nat :=
  let c20_2394 : Index := 20#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6310 : Index := Scalar.indexCast v5415
  let c0_2395 : Index := 0#32
  let c0_2396 : Index := 0#32
  ![20, v6310.toNat, 0, 0]
def k0_off396 (i : grid0.Coords) (k0_t18 : Fin (k0_t18_loop i).trips) : Fin 4 → Nat :=
  let c21_2397 : Index := 21#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6314 : Index := Scalar.indexCast v5415
  let c0_2398 : Index := 0#32
  let c0_2399 : Index := 0#32
  ![21, v6314.toNat, 0, 0]
def k0_off397 (i : grid0.Coords) (k0_t18 : Fin (k0_t18_loop i).trips) : Fin 4 → Nat :=
  let c22_2400 : Index := 22#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6318 : Index := Scalar.indexCast v5415
  let c0_2401 : Index := 0#32
  let c0_2402 : Index := 0#32
  ![22, v6318.toNat, 0, 0]
def k0_off398 (i : grid0.Coords) (k0_t18 : Fin (k0_t18_loop i).trips) : Fin 4 → Nat :=
  let c23_2403 : Index := 23#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6322 : Index := Scalar.indexCast v5415
  let c0_2404 : Index := 0#32
  let c0_2405 : Index := 0#32
  ![23, v6322.toNat, 0, 0]
def k0_off399 (i : grid0.Coords) (k0_t18 : Fin (k0_t18_loop i).trips) : Fin 4 → Nat :=
  let c24_2406 : Index := 24#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6326 : Index := Scalar.indexCast v5415
  let c0_2407 : Index := 0#32
  let c0_2408 : Index := 0#32
  ![24, v6326.toNat, 0, 0]
def k0_off400 (i : grid0.Coords) (k0_t18 : Fin (k0_t18_loop i).trips) : Fin 4 → Nat :=
  let c25_2409 : Index := 25#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6330 : Index := Scalar.indexCast v5415
  let c0_2410 : Index := 0#32
  let c0_2411 : Index := 0#32
  ![25, v6330.toNat, 0, 0]
def k0_off401 (i : grid0.Coords) (k0_t18 : Fin (k0_t18_loop i).trips) : Fin 4 → Nat :=
  let c26_2412 : Index := 26#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6334 : Index := Scalar.indexCast v5415
  let c0_2413 : Index := 0#32
  let c0_2414 : Index := 0#32
  ![26, v6334.toNat, 0, 0]
def k0_off402 (i : grid0.Coords) (k0_t18 : Fin (k0_t18_loop i).trips) : Fin 4 → Nat :=
  let c27_2415 : Index := 27#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6338 : Index := Scalar.indexCast v5415
  let c0_2416 : Index := 0#32
  let c0_2417 : Index := 0#32
  ![27, v6338.toNat, 0, 0]
def k0_off403 (i : grid0.Coords) (k0_t18 : Fin (k0_t18_loop i).trips) : Fin 4 → Nat :=
  let c28_2418 : Index := 28#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6342 : Index := Scalar.indexCast v5415
  let c0_2419 : Index := 0#32
  let c0_2420 : Index := 0#32
  ![28, v6342.toNat, 0, 0]
def k0_off404 (i : grid0.Coords) (k0_t18 : Fin (k0_t18_loop i).trips) : Fin 4 → Nat :=
  let c29_2421 : Index := 29#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6346 : Index := Scalar.indexCast v5415
  let c0_2422 : Index := 0#32
  let c0_2423 : Index := 0#32
  ![29, v6346.toNat, 0, 0]
def k0_off405 (i : grid0.Coords) (k0_t18 : Fin (k0_t18_loop i).trips) : Fin 4 → Nat :=
  let c30_2424 : Index := 30#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6350 : Index := Scalar.indexCast v5415
  let c0_2425 : Index := 0#32
  let c0_2426 : Index := 0#32
  ![30, v6350.toNat, 0, 0]
def k0_off406 (i : grid0.Coords) (k0_t18 : Fin (k0_t18_loop i).trips) : Fin 4 → Nat :=
  let c31_2427 : Index := 31#32
  let c2_i32_2079 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v5415 : BitVec 32 := Scalar.muli c2_i32_2079 arg25
  let v6354 : Index := Scalar.indexCast v5415
  let c0_2428 : Index := 0#32
  let c0_2429 : Index := 0#32
  ![31, v6354.toNat, 0, 0]
def k0_mult43 (i : grid0.Coords) (k0_t18 : Fin (k0_t18_loop i).trips) : BitVec 32 :=
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let c256_i32_2432 : BitVec 32 := 256#32
  let v6360 : BitVec 32 := Scalar.muli v6359 c256_i32_2432
  v6360
def k0_off407 (i : grid0.Coords) (k0_t18 : Fin (k0_t18_loop i).trips) : Fin 4 → Nat :=
  let c0_2686 : Index := 0#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7174 : Index := Scalar.indexCast v6359
  let c0_2687 : Index := 0#32
  let c0_2688 : Index := 0#32
  ![0, v7174.toNat, 0, 0]
def k0_off408 (i : grid0.Coords) (k0_t18 : Fin (k0_t18_loop i).trips) : Fin 4 → Nat :=
  let c1_2689 : Index := 1#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7178 : Index := Scalar.indexCast v6359
  let c0_2690 : Index := 0#32
  let c0_2691 : Index := 0#32
  ![1, v7178.toNat, 0, 0]
def k0_off409 (i : grid0.Coords) (k0_t18 : Fin (k0_t18_loop i).trips) : Fin 4 → Nat :=
  let c2_2692 : Index := 2#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7182 : Index := Scalar.indexCast v6359
  let c0_2693 : Index := 0#32
  let c0_2694 : Index := 0#32
  ![2, v7182.toNat, 0, 0]
def k0_off410 (i : grid0.Coords) (k0_t18 : Fin (k0_t18_loop i).trips) : Fin 4 → Nat :=
  let c3_2695 : Index := 3#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7186 : Index := Scalar.indexCast v6359
  let c0_2696 : Index := 0#32
  let c0_2697 : Index := 0#32
  ![3, v7186.toNat, 0, 0]
def k0_off411 (i : grid0.Coords) (k0_t18 : Fin (k0_t18_loop i).trips) : Fin 4 → Nat :=
  let c4_2698 : Index := 4#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7190 : Index := Scalar.indexCast v6359
  let c0_2699 : Index := 0#32
  let c0_2700 : Index := 0#32
  ![4, v7190.toNat, 0, 0]
def k0_off412 (i : grid0.Coords) (k0_t18 : Fin (k0_t18_loop i).trips) : Fin 4 → Nat :=
  let c5_2701 : Index := 5#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7194 : Index := Scalar.indexCast v6359
  let c0_2702 : Index := 0#32
  let c0_2703 : Index := 0#32
  ![5, v7194.toNat, 0, 0]
def k0_off413 (i : grid0.Coords) (k0_t18 : Fin (k0_t18_loop i).trips) : Fin 4 → Nat :=
  let c6_2704 : Index := 6#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7198 : Index := Scalar.indexCast v6359
  let c0_2705 : Index := 0#32
  let c0_2706 : Index := 0#32
  ![6, v7198.toNat, 0, 0]
def k0_off414 (i : grid0.Coords) (k0_t18 : Fin (k0_t18_loop i).trips) : Fin 4 → Nat :=
  let c7_2707 : Index := 7#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7202 : Index := Scalar.indexCast v6359
  let c0_2708 : Index := 0#32
  let c0_2709 : Index := 0#32
  ![7, v7202.toNat, 0, 0]
def k0_off415 (i : grid0.Coords) (k0_t18 : Fin (k0_t18_loop i).trips) : Fin 4 → Nat :=
  let c8_2710 : Index := 8#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7206 : Index := Scalar.indexCast v6359
  let c0_2711 : Index := 0#32
  let c0_2712 : Index := 0#32
  ![8, v7206.toNat, 0, 0]
def k0_off416 (i : grid0.Coords) (k0_t18 : Fin (k0_t18_loop i).trips) : Fin 4 → Nat :=
  let c9_2713 : Index := 9#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7210 : Index := Scalar.indexCast v6359
  let c0_2714 : Index := 0#32
  let c0_2715 : Index := 0#32
  ![9, v7210.toNat, 0, 0]
def k0_off417 (i : grid0.Coords) (k0_t18 : Fin (k0_t18_loop i).trips) : Fin 4 → Nat :=
  let c10_2716 : Index := 10#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7214 : Index := Scalar.indexCast v6359
  let c0_2717 : Index := 0#32
  let c0_2718 : Index := 0#32
  ![10, v7214.toNat, 0, 0]
def k0_off418 (i : grid0.Coords) (k0_t18 : Fin (k0_t18_loop i).trips) : Fin 4 → Nat :=
  let c11_2719 : Index := 11#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7218 : Index := Scalar.indexCast v6359
  let c0_2720 : Index := 0#32
  let c0_2721 : Index := 0#32
  ![11, v7218.toNat, 0, 0]
def k0_off419 (i : grid0.Coords) (k0_t18 : Fin (k0_t18_loop i).trips) : Fin 4 → Nat :=
  let c12_2722 : Index := 12#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7222 : Index := Scalar.indexCast v6359
  let c0_2723 : Index := 0#32
  let c0_2724 : Index := 0#32
  ![12, v7222.toNat, 0, 0]
def k0_off420 (i : grid0.Coords) (k0_t18 : Fin (k0_t18_loop i).trips) : Fin 4 → Nat :=
  let c13_2725 : Index := 13#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7226 : Index := Scalar.indexCast v6359
  let c0_2726 : Index := 0#32
  let c0_2727 : Index := 0#32
  ![13, v7226.toNat, 0, 0]
def k0_off421 (i : grid0.Coords) (k0_t18 : Fin (k0_t18_loop i).trips) : Fin 4 → Nat :=
  let c14_2728 : Index := 14#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7230 : Index := Scalar.indexCast v6359
  let c0_2729 : Index := 0#32
  let c0_2730 : Index := 0#32
  ![14, v7230.toNat, 0, 0]
def k0_off422 (i : grid0.Coords) (k0_t18 : Fin (k0_t18_loop i).trips) : Fin 4 → Nat :=
  let c15_2731 : Index := 15#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7234 : Index := Scalar.indexCast v6359
  let c0_2732 : Index := 0#32
  let c0_2733 : Index := 0#32
  ![15, v7234.toNat, 0, 0]
def k0_off423 (i : grid0.Coords) (k0_t18 : Fin (k0_t18_loop i).trips) : Fin 4 → Nat :=
  let c16_2734 : Index := 16#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7238 : Index := Scalar.indexCast v6359
  let c0_2735 : Index := 0#32
  let c0_2736 : Index := 0#32
  ![16, v7238.toNat, 0, 0]
def k0_off424 (i : grid0.Coords) (k0_t18 : Fin (k0_t18_loop i).trips) : Fin 4 → Nat :=
  let c17_2737 : Index := 17#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7242 : Index := Scalar.indexCast v6359
  let c0_2738 : Index := 0#32
  let c0_2739 : Index := 0#32
  ![17, v7242.toNat, 0, 0]
def k0_off425 (i : grid0.Coords) (k0_t18 : Fin (k0_t18_loop i).trips) : Fin 4 → Nat :=
  let c18_2740 : Index := 18#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7246 : Index := Scalar.indexCast v6359
  let c0_2741 : Index := 0#32
  let c0_2742 : Index := 0#32
  ![18, v7246.toNat, 0, 0]
def k0_off426 (i : grid0.Coords) (k0_t18 : Fin (k0_t18_loop i).trips) : Fin 4 → Nat :=
  let c19_2743 : Index := 19#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7250 : Index := Scalar.indexCast v6359
  let c0_2744 : Index := 0#32
  let c0_2745 : Index := 0#32
  ![19, v7250.toNat, 0, 0]
def k0_off427 (i : grid0.Coords) (k0_t18 : Fin (k0_t18_loop i).trips) : Fin 4 → Nat :=
  let c20_2746 : Index := 20#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7254 : Index := Scalar.indexCast v6359
  let c0_2747 : Index := 0#32
  let c0_2748 : Index := 0#32
  ![20, v7254.toNat, 0, 0]
def k0_off428 (i : grid0.Coords) (k0_t18 : Fin (k0_t18_loop i).trips) : Fin 4 → Nat :=
  let c21_2749 : Index := 21#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7258 : Index := Scalar.indexCast v6359
  let c0_2750 : Index := 0#32
  let c0_2751 : Index := 0#32
  ![21, v7258.toNat, 0, 0]
def k0_off429 (i : grid0.Coords) (k0_t18 : Fin (k0_t18_loop i).trips) : Fin 4 → Nat :=
  let c22_2752 : Index := 22#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7262 : Index := Scalar.indexCast v6359
  let c0_2753 : Index := 0#32
  let c0_2754 : Index := 0#32
  ![22, v7262.toNat, 0, 0]
def k0_off430 (i : grid0.Coords) (k0_t18 : Fin (k0_t18_loop i).trips) : Fin 4 → Nat :=
  let c23_2755 : Index := 23#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7266 : Index := Scalar.indexCast v6359
  let c0_2756 : Index := 0#32
  let c0_2757 : Index := 0#32
  ![23, v7266.toNat, 0, 0]
def k0_off431 (i : grid0.Coords) (k0_t18 : Fin (k0_t18_loop i).trips) : Fin 4 → Nat :=
  let c24_2758 : Index := 24#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7270 : Index := Scalar.indexCast v6359
  let c0_2759 : Index := 0#32
  let c0_2760 : Index := 0#32
  ![24, v7270.toNat, 0, 0]
def k0_off432 (i : grid0.Coords) (k0_t18 : Fin (k0_t18_loop i).trips) : Fin 4 → Nat :=
  let c25_2761 : Index := 25#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7274 : Index := Scalar.indexCast v6359
  let c0_2762 : Index := 0#32
  let c0_2763 : Index := 0#32
  ![25, v7274.toNat, 0, 0]
def k0_off433 (i : grid0.Coords) (k0_t18 : Fin (k0_t18_loop i).trips) : Fin 4 → Nat :=
  let c26_2764 : Index := 26#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7278 : Index := Scalar.indexCast v6359
  let c0_2765 : Index := 0#32
  let c0_2766 : Index := 0#32
  ![26, v7278.toNat, 0, 0]
def k0_off434 (i : grid0.Coords) (k0_t18 : Fin (k0_t18_loop i).trips) : Fin 4 → Nat :=
  let c27_2767 : Index := 27#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7282 : Index := Scalar.indexCast v6359
  let c0_2768 : Index := 0#32
  let c0_2769 : Index := 0#32
  ![27, v7282.toNat, 0, 0]
def k0_off435 (i : grid0.Coords) (k0_t18 : Fin (k0_t18_loop i).trips) : Fin 4 → Nat :=
  let c28_2770 : Index := 28#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7286 : Index := Scalar.indexCast v6359
  let c0_2771 : Index := 0#32
  let c0_2772 : Index := 0#32
  ![28, v7286.toNat, 0, 0]
def k0_off436 (i : grid0.Coords) (k0_t18 : Fin (k0_t18_loop i).trips) : Fin 4 → Nat :=
  let c29_2773 : Index := 29#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7290 : Index := Scalar.indexCast v6359
  let c0_2774 : Index := 0#32
  let c0_2775 : Index := 0#32
  ![29, v7290.toNat, 0, 0]
def k0_off437 (i : grid0.Coords) (k0_t18 : Fin (k0_t18_loop i).trips) : Fin 4 → Nat :=
  let c30_2776 : Index := 30#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7294 : Index := Scalar.indexCast v6359
  let c0_2777 : Index := 0#32
  let c0_2778 : Index := 0#32
  ![30, v7294.toNat, 0, 0]
def k0_off438 (i : grid0.Coords) (k0_t18 : Fin (k0_t18_loop i).trips) : Fin 4 → Nat :=
  let c31_2779 : Index := 31#32
  let c2_i32_2430 : BitVec 32 := 2#32
  let c0_i32_1071 : BitVec 32 := 0#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1069 : BitVec 32 := 1#32
  let v2965 : BitVec 32 := Scalar.subi v2686 c1_i32_1069
  let v2966 : BitVec 32 := Scalar.subi v2965 c0_i32_1071
  let c1_i32_1072 : BitVec 32 := 1#32
  let v2968 : BitVec 32 := Scalar.divsi v2966 c1_i32_1072
  let v2969 : BitVec 32 := Scalar.muli v2968 c1_i32_1072
  let v2970 : BitVec 32 := Scalar.addi c0_i32_1071 v2969
  let c1_i32_1074 : BitVec 32 := 1#32
  let arg25 : BitVec 32 := Scf.iv v2970 c1_i32_1074 k0_t18
  let v6358 : BitVec 32 := Scalar.muli c2_i32_2430 arg25
  let c1_i32_2431 : BitVec 32 := 1#32
  let v6359 : BitVec 32 := Scalar.addi v6358 c1_i32_2431
  let v7298 : Index := Scalar.indexCast v6359
  let c0_2780 : Index := 0#32
  let c0_2781 : Index := 0#32
  ![31, v7298.toNat, 0, 0]
def k0_mult44 (i : grid0.Coords) : BitVec 32 :=
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let c1_i32_1077 : BitVec 32 := 1#32
  let v2973 : BitVec 32 := Scalar.addi v2972 c1_i32_1077
  let c256_i32_1078 : BitVec 32 := 256#32
  let v2974 : BitVec 32 := Scalar.muli v2973 c256_i32_1078
  v2974
def k0_off439 (i : grid0.Coords) : Fin 2 → Nat :=
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let c1_i32_1077 : BitVec 32 := 1#32
  let v2973 : BitVec 32 := Scalar.addi v2972 c1_i32_1077
  let c256_i32_1078 : BitVec 32 := 256#32
  let v2974 : BitVec 32 := Scalar.muli v2973 c256_i32_1078
  let v2975 : BitVec 32 := v2974
  let v2976 : Index := Scalar.indexCast v2975
  let c0_1079 : Index := 0#32
  ![v2976.toNat, 0]
def k0_off440 (i : grid0.Coords) : Fin 2 → Nat :=
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let c1_i32_1077 : BitVec 32 := 1#32
  let v2973 : BitVec 32 := Scalar.addi v2972 c1_i32_1077
  let c256_i32_1078 : BitVec 32 := 256#32
  let v2974 : BitVec 32 := Scalar.muli v2973 c256_i32_1078
  let v2975 : BitVec 32 := v2974
  let v2983 : Index := Scalar.indexCast v2975
  let c128_1086 : Index := 128#32
  ![v2983.toNat, 128]
def k0_mult45 (i : grid0.Coords) : BitVec 32 :=
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let c256_i32_1093 : BitVec 32 := 256#32
  let v2990 : BitVec 32 := Scalar.muli v2972 c256_i32_1093
  v2990
def k0_off441 (i : grid0.Coords) : Fin 2 → Nat :=
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let c256_i32_1093 : BitVec 32 := 256#32
  let v2990 : BitVec 32 := Scalar.muli v2972 c256_i32_1093
  let v2991 : BitVec 32 := v2990
  let v2992 : Index := Scalar.indexCast v2991
  let c0_1094 : Index := 0#32
  ![v2992.toNat, 0]
def k0_off442 (i : grid0.Coords) : Fin 4 → Nat :=
  let c0_1107 : Index := 0#32
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let v3023 : Index := Scalar.indexCast v2972
  let c0_1108 : Index := 0#32
  let c0_1109 : Index := 0#32
  ![0, v3023.toNat, 0, 0]
def k0_off443 (i : grid0.Coords) : Fin 4 → Nat :=
  let c0_1133 : Index := 0#32
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let v3072 : Index := Scalar.indexCast v2972
  let c128_1134 : Index := 128#32
  let c0_1135 : Index := 0#32
  ![0, v3072.toNat, 128, 0]
def k0_mult46 (i : grid0.Coords) : BitVec 32 :=
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let c1_i32_1147 : BitVec 32 := 1#32
  let v3094 : BitVec 32 := Scalar.addi v2972 c1_i32_1147
  let c256_i32_1148 : BitVec 32 := 256#32
  let v3095 : BitVec 32 := Scalar.muli v3094 c256_i32_1148
  v3095
def k0_off444 (i : grid0.Coords) : Fin 2 → Nat :=
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let c1_i32_1147 : BitVec 32 := 1#32
  let v3094 : BitVec 32 := Scalar.addi v2972 c1_i32_1147
  let c256_i32_1148 : BitVec 32 := 256#32
  let v3095 : BitVec 32 := Scalar.muli v3094 c256_i32_1148
  let v3096 : BitVec 32 := v3095
  let v3097 : Index := Scalar.indexCast v3096
  let c0_1149 : Index := 0#32
  ![v3097.toNat, 0]
def k0_off445 (i : grid0.Coords) : Fin 4 → Nat :=
  let c0_1162 : Index := 0#32
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let c1_i32_1147 : BitVec 32 := 1#32
  let v3094 : BitVec 32 := Scalar.addi v2972 c1_i32_1147
  let v3128 : Index := Scalar.indexCast v3094
  let c0_1163 : Index := 0#32
  let c0_1164 : Index := 0#32
  ![0, v3128.toNat, 0, 0]
def k0_off446 (i : grid0.Coords) : Fin 4 → Nat :=
  let c0_1188 : Index := 0#32
  let c2_i32_1076 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1075 : BitVec 32 := 1#32
  let v2971 : BitVec 32 := Scalar.subi v2686 c1_i32_1075
  let v2972 : BitVec 32 := Scalar.muli c2_i32_1076 v2971
  let c1_i32_1147 : BitVec 32 := 1#32
  let v3094 : BitVec 32 := Scalar.addi v2972 c1_i32_1147
  let v3177 : Index := Scalar.indexCast v3094
  let c128_1189 : Index := 128#32
  let c0_1190 : Index := 0#32
  ![0, v3177.toNat, 128, 0]
def k0_mult47 (i : grid0.Coords) : BitVec 32 :=
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let c256_i32_1204 : BitVec 32 := 256#32
  let v3201 : BitVec 32 := Scalar.muli v3200 c256_i32_1204
  v3201
def k0_off447 (i : grid0.Coords) : Fin 4 → Nat :=
  let c0_1459 : Index := 0#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4022 : Index := Scalar.indexCast v3200
  let c0_1460 : Index := 0#32
  let c0_1461 : Index := 0#32
  ![0, v4022.toNat, 0, 0]
def k0_off448 (i : grid0.Coords) : Fin 4 → Nat :=
  let c1_1462 : Index := 1#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4026 : Index := Scalar.indexCast v3200
  let c0_1463 : Index := 0#32
  let c0_1464 : Index := 0#32
  ![1, v4026.toNat, 0, 0]
def k0_off449 (i : grid0.Coords) : Fin 4 → Nat :=
  let c2_1465 : Index := 2#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4030 : Index := Scalar.indexCast v3200
  let c0_1466 : Index := 0#32
  let c0_1467 : Index := 0#32
  ![2, v4030.toNat, 0, 0]
def k0_off450 (i : grid0.Coords) : Fin 4 → Nat :=
  let c3_1468 : Index := 3#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4034 : Index := Scalar.indexCast v3200
  let c0_1469 : Index := 0#32
  let c0_1470 : Index := 0#32
  ![3, v4034.toNat, 0, 0]
def k0_off451 (i : grid0.Coords) : Fin 4 → Nat :=
  let c4_1471 : Index := 4#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4038 : Index := Scalar.indexCast v3200
  let c0_1472 : Index := 0#32
  let c0_1473 : Index := 0#32
  ![4, v4038.toNat, 0, 0]
def k0_off452 (i : grid0.Coords) : Fin 4 → Nat :=
  let c5_1474 : Index := 5#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4042 : Index := Scalar.indexCast v3200
  let c0_1475 : Index := 0#32
  let c0_1476 : Index := 0#32
  ![5, v4042.toNat, 0, 0]
def k0_off453 (i : grid0.Coords) : Fin 4 → Nat :=
  let c6_1477 : Index := 6#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4046 : Index := Scalar.indexCast v3200
  let c0_1478 : Index := 0#32
  let c0_1479 : Index := 0#32
  ![6, v4046.toNat, 0, 0]
def k0_off454 (i : grid0.Coords) : Fin 4 → Nat :=
  let c7_1480 : Index := 7#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4050 : Index := Scalar.indexCast v3200
  let c0_1481 : Index := 0#32
  let c0_1482 : Index := 0#32
  ![7, v4050.toNat, 0, 0]
def k0_off455 (i : grid0.Coords) : Fin 4 → Nat :=
  let c8_1483 : Index := 8#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4054 : Index := Scalar.indexCast v3200
  let c0_1484 : Index := 0#32
  let c0_1485 : Index := 0#32
  ![8, v4054.toNat, 0, 0]
def k0_off456 (i : grid0.Coords) : Fin 4 → Nat :=
  let c9_1486 : Index := 9#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4058 : Index := Scalar.indexCast v3200
  let c0_1487 : Index := 0#32
  let c0_1488 : Index := 0#32
  ![9, v4058.toNat, 0, 0]
def k0_off457 (i : grid0.Coords) : Fin 4 → Nat :=
  let c10_1489 : Index := 10#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4062 : Index := Scalar.indexCast v3200
  let c0_1490 : Index := 0#32
  let c0_1491 : Index := 0#32
  ![10, v4062.toNat, 0, 0]
def k0_off458 (i : grid0.Coords) : Fin 4 → Nat :=
  let c11_1492 : Index := 11#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4066 : Index := Scalar.indexCast v3200
  let c0_1493 : Index := 0#32
  let c0_1494 : Index := 0#32
  ![11, v4066.toNat, 0, 0]
def k0_off459 (i : grid0.Coords) : Fin 4 → Nat :=
  let c12_1495 : Index := 12#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4070 : Index := Scalar.indexCast v3200
  let c0_1496 : Index := 0#32
  let c0_1497 : Index := 0#32
  ![12, v4070.toNat, 0, 0]
def k0_off460 (i : grid0.Coords) : Fin 4 → Nat :=
  let c13_1498 : Index := 13#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4074 : Index := Scalar.indexCast v3200
  let c0_1499 : Index := 0#32
  let c0_1500 : Index := 0#32
  ![13, v4074.toNat, 0, 0]
def k0_off461 (i : grid0.Coords) : Fin 4 → Nat :=
  let c14_1501 : Index := 14#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4078 : Index := Scalar.indexCast v3200
  let c0_1502 : Index := 0#32
  let c0_1503 : Index := 0#32
  ![14, v4078.toNat, 0, 0]
def k0_off462 (i : grid0.Coords) : Fin 4 → Nat :=
  let c15_1504 : Index := 15#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4082 : Index := Scalar.indexCast v3200
  let c0_1505 : Index := 0#32
  let c0_1506 : Index := 0#32
  ![15, v4082.toNat, 0, 0]
def k0_off463 (i : grid0.Coords) : Fin 4 → Nat :=
  let c16_1507 : Index := 16#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4086 : Index := Scalar.indexCast v3200
  let c0_1508 : Index := 0#32
  let c0_1509 : Index := 0#32
  ![16, v4086.toNat, 0, 0]
def k0_off464 (i : grid0.Coords) : Fin 4 → Nat :=
  let c17_1510 : Index := 17#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4090 : Index := Scalar.indexCast v3200
  let c0_1511 : Index := 0#32
  let c0_1512 : Index := 0#32
  ![17, v4090.toNat, 0, 0]
def k0_off465 (i : grid0.Coords) : Fin 4 → Nat :=
  let c18_1513 : Index := 18#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4094 : Index := Scalar.indexCast v3200
  let c0_1514 : Index := 0#32
  let c0_1515 : Index := 0#32
  ![18, v4094.toNat, 0, 0]
def k0_off466 (i : grid0.Coords) : Fin 4 → Nat :=
  let c19_1516 : Index := 19#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4098 : Index := Scalar.indexCast v3200
  let c0_1517 : Index := 0#32
  let c0_1518 : Index := 0#32
  ![19, v4098.toNat, 0, 0]
def k0_off467 (i : grid0.Coords) : Fin 4 → Nat :=
  let c20_1519 : Index := 20#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4102 : Index := Scalar.indexCast v3200
  let c0_1520 : Index := 0#32
  let c0_1521 : Index := 0#32
  ![20, v4102.toNat, 0, 0]
def k0_off468 (i : grid0.Coords) : Fin 4 → Nat :=
  let c21_1522 : Index := 21#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4106 : Index := Scalar.indexCast v3200
  let c0_1523 : Index := 0#32
  let c0_1524 : Index := 0#32
  ![21, v4106.toNat, 0, 0]
def k0_off469 (i : grid0.Coords) : Fin 4 → Nat :=
  let c22_1525 : Index := 22#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4110 : Index := Scalar.indexCast v3200
  let c0_1526 : Index := 0#32
  let c0_1527 : Index := 0#32
  ![22, v4110.toNat, 0, 0]
def k0_off470 (i : grid0.Coords) : Fin 4 → Nat :=
  let c23_1528 : Index := 23#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4114 : Index := Scalar.indexCast v3200
  let c0_1529 : Index := 0#32
  let c0_1530 : Index := 0#32
  ![23, v4114.toNat, 0, 0]
def k0_off471 (i : grid0.Coords) : Fin 4 → Nat :=
  let c24_1531 : Index := 24#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4118 : Index := Scalar.indexCast v3200
  let c0_1532 : Index := 0#32
  let c0_1533 : Index := 0#32
  ![24, v4118.toNat, 0, 0]
def k0_off472 (i : grid0.Coords) : Fin 4 → Nat :=
  let c25_1534 : Index := 25#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4122 : Index := Scalar.indexCast v3200
  let c0_1535 : Index := 0#32
  let c0_1536 : Index := 0#32
  ![25, v4122.toNat, 0, 0]
def k0_off473 (i : grid0.Coords) : Fin 4 → Nat :=
  let c26_1537 : Index := 26#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4126 : Index := Scalar.indexCast v3200
  let c0_1538 : Index := 0#32
  let c0_1539 : Index := 0#32
  ![26, v4126.toNat, 0, 0]
def k0_off474 (i : grid0.Coords) : Fin 4 → Nat :=
  let c27_1540 : Index := 27#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4130 : Index := Scalar.indexCast v3200
  let c0_1541 : Index := 0#32
  let c0_1542 : Index := 0#32
  ![27, v4130.toNat, 0, 0]
def k0_off475 (i : grid0.Coords) : Fin 4 → Nat :=
  let c28_1543 : Index := 28#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4134 : Index := Scalar.indexCast v3200
  let c0_1544 : Index := 0#32
  let c0_1545 : Index := 0#32
  ![28, v4134.toNat, 0, 0]
def k0_off476 (i : grid0.Coords) : Fin 4 → Nat :=
  let c29_1546 : Index := 29#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4138 : Index := Scalar.indexCast v3200
  let c0_1547 : Index := 0#32
  let c0_1548 : Index := 0#32
  ![29, v4138.toNat, 0, 0]
def k0_off477 (i : grid0.Coords) : Fin 4 → Nat :=
  let c30_1549 : Index := 30#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4142 : Index := Scalar.indexCast v3200
  let c0_1550 : Index := 0#32
  let c0_1551 : Index := 0#32
  ![30, v4142.toNat, 0, 0]
def k0_off478 (i : grid0.Coords) : Fin 4 → Nat :=
  let c31_1552 : Index := 31#32
  let c2_i32_1203 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v3200 : BitVec 32 := Scalar.muli c2_i32_1203 v3199
  let v4146 : Index := Scalar.indexCast v3200
  let c0_1553 : Index := 0#32
  let c0_1554 : Index := 0#32
  ![31, v4146.toNat, 0, 0]
def k0_mult48 (i : grid0.Coords) : BitVec 32 :=
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let c256_i32_1557 : BitVec 32 := 256#32
  let v4152 : BitVec 32 := Scalar.muli v4151 c256_i32_1557
  v4152
def k0_off479 (i : grid0.Coords) : Fin 4 → Nat :=
  let c0_1812 : Index := 0#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v4973 : Index := Scalar.indexCast v4151
  let c0_1813 : Index := 0#32
  let c0_1814 : Index := 0#32
  ![0, v4973.toNat, 0, 0]
def k0_off480 (i : grid0.Coords) : Fin 4 → Nat :=
  let c1_1815 : Index := 1#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v4977 : Index := Scalar.indexCast v4151
  let c0_1816 : Index := 0#32
  let c0_1817 : Index := 0#32
  ![1, v4977.toNat, 0, 0]
def k0_off481 (i : grid0.Coords) : Fin 4 → Nat :=
  let c2_1818 : Index := 2#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v4981 : Index := Scalar.indexCast v4151
  let c0_1819 : Index := 0#32
  let c0_1820 : Index := 0#32
  ![2, v4981.toNat, 0, 0]
def k0_off482 (i : grid0.Coords) : Fin 4 → Nat :=
  let c3_1821 : Index := 3#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v4985 : Index := Scalar.indexCast v4151
  let c0_1822 : Index := 0#32
  let c0_1823 : Index := 0#32
  ![3, v4985.toNat, 0, 0]
def k0_off483 (i : grid0.Coords) : Fin 4 → Nat :=
  let c4_1824 : Index := 4#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v4989 : Index := Scalar.indexCast v4151
  let c0_1825 : Index := 0#32
  let c0_1826 : Index := 0#32
  ![4, v4989.toNat, 0, 0]
def k0_off484 (i : grid0.Coords) : Fin 4 → Nat :=
  let c5_1827 : Index := 5#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v4993 : Index := Scalar.indexCast v4151
  let c0_1828 : Index := 0#32
  let c0_1829 : Index := 0#32
  ![5, v4993.toNat, 0, 0]
def k0_off485 (i : grid0.Coords) : Fin 4 → Nat :=
  let c6_1830 : Index := 6#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v4997 : Index := Scalar.indexCast v4151
  let c0_1831 : Index := 0#32
  let c0_1832 : Index := 0#32
  ![6, v4997.toNat, 0, 0]
def k0_off486 (i : grid0.Coords) : Fin 4 → Nat :=
  let c7_1833 : Index := 7#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5001 : Index := Scalar.indexCast v4151
  let c0_1834 : Index := 0#32
  let c0_1835 : Index := 0#32
  ![7, v5001.toNat, 0, 0]
def k0_off487 (i : grid0.Coords) : Fin 4 → Nat :=
  let c8_1836 : Index := 8#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5005 : Index := Scalar.indexCast v4151
  let c0_1837 : Index := 0#32
  let c0_1838 : Index := 0#32
  ![8, v5005.toNat, 0, 0]
def k0_off488 (i : grid0.Coords) : Fin 4 → Nat :=
  let c9_1839 : Index := 9#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5009 : Index := Scalar.indexCast v4151
  let c0_1840 : Index := 0#32
  let c0_1841 : Index := 0#32
  ![9, v5009.toNat, 0, 0]
def k0_off489 (i : grid0.Coords) : Fin 4 → Nat :=
  let c10_1842 : Index := 10#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5013 : Index := Scalar.indexCast v4151
  let c0_1843 : Index := 0#32
  let c0_1844 : Index := 0#32
  ![10, v5013.toNat, 0, 0]
def k0_off490 (i : grid0.Coords) : Fin 4 → Nat :=
  let c11_1845 : Index := 11#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5017 : Index := Scalar.indexCast v4151
  let c0_1846 : Index := 0#32
  let c0_1847 : Index := 0#32
  ![11, v5017.toNat, 0, 0]
def k0_off491 (i : grid0.Coords) : Fin 4 → Nat :=
  let c12_1848 : Index := 12#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5021 : Index := Scalar.indexCast v4151
  let c0_1849 : Index := 0#32
  let c0_1850 : Index := 0#32
  ![12, v5021.toNat, 0, 0]
def k0_off492 (i : grid0.Coords) : Fin 4 → Nat :=
  let c13_1851 : Index := 13#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5025 : Index := Scalar.indexCast v4151
  let c0_1852 : Index := 0#32
  let c0_1853 : Index := 0#32
  ![13, v5025.toNat, 0, 0]
def k0_off493 (i : grid0.Coords) : Fin 4 → Nat :=
  let c14_1854 : Index := 14#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5029 : Index := Scalar.indexCast v4151
  let c0_1855 : Index := 0#32
  let c0_1856 : Index := 0#32
  ![14, v5029.toNat, 0, 0]
def k0_off494 (i : grid0.Coords) : Fin 4 → Nat :=
  let c15_1857 : Index := 15#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5033 : Index := Scalar.indexCast v4151
  let c0_1858 : Index := 0#32
  let c0_1859 : Index := 0#32
  ![15, v5033.toNat, 0, 0]
def k0_off495 (i : grid0.Coords) : Fin 4 → Nat :=
  let c16_1860 : Index := 16#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5037 : Index := Scalar.indexCast v4151
  let c0_1861 : Index := 0#32
  let c0_1862 : Index := 0#32
  ![16, v5037.toNat, 0, 0]
def k0_off496 (i : grid0.Coords) : Fin 4 → Nat :=
  let c17_1863 : Index := 17#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5041 : Index := Scalar.indexCast v4151
  let c0_1864 : Index := 0#32
  let c0_1865 : Index := 0#32
  ![17, v5041.toNat, 0, 0]
def k0_off497 (i : grid0.Coords) : Fin 4 → Nat :=
  let c18_1866 : Index := 18#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5045 : Index := Scalar.indexCast v4151
  let c0_1867 : Index := 0#32
  let c0_1868 : Index := 0#32
  ![18, v5045.toNat, 0, 0]
def k0_off498 (i : grid0.Coords) : Fin 4 → Nat :=
  let c19_1869 : Index := 19#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5049 : Index := Scalar.indexCast v4151
  let c0_1870 : Index := 0#32
  let c0_1871 : Index := 0#32
  ![19, v5049.toNat, 0, 0]
def k0_off499 (i : grid0.Coords) : Fin 4 → Nat :=
  let c20_1872 : Index := 20#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5053 : Index := Scalar.indexCast v4151
  let c0_1873 : Index := 0#32
  let c0_1874 : Index := 0#32
  ![20, v5053.toNat, 0, 0]
def k0_off500 (i : grid0.Coords) : Fin 4 → Nat :=
  let c21_1875 : Index := 21#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5057 : Index := Scalar.indexCast v4151
  let c0_1876 : Index := 0#32
  let c0_1877 : Index := 0#32
  ![21, v5057.toNat, 0, 0]
def k0_off501 (i : grid0.Coords) : Fin 4 → Nat :=
  let c22_1878 : Index := 22#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5061 : Index := Scalar.indexCast v4151
  let c0_1879 : Index := 0#32
  let c0_1880 : Index := 0#32
  ![22, v5061.toNat, 0, 0]
def k0_off502 (i : grid0.Coords) : Fin 4 → Nat :=
  let c23_1881 : Index := 23#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5065 : Index := Scalar.indexCast v4151
  let c0_1882 : Index := 0#32
  let c0_1883 : Index := 0#32
  ![23, v5065.toNat, 0, 0]
def k0_off503 (i : grid0.Coords) : Fin 4 → Nat :=
  let c24_1884 : Index := 24#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5069 : Index := Scalar.indexCast v4151
  let c0_1885 : Index := 0#32
  let c0_1886 : Index := 0#32
  ![24, v5069.toNat, 0, 0]
def k0_off504 (i : grid0.Coords) : Fin 4 → Nat :=
  let c25_1887 : Index := 25#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5073 : Index := Scalar.indexCast v4151
  let c0_1888 : Index := 0#32
  let c0_1889 : Index := 0#32
  ![25, v5073.toNat, 0, 0]
def k0_off505 (i : grid0.Coords) : Fin 4 → Nat :=
  let c26_1890 : Index := 26#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5077 : Index := Scalar.indexCast v4151
  let c0_1891 : Index := 0#32
  let c0_1892 : Index := 0#32
  ![26, v5077.toNat, 0, 0]
def k0_off506 (i : grid0.Coords) : Fin 4 → Nat :=
  let c27_1893 : Index := 27#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5081 : Index := Scalar.indexCast v4151
  let c0_1894 : Index := 0#32
  let c0_1895 : Index := 0#32
  ![27, v5081.toNat, 0, 0]
def k0_off507 (i : grid0.Coords) : Fin 4 → Nat :=
  let c28_1896 : Index := 28#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5085 : Index := Scalar.indexCast v4151
  let c0_1897 : Index := 0#32
  let c0_1898 : Index := 0#32
  ![28, v5085.toNat, 0, 0]
def k0_off508 (i : grid0.Coords) : Fin 4 → Nat :=
  let c29_1899 : Index := 29#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5089 : Index := Scalar.indexCast v4151
  let c0_1900 : Index := 0#32
  let c0_1901 : Index := 0#32
  ![29, v5089.toNat, 0, 0]
def k0_off509 (i : grid0.Coords) : Fin 4 → Nat :=
  let c30_1902 : Index := 30#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5093 : Index := Scalar.indexCast v4151
  let c0_1903 : Index := 0#32
  let c0_1904 : Index := 0#32
  ![30, v5093.toNat, 0, 0]
def k0_off510 (i : grid0.Coords) : Fin 4 → Nat :=
  let c31_1905 : Index := 31#32
  let c2_i32_1555 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let c1_i32_1202 : BitVec 32 := 1#32
  let v3199 : BitVec 32 := Scalar.subi v2686 c1_i32_1202
  let v4150 : BitVec 32 := Scalar.muli c2_i32_1555 v3199
  let c1_i32_1556 : BitVec 32 := 1#32
  let v4151 : BitVec 32 := Scalar.addi v4150 c1_i32_1556
  let v5097 : Index := Scalar.indexCast v4151
  let c0_1906 : Index := 0#32
  let c0_1907 : Index := 0#32
  ![31, v5097.toNat, 0, 0]
def k0_cond8 (i : grid0.Coords) : BitVec 1 :=
  let c2_i32 : BitVec 32 := 2#32
  let arg1 : BitVec 32 := BitVec.ofNat 32 (i 1).val
  let v8 : BitVec 32 := Scalar.muli c2_i32 arg1
  let c2_i32_2 : BitVec 32 := 2#32
  let v10 : BitVec 32 := Scalar.addi v8 c2_i32_2
  let c64_i32 : BitVec 32 := 64#32
  let v2573 : BitVec 1 := Scalar.cmpi .slt v10 c64_i32
  let c2_i32_941 : BitVec 32 := 2#32
  let v2578 : BitVec 32 := Scalar.addi v10 c2_i32_941
  let c0_i32_943 : BitVec 32 := 0#32
  let v2580 : BitVec 1 := Scalar.cmpi .sgt v2578 c0_i32_943
  let v2581 : BitVec 32 := Scalar.extui v2580
  let c0_i32_944 : BitVec 32 := 0#32
  let v2582 : BitVec 1 := Scalar.cmpi .slt v2578 c0_i32_944
  let v2583 : BitVec 32 := Scalar.extui v2582
  let v2584 : BitVec 32 := Scalar.subi v2581 v2583
  let c2_i32_942 : BitVec 32 := 2#32
  let c0_i32_945 : BitVec 32 := 0#32
  let v2585 : BitVec 1 := Scalar.cmpi .sgt c2_i32_942 c0_i32_945
  let v2586 : BitVec 32 := Scalar.extui v2585
  let c0_i32_946 : BitVec 32 := 0#32
  let v2587 : BitVec 1 := Scalar.cmpi .slt c2_i32_942 c0_i32_946
  let v2588 : BitVec 32 := Scalar.extui v2587
  let v2589 : BitVec 32 := Scalar.subi v2586 v2588
  let v2590 : BitVec 1 := Scalar.cmpi .ne v2584 v2589
  let v2591 : BitVec 32 := Scalar.remsi v2578 c2_i32_942
  let c0_i32_947 : BitVec 32 := 0#32
  let v2592 : BitVec 1 := Scalar.cmpi .ne v2591 c0_i32_947
  let v2593 : BitVec 1 := Scalar.andi v2590 v2592
  let v2579 : BitVec 32 := Scalar.divsi v2578 c2_i32_942
  let c1_i32_948 : BitVec 32 := 1#32
  let v2594 : BitVec 32 := Scalar.subi v2579 c1_i32_948
  let v2595 : BitVec 32 := Scalar.select v2593 v2594 v2579
  let c1_i32_949 : BitVec 32 := 1#32
  let v2596 : BitVec 32 := Scalar.addi v2595 c1_i32_949
  let c0_i32_951 : BitVec 32 := 0#32
  let v2598 : BitVec 1 := Scalar.cmpi .sgt v2596 c0_i32_951
  let v2599 : BitVec 32 := Scalar.extui v2598
  let c0_i32_952 : BitVec 32 := 0#32
  let v2600 : BitVec 1 := Scalar.cmpi .slt v2596 c0_i32_952
  let v2601 : BitVec 32 := Scalar.extui v2600
  let v2602 : BitVec 32 := Scalar.subi v2599 v2601
  let c2_i32_950 : BitVec 32 := 2#32
  let c0_i32_953 : BitVec 32 := 0#32
  let v2603 : BitVec 1 := Scalar.cmpi .sgt c2_i32_950 c0_i32_953
  let v2604 : BitVec 32 := Scalar.extui v2603
  let c0_i32_954 : BitVec 32 := 0#32
  let v2605 : BitVec 1 := Scalar.cmpi .slt c2_i32_950 c0_i32_954
  let v2606 : BitVec 32 := Scalar.extui v2605
  let v2607 : BitVec 32 := Scalar.subi v2604 v2606
  let v2608 : BitVec 1 := Scalar.cmpi .ne v2602 v2607
  let v2609 : BitVec 32 := Scalar.remsi v2596 c2_i32_950
  let c0_i32_955 : BitVec 32 := 0#32
  let v2610 : BitVec 1 := Scalar.cmpi .ne v2609 c0_i32_955
  let v2611 : BitVec 1 := Scalar.andi v2608 v2610
  let v2597 : BitVec 32 := Scalar.divsi v2596 c2_i32_950
  let c1_i32_956 : BitVec 32 := 1#32
  let v2612 : BitVec 32 := Scalar.subi v2597 c1_i32_956
  let v2613 : BitVec 32 := Scalar.select v2611 v2612 v2597
  let c1_i32 : BitVec 32 := 1#32
  let v9 : BitVec 32 := Scalar.addi v8 c1_i32
  let c2_i32_957 : BitVec 32 := 2#32
  let v2614 : BitVec 32 := Scalar.addi v9 c2_i32_957
  let c0_i32_959 : BitVec 32 := 0#32
  let v2616 : BitVec 1 := Scalar.cmpi .sgt v2614 c0_i32_959
  let v2617 : BitVec 32 := Scalar.extui v2616
  let c0_i32_960 : BitVec 32 := 0#32
  let v2618 : BitVec 1 := Scalar.cmpi .slt v2614 c0_i32_960
  let v2619 : BitVec 32 := Scalar.extui v2618
  let v2620 : BitVec 32 := Scalar.subi v2617 v2619
  let c2_i32_958 : BitVec 32 := 2#32
  let c0_i32_961 : BitVec 32 := 0#32
  let v2621 : BitVec 1 := Scalar.cmpi .sgt c2_i32_958 c0_i32_961
  let v2622 : BitVec 32 := Scalar.extui v2621
  let c0_i32_962 : BitVec 32 := 0#32
  let v2623 : BitVec 1 := Scalar.cmpi .slt c2_i32_958 c0_i32_962
  let v2624 : BitVec 32 := Scalar.extui v2623
  let v2625 : BitVec 32 := Scalar.subi v2622 v2624
  let v2626 : BitVec 1 := Scalar.cmpi .ne v2620 v2625
  let v2627 : BitVec 32 := Scalar.remsi v2614 c2_i32_958
  let c0_i32_963 : BitVec 32 := 0#32
  let v2628 : BitVec 1 := Scalar.cmpi .ne v2627 c0_i32_963
  let v2629 : BitVec 1 := Scalar.andi v2626 v2628
  let v2615 : BitVec 32 := Scalar.divsi v2614 c2_i32_958
  let c1_i32_964 : BitVec 32 := 1#32
  let v2630 : BitVec 32 := Scalar.subi v2615 c1_i32_964
  let v2631 : BitVec 32 := Scalar.select v2629 v2630 v2615
  let c1_i32_965 : BitVec 32 := 1#32
  let v2632 : BitVec 32 := Scalar.addi v2631 c1_i32_965
  let c0_i32_967 : BitVec 32 := 0#32
  let v2634 : BitVec 1 := Scalar.cmpi .sgt v2632 c0_i32_967
  let v2635 : BitVec 32 := Scalar.extui v2634
  let c0_i32_968 : BitVec 32 := 0#32
  let v2636 : BitVec 1 := Scalar.cmpi .slt v2632 c0_i32_968
  let v2637 : BitVec 32 := Scalar.extui v2636
  let v2638 : BitVec 32 := Scalar.subi v2635 v2637
  let c2_i32_966 : BitVec 32 := 2#32
  let c0_i32_969 : BitVec 32 := 0#32
  let v2639 : BitVec 1 := Scalar.cmpi .sgt c2_i32_966 c0_i32_969
  let v2640 : BitVec 32 := Scalar.extui v2639
  let c0_i32_970 : BitVec 32 := 0#32
  let v2641 : BitVec 1 := Scalar.cmpi .slt c2_i32_966 c0_i32_970
  let v2642 : BitVec 32 := Scalar.extui v2641
  let v2643 : BitVec 32 := Scalar.subi v2640 v2642
  let v2644 : BitVec 1 := Scalar.cmpi .ne v2638 v2643
  let v2645 : BitVec 32 := Scalar.remsi v2632 c2_i32_966
  let c0_i32_971 : BitVec 32 := 0#32
  let v2646 : BitVec 1 := Scalar.cmpi .ne v2645 c0_i32_971
  let v2647 : BitVec 1 := Scalar.andi v2644 v2646
  let v2633 : BitVec 32 := Scalar.divsi v2632 c2_i32_966
  let c1_i32_972 : BitVec 32 := 1#32
  let v2648 : BitVec 32 := Scalar.subi v2633 c1_i32_972
  let v2649 : BitVec 32 := Scalar.select v2647 v2648 v2633
  let v2650 : BitVec 32 := Scalar.select v2573 v2613 v2649
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5101 : BitVec 1 := Scalar.cmpi .sgt v2650 v2686
  let v5102 : BitVec 32 := Scalar.extui v5101
  let c0_i32_1908 : BitVec 32 := 0#32
  let v5103 : BitVec 1 := Scalar.cmpi .ne v5102 c0_i32_1908
  v5103

def k0_mult49 (i : grid0.Coords) : BitVec 32 :=
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let c256_i32_1938 : BitVec 32 := 256#32
  let v5172 : BitVec 32 := Scalar.muli v5171 c256_i32_1938
  v5172
def k0_off511 (i : grid0.Coords) : Fin 2 → Nat :=
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let c256_i32_1938 : BitVec 32 := 256#32
  let v5172 : BitVec 32 := Scalar.muli v5171 c256_i32_1938
  let v5173 : BitVec 32 := v5172
  let v5175 : Index := Scalar.indexCast v5173
  let c0_1941 : Index := 0#32
  ![v5175.toNat, 0]
def k0_off512 (i : grid0.Coords) : Fin 4 → Nat :=
  let c0_2193 : Index := 0#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v5993 : Index := Scalar.indexCast v5171
  let c0_2194 : Index := 0#32
  let c0_2195 : Index := 0#32
  ![0, v5993.toNat, 0, 0]
def k0_off513 (i : grid0.Coords) : Fin 4 → Nat :=
  let c1_2196 : Index := 1#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v5997 : Index := Scalar.indexCast v5171
  let c0_2197 : Index := 0#32
  let c0_2198 : Index := 0#32
  ![1, v5997.toNat, 0, 0]
def k0_off514 (i : grid0.Coords) : Fin 4 → Nat :=
  let c2_2199 : Index := 2#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6001 : Index := Scalar.indexCast v5171
  let c0_2200 : Index := 0#32
  let c0_2201 : Index := 0#32
  ![2, v6001.toNat, 0, 0]
def k0_off515 (i : grid0.Coords) : Fin 4 → Nat :=
  let c3_2202 : Index := 3#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6005 : Index := Scalar.indexCast v5171
  let c0_2203 : Index := 0#32
  let c0_2204 : Index := 0#32
  ![3, v6005.toNat, 0, 0]
def k0_off516 (i : grid0.Coords) : Fin 4 → Nat :=
  let c4_2205 : Index := 4#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6009 : Index := Scalar.indexCast v5171
  let c0_2206 : Index := 0#32
  let c0_2207 : Index := 0#32
  ![4, v6009.toNat, 0, 0]
def k0_off517 (i : grid0.Coords) : Fin 4 → Nat :=
  let c5_2208 : Index := 5#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6013 : Index := Scalar.indexCast v5171
  let c0_2209 : Index := 0#32
  let c0_2210 : Index := 0#32
  ![5, v6013.toNat, 0, 0]
def k0_off518 (i : grid0.Coords) : Fin 4 → Nat :=
  let c6_2211 : Index := 6#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6017 : Index := Scalar.indexCast v5171
  let c0_2212 : Index := 0#32
  let c0_2213 : Index := 0#32
  ![6, v6017.toNat, 0, 0]
def k0_off519 (i : grid0.Coords) : Fin 4 → Nat :=
  let c7_2214 : Index := 7#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6021 : Index := Scalar.indexCast v5171
  let c0_2215 : Index := 0#32
  let c0_2216 : Index := 0#32
  ![7, v6021.toNat, 0, 0]
def k0_off520 (i : grid0.Coords) : Fin 4 → Nat :=
  let c8_2217 : Index := 8#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6025 : Index := Scalar.indexCast v5171
  let c0_2218 : Index := 0#32
  let c0_2219 : Index := 0#32
  ![8, v6025.toNat, 0, 0]
def k0_off521 (i : grid0.Coords) : Fin 4 → Nat :=
  let c9_2220 : Index := 9#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6029 : Index := Scalar.indexCast v5171
  let c0_2221 : Index := 0#32
  let c0_2222 : Index := 0#32
  ![9, v6029.toNat, 0, 0]
def k0_off522 (i : grid0.Coords) : Fin 4 → Nat :=
  let c10_2223 : Index := 10#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6033 : Index := Scalar.indexCast v5171
  let c0_2224 : Index := 0#32
  let c0_2225 : Index := 0#32
  ![10, v6033.toNat, 0, 0]
def k0_off523 (i : grid0.Coords) : Fin 4 → Nat :=
  let c11_2226 : Index := 11#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6037 : Index := Scalar.indexCast v5171
  let c0_2227 : Index := 0#32
  let c0_2228 : Index := 0#32
  ![11, v6037.toNat, 0, 0]
def k0_off524 (i : grid0.Coords) : Fin 4 → Nat :=
  let c12_2229 : Index := 12#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6041 : Index := Scalar.indexCast v5171
  let c0_2230 : Index := 0#32
  let c0_2231 : Index := 0#32
  ![12, v6041.toNat, 0, 0]
def k0_off525 (i : grid0.Coords) : Fin 4 → Nat :=
  let c13_2232 : Index := 13#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6045 : Index := Scalar.indexCast v5171
  let c0_2233 : Index := 0#32
  let c0_2234 : Index := 0#32
  ![13, v6045.toNat, 0, 0]
def k0_off526 (i : grid0.Coords) : Fin 4 → Nat :=
  let c14_2235 : Index := 14#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6049 : Index := Scalar.indexCast v5171
  let c0_2236 : Index := 0#32
  let c0_2237 : Index := 0#32
  ![14, v6049.toNat, 0, 0]
def k0_off527 (i : grid0.Coords) : Fin 4 → Nat :=
  let c15_2238 : Index := 15#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6053 : Index := Scalar.indexCast v5171
  let c0_2239 : Index := 0#32
  let c0_2240 : Index := 0#32
  ![15, v6053.toNat, 0, 0]
def k0_off528 (i : grid0.Coords) : Fin 4 → Nat :=
  let c16_2241 : Index := 16#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6057 : Index := Scalar.indexCast v5171
  let c0_2242 : Index := 0#32
  let c0_2243 : Index := 0#32
  ![16, v6057.toNat, 0, 0]
def k0_off529 (i : grid0.Coords) : Fin 4 → Nat :=
  let c17_2244 : Index := 17#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6061 : Index := Scalar.indexCast v5171
  let c0_2245 : Index := 0#32
  let c0_2246 : Index := 0#32
  ![17, v6061.toNat, 0, 0]
def k0_off530 (i : grid0.Coords) : Fin 4 → Nat :=
  let c18_2247 : Index := 18#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6065 : Index := Scalar.indexCast v5171
  let c0_2248 : Index := 0#32
  let c0_2249 : Index := 0#32
  ![18, v6065.toNat, 0, 0]
def k0_off531 (i : grid0.Coords) : Fin 4 → Nat :=
  let c19_2250 : Index := 19#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6069 : Index := Scalar.indexCast v5171
  let c0_2251 : Index := 0#32
  let c0_2252 : Index := 0#32
  ![19, v6069.toNat, 0, 0]
def k0_off532 (i : grid0.Coords) : Fin 4 → Nat :=
  let c20_2253 : Index := 20#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6073 : Index := Scalar.indexCast v5171
  let c0_2254 : Index := 0#32
  let c0_2255 : Index := 0#32
  ![20, v6073.toNat, 0, 0]
def k0_off533 (i : grid0.Coords) : Fin 4 → Nat :=
  let c21_2256 : Index := 21#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6077 : Index := Scalar.indexCast v5171
  let c0_2257 : Index := 0#32
  let c0_2258 : Index := 0#32
  ![21, v6077.toNat, 0, 0]
def k0_off534 (i : grid0.Coords) : Fin 4 → Nat :=
  let c22_2259 : Index := 22#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6081 : Index := Scalar.indexCast v5171
  let c0_2260 : Index := 0#32
  let c0_2261 : Index := 0#32
  ![22, v6081.toNat, 0, 0]
def k0_off535 (i : grid0.Coords) : Fin 4 → Nat :=
  let c23_2262 : Index := 23#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6085 : Index := Scalar.indexCast v5171
  let c0_2263 : Index := 0#32
  let c0_2264 : Index := 0#32
  ![23, v6085.toNat, 0, 0]
def k0_off536 (i : grid0.Coords) : Fin 4 → Nat :=
  let c24_2265 : Index := 24#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6089 : Index := Scalar.indexCast v5171
  let c0_2266 : Index := 0#32
  let c0_2267 : Index := 0#32
  ![24, v6089.toNat, 0, 0]
def k0_off537 (i : grid0.Coords) : Fin 4 → Nat :=
  let c25_2268 : Index := 25#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6093 : Index := Scalar.indexCast v5171
  let c0_2269 : Index := 0#32
  let c0_2270 : Index := 0#32
  ![25, v6093.toNat, 0, 0]
def k0_off538 (i : grid0.Coords) : Fin 4 → Nat :=
  let c26_2271 : Index := 26#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6097 : Index := Scalar.indexCast v5171
  let c0_2272 : Index := 0#32
  let c0_2273 : Index := 0#32
  ![26, v6097.toNat, 0, 0]
def k0_off539 (i : grid0.Coords) : Fin 4 → Nat :=
  let c27_2274 : Index := 27#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6101 : Index := Scalar.indexCast v5171
  let c0_2275 : Index := 0#32
  let c0_2276 : Index := 0#32
  ![27, v6101.toNat, 0, 0]
def k0_off540 (i : grid0.Coords) : Fin 4 → Nat :=
  let c28_2277 : Index := 28#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6105 : Index := Scalar.indexCast v5171
  let c0_2278 : Index := 0#32
  let c0_2279 : Index := 0#32
  ![28, v6105.toNat, 0, 0]
def k0_off541 (i : grid0.Coords) : Fin 4 → Nat :=
  let c29_2280 : Index := 29#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6109 : Index := Scalar.indexCast v5171
  let c0_2281 : Index := 0#32
  let c0_2282 : Index := 0#32
  ![29, v6109.toNat, 0, 0]
def k0_off542 (i : grid0.Coords) : Fin 4 → Nat :=
  let c30_2283 : Index := 30#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6113 : Index := Scalar.indexCast v5171
  let c0_2284 : Index := 0#32
  let c0_2285 : Index := 0#32
  ![30, v6113.toNat, 0, 0]
def k0_off543 (i : grid0.Coords) : Fin 4 → Nat :=
  let c31_2286 : Index := 31#32
  let c2_i32_1937 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v5171 : BitVec 32 := Scalar.muli c2_i32_1937 v2686
  let v6117 : Index := Scalar.indexCast v5171
  let c0_2287 : Index := 0#32
  let c0_2288 : Index := 0#32
  ![31, v6117.toNat, 0, 0]
def k0_mult50 (i : grid0.Coords) : BitVec 32 :=
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let c256_i32_2291 : BitVec 32 := 256#32
  let v6123 : BitVec 32 := Scalar.muli v6122 c256_i32_2291
  v6123
def k0_off544 (i : grid0.Coords) : Fin 2 → Nat :=
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let c256_i32_2291 : BitVec 32 := 256#32
  let v6123 : BitVec 32 := Scalar.muli v6122 c256_i32_2291
  let v6124 : BitVec 32 := v6123
  let v6126 : Index := Scalar.indexCast v6124
  let c0_2294 : Index := 0#32
  ![v6126.toNat, 0]
def k0_off545 (i : grid0.Coords) : Fin 4 → Nat :=
  let c0_2546 : Index := 0#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6944 : Index := Scalar.indexCast v6122
  let c0_2547 : Index := 0#32
  let c0_2548 : Index := 0#32
  ![0, v6944.toNat, 0, 0]
def k0_off546 (i : grid0.Coords) : Fin 4 → Nat :=
  let c1_2549 : Index := 1#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6948 : Index := Scalar.indexCast v6122
  let c0_2550 : Index := 0#32
  let c0_2551 : Index := 0#32
  ![1, v6948.toNat, 0, 0]
def k0_off547 (i : grid0.Coords) : Fin 4 → Nat :=
  let c2_2552 : Index := 2#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6952 : Index := Scalar.indexCast v6122
  let c0_2553 : Index := 0#32
  let c0_2554 : Index := 0#32
  ![2, v6952.toNat, 0, 0]
def k0_off548 (i : grid0.Coords) : Fin 4 → Nat :=
  let c3_2555 : Index := 3#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6956 : Index := Scalar.indexCast v6122
  let c0_2556 : Index := 0#32
  let c0_2557 : Index := 0#32
  ![3, v6956.toNat, 0, 0]
def k0_off549 (i : grid0.Coords) : Fin 4 → Nat :=
  let c4_2558 : Index := 4#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6960 : Index := Scalar.indexCast v6122
  let c0_2559 : Index := 0#32
  let c0_2560 : Index := 0#32
  ![4, v6960.toNat, 0, 0]
def k0_off550 (i : grid0.Coords) : Fin 4 → Nat :=
  let c5_2561 : Index := 5#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6964 : Index := Scalar.indexCast v6122
  let c0_2562 : Index := 0#32
  let c0_2563 : Index := 0#32
  ![5, v6964.toNat, 0, 0]
def k0_off551 (i : grid0.Coords) : Fin 4 → Nat :=
  let c6_2564 : Index := 6#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6968 : Index := Scalar.indexCast v6122
  let c0_2565 : Index := 0#32
  let c0_2566 : Index := 0#32
  ![6, v6968.toNat, 0, 0]
def k0_off552 (i : grid0.Coords) : Fin 4 → Nat :=
  let c7_2567 : Index := 7#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6972 : Index := Scalar.indexCast v6122
  let c0_2568 : Index := 0#32
  let c0_2569 : Index := 0#32
  ![7, v6972.toNat, 0, 0]
def k0_off553 (i : grid0.Coords) : Fin 4 → Nat :=
  let c8_2570 : Index := 8#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6976 : Index := Scalar.indexCast v6122
  let c0_2571 : Index := 0#32
  let c0_2572 : Index := 0#32
  ![8, v6976.toNat, 0, 0]
def k0_off554 (i : grid0.Coords) : Fin 4 → Nat :=
  let c9_2573 : Index := 9#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6980 : Index := Scalar.indexCast v6122
  let c0_2574 : Index := 0#32
  let c0_2575 : Index := 0#32
  ![9, v6980.toNat, 0, 0]
def k0_off555 (i : grid0.Coords) : Fin 4 → Nat :=
  let c10_2576 : Index := 10#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6984 : Index := Scalar.indexCast v6122
  let c0_2577 : Index := 0#32
  let c0_2578 : Index := 0#32
  ![10, v6984.toNat, 0, 0]
def k0_off556 (i : grid0.Coords) : Fin 4 → Nat :=
  let c11_2579 : Index := 11#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6988 : Index := Scalar.indexCast v6122
  let c0_2580 : Index := 0#32
  let c0_2581 : Index := 0#32
  ![11, v6988.toNat, 0, 0]
def k0_off557 (i : grid0.Coords) : Fin 4 → Nat :=
  let c12_2582 : Index := 12#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6992 : Index := Scalar.indexCast v6122
  let c0_2583 : Index := 0#32
  let c0_2584 : Index := 0#32
  ![12, v6992.toNat, 0, 0]
def k0_off558 (i : grid0.Coords) : Fin 4 → Nat :=
  let c13_2585 : Index := 13#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v6996 : Index := Scalar.indexCast v6122
  let c0_2586 : Index := 0#32
  let c0_2587 : Index := 0#32
  ![13, v6996.toNat, 0, 0]
def k0_off559 (i : grid0.Coords) : Fin 4 → Nat :=
  let c14_2588 : Index := 14#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7000 : Index := Scalar.indexCast v6122
  let c0_2589 : Index := 0#32
  let c0_2590 : Index := 0#32
  ![14, v7000.toNat, 0, 0]
def k0_off560 (i : grid0.Coords) : Fin 4 → Nat :=
  let c15_2591 : Index := 15#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7004 : Index := Scalar.indexCast v6122
  let c0_2592 : Index := 0#32
  let c0_2593 : Index := 0#32
  ![15, v7004.toNat, 0, 0]
def k0_off561 (i : grid0.Coords) : Fin 4 → Nat :=
  let c16_2594 : Index := 16#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7008 : Index := Scalar.indexCast v6122
  let c0_2595 : Index := 0#32
  let c0_2596 : Index := 0#32
  ![16, v7008.toNat, 0, 0]
def k0_off562 (i : grid0.Coords) : Fin 4 → Nat :=
  let c17_2597 : Index := 17#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7012 : Index := Scalar.indexCast v6122
  let c0_2598 : Index := 0#32
  let c0_2599 : Index := 0#32
  ![17, v7012.toNat, 0, 0]
def k0_off563 (i : grid0.Coords) : Fin 4 → Nat :=
  let c18_2600 : Index := 18#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7016 : Index := Scalar.indexCast v6122
  let c0_2601 : Index := 0#32
  let c0_2602 : Index := 0#32
  ![18, v7016.toNat, 0, 0]
def k0_off564 (i : grid0.Coords) : Fin 4 → Nat :=
  let c19_2603 : Index := 19#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7020 : Index := Scalar.indexCast v6122
  let c0_2604 : Index := 0#32
  let c0_2605 : Index := 0#32
  ![19, v7020.toNat, 0, 0]
def k0_off565 (i : grid0.Coords) : Fin 4 → Nat :=
  let c20_2606 : Index := 20#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7024 : Index := Scalar.indexCast v6122
  let c0_2607 : Index := 0#32
  let c0_2608 : Index := 0#32
  ![20, v7024.toNat, 0, 0]
def k0_off566 (i : grid0.Coords) : Fin 4 → Nat :=
  let c21_2609 : Index := 21#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7028 : Index := Scalar.indexCast v6122
  let c0_2610 : Index := 0#32
  let c0_2611 : Index := 0#32
  ![21, v7028.toNat, 0, 0]
def k0_off567 (i : grid0.Coords) : Fin 4 → Nat :=
  let c22_2612 : Index := 22#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7032 : Index := Scalar.indexCast v6122
  let c0_2613 : Index := 0#32
  let c0_2614 : Index := 0#32
  ![22, v7032.toNat, 0, 0]
def k0_off568 (i : grid0.Coords) : Fin 4 → Nat :=
  let c23_2615 : Index := 23#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7036 : Index := Scalar.indexCast v6122
  let c0_2616 : Index := 0#32
  let c0_2617 : Index := 0#32
  ![23, v7036.toNat, 0, 0]
def k0_off569 (i : grid0.Coords) : Fin 4 → Nat :=
  let c24_2618 : Index := 24#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7040 : Index := Scalar.indexCast v6122
  let c0_2619 : Index := 0#32
  let c0_2620 : Index := 0#32
  ![24, v7040.toNat, 0, 0]
def k0_off570 (i : grid0.Coords) : Fin 4 → Nat :=
  let c25_2621 : Index := 25#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7044 : Index := Scalar.indexCast v6122
  let c0_2622 : Index := 0#32
  let c0_2623 : Index := 0#32
  ![25, v7044.toNat, 0, 0]
def k0_off571 (i : grid0.Coords) : Fin 4 → Nat :=
  let c26_2624 : Index := 26#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7048 : Index := Scalar.indexCast v6122
  let c0_2625 : Index := 0#32
  let c0_2626 : Index := 0#32
  ![26, v7048.toNat, 0, 0]
def k0_off572 (i : grid0.Coords) : Fin 4 → Nat :=
  let c27_2627 : Index := 27#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7052 : Index := Scalar.indexCast v6122
  let c0_2628 : Index := 0#32
  let c0_2629 : Index := 0#32
  ![27, v7052.toNat, 0, 0]
def k0_off573 (i : grid0.Coords) : Fin 4 → Nat :=
  let c28_2630 : Index := 28#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7056 : Index := Scalar.indexCast v6122
  let c0_2631 : Index := 0#32
  let c0_2632 : Index := 0#32
  ![28, v7056.toNat, 0, 0]
def k0_off574 (i : grid0.Coords) : Fin 4 → Nat :=
  let c29_2633 : Index := 29#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7060 : Index := Scalar.indexCast v6122
  let c0_2634 : Index := 0#32
  let c0_2635 : Index := 0#32
  ![29, v7060.toNat, 0, 0]
def k0_off575 (i : grid0.Coords) : Fin 4 → Nat :=
  let c30_2636 : Index := 30#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7064 : Index := Scalar.indexCast v6122
  let c0_2637 : Index := 0#32
  let c0_2638 : Index := 0#32
  ![30, v7064.toNat, 0, 0]
def k0_off576 (i : grid0.Coords) : Fin 4 → Nat :=
  let c31_2639 : Index := 31#32
  let c2_i32_2289 : BitVec 32 := 2#32
  let c2_i32 : BitVec 32 := 2#32
  let arg1 : BitVec 32 := BitVec.ofNat 32 (i 1).val
  let v8 : BitVec 32 := Scalar.muli c2_i32 arg1
  let c1_i32 : BitVec 32 := 1#32
  let v9 : BitVec 32 := Scalar.addi v8 c1_i32
  let c2_i32_973 : BitVec 32 := 2#32
  let v2651 : BitVec 32 := Scalar.addi v9 c2_i32_973
  let c0_i32_975 : BitVec 32 := 0#32
  let v2653 : BitVec 1 := Scalar.cmpi .sgt v2651 c0_i32_975
  let v2654 : BitVec 32 := Scalar.extui v2653
  let c0_i32_976 : BitVec 32 := 0#32
  let v2655 : BitVec 1 := Scalar.cmpi .slt v2651 c0_i32_976
  let v2656 : BitVec 32 := Scalar.extui v2655
  let v2657 : BitVec 32 := Scalar.subi v2654 v2656
  let c2_i32_974 : BitVec 32 := 2#32
  let c0_i32_977 : BitVec 32 := 0#32
  let v2658 : BitVec 1 := Scalar.cmpi .sgt c2_i32_974 c0_i32_977
  let v2659 : BitVec 32 := Scalar.extui v2658
  let c0_i32_978 : BitVec 32 := 0#32
  let v2660 : BitVec 1 := Scalar.cmpi .slt c2_i32_974 c0_i32_978
  let v2661 : BitVec 32 := Scalar.extui v2660
  let v2662 : BitVec 32 := Scalar.subi v2659 v2661
  let v2663 : BitVec 1 := Scalar.cmpi .ne v2657 v2662
  let v2664 : BitVec 32 := Scalar.remsi v2651 c2_i32_974
  let c0_i32_979 : BitVec 32 := 0#32
  let v2665 : BitVec 1 := Scalar.cmpi .ne v2664 c0_i32_979
  let v2666 : BitVec 1 := Scalar.andi v2663 v2665
  let v2652 : BitVec 32 := Scalar.divsi v2651 c2_i32_974
  let c1_i32_980 : BitVec 32 := 1#32
  let v2667 : BitVec 32 := Scalar.subi v2652 c1_i32_980
  let v2668 : BitVec 32 := Scalar.select v2666 v2667 v2652
  let c1_i32_981 : BitVec 32 := 1#32
  let v2669 : BitVec 32 := Scalar.addi v2668 c1_i32_981
  let c0_i32_983 : BitVec 32 := 0#32
  let v2671 : BitVec 1 := Scalar.cmpi .sgt v2669 c0_i32_983
  let v2672 : BitVec 32 := Scalar.extui v2671
  let c0_i32_984 : BitVec 32 := 0#32
  let v2673 : BitVec 1 := Scalar.cmpi .slt v2669 c0_i32_984
  let v2674 : BitVec 32 := Scalar.extui v2673
  let v2675 : BitVec 32 := Scalar.subi v2672 v2674
  let c2_i32_982 : BitVec 32 := 2#32
  let c0_i32_985 : BitVec 32 := 0#32
  let v2676 : BitVec 1 := Scalar.cmpi .sgt c2_i32_982 c0_i32_985
  let v2677 : BitVec 32 := Scalar.extui v2676
  let c0_i32_986 : BitVec 32 := 0#32
  let v2678 : BitVec 1 := Scalar.cmpi .slt c2_i32_982 c0_i32_986
  let v2679 : BitVec 32 := Scalar.extui v2678
  let v2680 : BitVec 32 := Scalar.subi v2677 v2679
  let v2681 : BitVec 1 := Scalar.cmpi .ne v2675 v2680
  let v2682 : BitVec 32 := Scalar.remsi v2669 c2_i32_982
  let c0_i32_987 : BitVec 32 := 0#32
  let v2683 : BitVec 1 := Scalar.cmpi .ne v2682 c0_i32_987
  let v2684 : BitVec 1 := Scalar.andi v2681 v2683
  let v2670 : BitVec 32 := Scalar.divsi v2669 c2_i32_982
  let c1_i32_988 : BitVec 32 := 1#32
  let v2685 : BitVec 32 := Scalar.subi v2670 c1_i32_988
  let v2686 : BitVec 32 := Scalar.select v2684 v2685 v2670
  let v6121 : BitVec 32 := Scalar.muli c2_i32_2289 v2686
  let c1_i32_2290 : BitVec 32 := 1#32
  let v6122 : BitVec 32 := Scalar.addi v6121 c1_i32_2290
  let v7068 : Index := Scalar.indexCast v6122
  let c0_2640 : Index := 0#32
  let c0_2641 : Index := 0#32
  ![31, v7068.toNat, 0, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c54_i32 : BitVec 32 := 54#32
  let c0_i32 : BitVec 32 := 0#32
  ![v1.toNat, c54_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c2_i32_0 : BitVec 32 := 2#32
  let v2 : BitVec 32 := Scalar.addi v1 c2_i32_0
  let c63_i32 : BitVec 32 := 63#32
  let v3 : BitVec 32 := Scalar.minsi v2 c63_i32
  let v4 : BitVec 32 := Scalar.addi v0 v3
  let c5_i32 : BitVec 32 := 5#32
  let c0_i32 : BitVec 32 := 0#32
  ![v4.toNat, c5_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c2_i32_0 : BitVec 32 := 2#32
  let v2 : BitVec 32 := Scalar.addi v1 c2_i32_0
  let c63_i32 : BitVec 32 := 63#32
  let v3 : BitVec 32 := Scalar.minsi v2 c63_i32
  let v4 : BitVec 32 := Scalar.addi v0 v3
  let c54_i32 : BitVec 32 := 54#32
  let c0_i32 : BitVec 32 := 0#32
  ![v4.toNat, c54_i32.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, c24_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c52_i32 : BitVec 32 := 52#32
  let c0_i32 : BitVec 32 := 0#32
  ![arg0.toNat, c52_i32.toNat]

def cc0_transform_8 (i : grid0.Coords) : Fin 2 → Nat :=
  let arg0 : BitVec 32 := BitVec.ofNat 32 (i 0).val
  let arg1 : BitVec 32 := BitVec.ofNat 32 (i 1).val
  let c53_i32 : BitVec 32 := 53#32
  let c0_i32 : BitVec 32 := 0#32
  ![arg0.toNat, c53_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2.lean ====
abbrev S4x8192x2048 : Shape := ⟨3, ![4, 8192, 2048]⟩
abbrev S4x12288 : Shape := ⟨2, ![4, 12288]⟩
abbrev S2048x8192 : Shape := ⟨2, ![2048, 8192]⟩
abbrev S8192x2048 : Shape := ⟨2, ![8192, 2048]⟩
abbrev S32768x2048 : Shape := ⟨2, ![32768, 2048]⟩
abbrev S4x6x2048 : Shape := ⟨3, ![4, 6, 2048]⟩
abbrev S4x1x2048 : Shape := ⟨3, ![4, 1, 2048]⟩
abbrev S1024x2048 : Shape := ⟨2, ![1024, 2048]⟩
abbrev S1024x256 : Shape := ⟨2, ![1024, 256]⟩
abbrev S1x1x256 : Shape := ⟨3, ![1, 1, 256]⟩
abbrev S2048x1024 : Shape := ⟨2, ![2048, 1024]⟩
abbrev S8192x256 : Shape := ⟨2, ![8192, 256]⟩
abbrev S8x1024x1024 : Shape := ⟨3, ![8, 1024, 1024]⟩
abbrev S1024x1024 : Shape := ⟨2, ![1024, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S512x256 : Shape := ⟨2, ![512, 256]⟩
abbrev S1x256 : Shape := ⟨2, ![1, 256]⟩

abbrev nBuf : Space → Nat
  | .hbm => 13
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x12288, .f32⟩
  | .hbm, ⟨3, _⟩ => ⟨S2048x8192, .f32⟩
  | .hbm, ⟨4, _⟩ => ⟨S8192x2048, .f32⟩
  | .hbm, ⟨5, _⟩ => ⟨S32768x2048, .f32⟩
  | .hbm, ⟨6, _⟩ => ⟨S32768x2048, .bf16⟩
  | .hbm, ⟨7, _⟩ => ⟨S4x6x2048, .f32⟩
  | .hbm, ⟨8, _⟩ => ⟨S32768x2048, .f32⟩
  | .hbm, ⟨9, _⟩ => ⟨S2048x8192, .bf16⟩
  | .hbm, ⟨10, _⟩ => ⟨S8192x2048, .bf16⟩
  | .hbm, ⟨11, _⟩ => ⟨S4x1x2048, .f32⟩
  | .hbm, ⟨12, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x256, .f32⟩
  | .local _ .vmem, ⟨3, _⟩ => ⟨S1024x256, .f32⟩
  | .local _ .vmem, ⟨4, _⟩ => ⟨S1x1x256, .f32⟩
  | .local _ .vmem, ⟨5, _⟩ => ⟨S1x1x256, .f32⟩
  | .local _ .vmem, ⟨6, _⟩ => ⟨S2048x1024, .bf16⟩
  | .local _ .vmem, ⟨7, _⟩ => ⟨S2048x1024, .bf16⟩
  | .local _ .vmem, ⟨8, _⟩ => ⟨S8192x256, .bf16⟩
  | .local _ .vmem, ⟨9, _⟩ => ⟨S8192x256, .bf16⟩
  | .local _ .vmem, ⟨10, _⟩ => ⟨S1024x256, .f32⟩
  | .local _ .vmem, ⟨11, _⟩ => ⟨S1024x256, .f32⟩
  | .local _ .vmem, ⟨12, _⟩ => ⟨S8x1024x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 16], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v15 : Index := Scalar.indexCast arg1
  let c0_6 : Index := 0#32
  let c0_7 : Index := 0#32
  ![v15.toNat, 0, 0]
def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.subi arg1 c8_i32_4
  let c0_i32_5 : BitVec 32 := 0#32
  let v18 : BitVec 32 := Scalar.maxsi v17 c0_i32_5
  let c0_i32_6 : BitVec 32 := 0#32
  let c0_i32_7 : BitVec 32 := 0#32
  ![v16.toNat, c0_i32_6.toNat, v18.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x8192x2048 : Shape := ⟨3, ![4, 8192, 2048]⟩
abbrev S4x12288 : Shape := ⟨2, ![4, 12288]⟩
abbrev S2048x8192 : Shape := ⟨2, ![2048, 8192]⟩
abbrev S8192x2048 : Shape := ⟨2, ![8192, 2048]⟩
abbrev S4x2048 : Shape := ⟨2, ![4, 2048]⟩
abbrev S4x8192x8192 : Shape := ⟨3, ![4, 8192, 8192]⟩
abbrev S_ : Shape := ⟨0, ![]⟩
abbrev S4x1x2048 : Shape := ⟨3, ![4, 1, 2048]⟩
abbrev S32768x2048 : Shape := ⟨2, ![32768, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x12288, .f32⟩
  | .hbm, ⟨3, _⟩ => ⟨S2048x8192, .f32⟩
  | .hbm, ⟨4, _⟩ => ⟨S8192x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x8192x8192, .f32⟩
  | .hbm, ⟨12, _⟩ => ⟨S_, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S4x8192x2048, .f32⟩
  | .hbm, ⟨17, _⟩ => ⟨S4x1x2048, .f32⟩
  | .hbm, ⟨18, _⟩ => ⟨S4x8192x2048, .f32⟩
  | .hbm, ⟨19, _⟩ => ⟨S4x8192x2048, .f32⟩
  | .hbm, ⟨20, _⟩ => ⟨S4x8192x2048, .f32⟩
  | .hbm, ⟨21, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x2048 : Shape := ⟨3, ![4, 8192, 2048]⟩
abbrev S4x12288 : Shape := ⟨2, ![4, 12288]⟩
abbrev S2048 : Shape := ⟨1, ![2048]⟩
abbrev S2048x2048 : Shape := ⟨2, ![2048, 2048]⟩
abbrev S32768x2048 : Shape := ⟨2, ![32768, 2048]⟩
abbrev S4x6x2048 : Shape := ⟨3, ![4, 6, 2048]⟩
abbrev S32768x1024 : Shape := ⟨2, ![32768, 1024]⟩
abbrev S1x2048 : Shape := ⟨2, ![1, 2048]⟩
abbrev S512x1024 : Shape := ⟨2, ![512, 1024]⟩
abbrev S512x2048 : Shape := ⟨2, ![512, 2048]⟩
abbrev S1x6x2048 : Shape := ⟨3, ![1, 6, 2048]⟩
abbrev S256x1024 : Shape := ⟨2, ![256, 1024]⟩
abbrev S1024x2048 : Shape := ⟨2, ![1024, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x2048, .f32⟩
  | .hbm, ⟨3, _⟩ => ⟨S4x12288, .f32⟩
  | .hbm, ⟨4, _⟩ => ⟨S2048, .f32⟩
  | .hbm, ⟨5, _⟩ => ⟨S2048x2048, .f32⟩
  | .hbm, ⟨6, _⟩ => ⟨S32768x2048, .f32⟩
  | .hbm, ⟨7, _⟩ => ⟨S4x6x2048, .f32⟩
  | .hbm, ⟨8, _⟩ => ⟨S32768x1024, .f32⟩
  | .hbm, ⟨9, _⟩ => ⟨S32768x1024, .bf16⟩
  | .hbm, ⟨10, _⟩ => ⟨S32768x1024, .f32⟩
  | .hbm, ⟨11, _⟩ => ⟨S32768x1024, .bf16⟩
  | .hbm, ⟨12, _⟩ => ⟨S1x2048, .f32⟩
  | .hbm, ⟨13, _⟩ => ⟨S2048x2048, .bf16⟩
  | .hbm, ⟨14, _⟩ => ⟨S32768x2048, .f32⟩
  | .hbm, ⟨15, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x8192x1024 : Shape := ⟨3, ![4, 8192, 1024]⟩
abbrev S4x8192x2048 : Shape := ⟨3, ![4, 8192, 2048]⟩
abbrev S4x12288 : Shape := ⟨2, ![4, 12288]⟩
abbrev S2048 : Shape := ⟨1, ![2048]⟩
abbrev S2048x2048 : Shape := ⟨2, ![2048, 2048]⟩
abbrev S4x2048 : Shape := ⟨2, ![4, 2048]⟩
abbrev S4x1x2048 : Shape := ⟨3, ![4, 1, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x2048, .f32⟩
  | .hbm, ⟨3, _⟩ => ⟨S4x12288, .f32⟩
  | .hbm, ⟨4, _⟩ => ⟨S2048, .f32⟩
  | .hbm, ⟨5, _⟩ => ⟨S2048x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x8192x2048, .f32⟩
  | .hbm, ⟨13, _⟩ => ⟨S4x8192x2048, .f32⟩
  | .hbm, ⟨14, _⟩ => ⟨S4x1x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x2048, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x2048, .f32⟩
  | .hbm, ⟨30, _⟩ => ⟨S4x8192x2048, .f32⟩
  | .hbm, ⟨31, _⟩ => ⟨S1x1x2048, .f32⟩
  | .hbm, ⟨32, _⟩ => ⟨S4x8192x2048, .f32⟩
  | .hbm, ⟨33, _⟩ => ⟨S4x8192x2048, .f32⟩
  | .hbm, ⟨34, _⟩ => ⟨S4x1x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x8192x2048, .f32⟩
  | .hbm, ⟨39, _⟩ => ⟨S4x8192x2048, .f32⟩
  | .hbm, ⟨40, _⟩ => ⟨S4x1x2048, .f32⟩
  | .hbm, ⟨41, _⟩ => ⟨S4x8192x2048, .f32⟩
  | .hbm, ⟨42, _⟩ => ⟨S4x8192x2048, .f32⟩
  | .hbm, ⟨43, _⟩ => ⟨S32768x2048, .f32⟩
  | .hbm, ⟨44, _⟩ => ⟨S32768x2048, .f32⟩
  | .hbm, ⟨45, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.MlpBody.lean ====
/- The body of the MLP call, run once in each of its two phases.  In the first eight steps of a row of the grid it
   leaves the squared rectified product of its two blocks in one slab of the scratch; in the last eight it reads
   all the slabs and fills the output block, half the rows at a time. -/
module

public import proofs.«01_k».proof.Proof.Gen.Kernel2Ideal.Frame
public import proofs.«01_k».proof.Proof.Gen.Kernel2Ideal.Skeleton
public import Idealize.ShloMosaic.Lib.WritesUnit
public import Idealize.ShloMosaic.Lib.Claim

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `r` to `r + 511` of slab `k` of the scratch, as the second phase loads them. -/
abbrev slab (x8 : Vec F S8x1024x1024 .bf16) (k r : Nat)
    (h : ∀ a, (![k, r, 0] : Fin 3 → Nat) a + S1x512x1024.size a ≤ S8x1024x1024.size a) : Vec F S1x512x1024 .bf16 :=
  View.ld x8 (Rect.unit (s := S8x1024x1024) ![k, r, 0] S1x512x1024.size h)

/-- Rows `r` to `r + 1023` of the second weight's block. -/
abbrev rows (x4 : Vec F S8192x256 .bf16) (r : Nat)
    (h : ∀ a, (![r, 0] : Fin 2 → Nat) a + S1024x256.size a ≤ S8192x256.size a) : Vec F S1024x256 .bf16 :=
  View.ld x4 (Rect.unit (s := S8192x256) ![r, 0] S1024x256.size h)

/-- The two halves of the output block. -/
abbrev rLo : Rect S1024x256 := Rect.unit (s := S1024x256) ![0, 0] S512x256.size inb_S1024x256_S512x256_0_0
abbrev rHi : Rect S1024x256 := Rect.unit (s := S1024x256) ![512, 0] S512x256.size inb_S1024x256_S512x256_512_0
/-- The whole of the gate's block. -/
abbrev rG : Rect S1x1x256 := Rect.unit (s := S1x1x256) ![0, 0, 0] S1x1x256.size inb_S1x1x256_S1x1x256_0_0_0

/-- The first half of the output block's rows. -/
def lo (x1 : Vec F S1024x256 .f32) (x2 : Vec F S1x1x256 .f32) (x4 : Vec F S8192x256 .bf16)
    (x8 : Vec F S8x1024x1024 .bf16) : FVec F S512x256 .f32 :=
  k0_pay4
    (k0_pay3 (slab x8 0 0 inb_S8x1024x1024_S1x512x1024_0_0_0) (rows x4 0 inb_S8192x256_S1024x256_0_0)
      (slab x8 1 0 inb_S8x1024x1024_S1x512x1024_1_0_0) (rows x4 1024 inb_S8192x256_S1024x256_1024_0)
      (slab x8 2 0 inb_S8x1024x1024_S1x512x1024_2_0_0) (rows x4 2048 inb_S8192x256_S1024x256_2048_0)
      (slab x8 3 0 inb_S8x1024x1024_S1x512x1024_3_0_0) (rows x4 3072 inb_S8192x256_S1024x256_3072_0)
      (slab x8 4 0 inb_S8x1024x1024_S1x512x1024_4_0_0) (rows x4 4096 inb_S8192x256_S1024x256_4096_0))
    (slab x8 5 0 inb_S8x1024x1024_S1x512x1024_5_0_0) (rows x4 5120 inb_S8192x256_S1024x256_5120_0)
    (slab x8 6 0 inb_S8x1024x1024_S1x512x1024_6_0_0) (rows x4 6144 inb_S8192x256_S1024x256_6144_0)
    (slab x8 7 0 inb_S8x1024x1024_S1x512x1024_7_0_0) (rows x4 7168 inb_S8192x256_S1024x256_7168_0)
    (View.ld x1 rLo) (View.ld x2 rG)

/-- The second half of the output block's rows. -/
def hi (x1 : Vec F S1024x256 .f32) (x2 : Vec F S1x1x256 .f32) (x4 : Vec F S8192x256 .bf16)
    (x8 : Vec F S8x1024x1024 .bf16) : FVec F S512x256 .f32 :=
  k0_pay2
    (k0_pay7 (k0_pay5 (slab x8 0 512 inb_S8x1024x1024_S1x512x1024_0_512_0))
      (k0_pay6 (rows x4 0 inb_S8192x256_S1024x256_0_0))
      (slab x8 1 512 inb_S8x1024x1024_S1x512x1024_1_512_0) (rows x4 1024 inb_S8192x256_S1024x256_1024_0)
      (slab x8 2 512 inb_S8x1024x1024_S1x512x1024_2_512_0) (rows x4 2048 inb_S8192x256_S1024x256_2048_0)
      (slab x8 3 512 inb_S8x1024x1024_S1x512x1024_3_512_0) (rows x4 3072 inb_S8192x256_S1024x256_3072_0)
      (slab x8 4 512 inb_S8x1024x1024_S1x512x1024_4_512_0) (rows x4 4096 inb_S8192x256_S1024x256_4096_0))
    (k0_pay8 (slab x8 5 512 inb_S8x1024x1024_S1x512x1024_5_512_0))
    (k0_pay9 (rows x4 5120 inb_S8192x256_S1024x256_5120_0))
    (constant S512x256 .f32 0x00000000#32)
    (slab x8 6 512 inb_S8x1024x1024_S1x512x1024_6_512_0) (rows x4 6144 inb_S8192x256_S1024x256_6144_0)
    (slab x8 7 512 inb_S8x1024x1024_S1x512x1024_7_512_0) (rows x4 7168 inb_S8192x256_S1024x256_7168_0)
    (View.ld x1 rHi) (View.ld x2 rG)

/-- The output block after the second phase: its two stores, the later first. -/
def outB (x1 : Vec F S1024x256 .f32) (x2 : Vec F S1x1x256 .f32) (x4 : Vec F S8192x256 .bf16)
    (x8 : Vec F S8x1024x1024 .bf16) : Vec F S1024x256 .f32 :=
  View.canon [⟨rHi, hi x1 x2 x4 x8⟩, ⟨rLo, lo x1 x2 x4 x8⟩]

/-- The two halves fill the block. -/
theorem cover (p0 p1 : Vec F S512x256 .f32) (y : S1024x256.Idx) :
    ∃ pc ∈ ([⟨rHi, p0⟩, ⟨rLo, p1⟩] : List (View.Piece (Elt F) S1024x256 .f32)), y ∈ pc.1.set :=
  View.cover_of_tiled [⟨rHi, p0⟩, ⟨rLo, p1⟩] S512x256.size (by rfl) y

/-- What the first phase stores: the squared rectified product of the token block and the weight block. -/
def act (x0 : Vec F S1024x2048 .bf16) (x3 : Vec F S2048x1024 .bf16) : FVec F S1x1024x1024 .bf16 :=
  k0_pay1 (View.ld x0 (Rect.unit (s := S1024x2048) ![0, 0] S1024x2048.size inb_S1024x2048_S1024x2048_0_0))
    (View.ld x3 (Rect.unit (s := S2048x1024) ![0, 0] S2048x1024.size inb_S2048x1024_S2048x1024_0_0))

/-- `Y` is the scratch `X` with slab `k` replaced by `p`. -/
def Put (k : Nat) (p : Vec F S1x1024x1024 .bf16) (X Y : Vec F S8x1024x1024 .bf16) : Prop :=
  (∀ y : S8x1024x1024.Idx, ∀ z : S1x1024x1024.Idx, (y 0).val = k → (y 1).val = (z 1).val → (y 2).val = (z 2).val → Y y = p z)
  ∧ ∀ y : S8x1024x1024.Idx, (y 0).val ≠ k → Y y = X y

theorem off_eq (i : grid0.Coords) : k0_off1 i = ![(i 1).val, 0, 0] := by
  have h : (i 1).val < 16 := (i 1).isLt
  have e : (BitVec.ofNat 32 (i 1).val).toNat = (i 1).val := by
    rw [BitVec.toNat_ofNat]; exact Nat.mod_eq_of_lt (by omega)
  unfold k0_off1
  simp only [Scalar.indexCast]
  first
    | rw [e]; rfl
    | (funext a; fin_cases a <;> simp [e] <;> omega)

/-- One store of a slab, read back. -/
theorem put_of_store (v : Memref sig .tc .vmem S8x1024x1024 .bf16) (f : v.view.ty.Contents (Elt F)) (i : grid0.Coords)
    (inb : ∀ a, k0_off1 i a + S1x1024x1024.size a ≤ S8x1024x1024.size a) (p : Vec F S1x1024x1024 .bf16) :
    Put (i 1).val p (v.view.read (Elt F) f)
      (v.view.read (Elt F) (v.view.writes (Elt F) f [⟨Rect.unit (s := S8x1024x1024) (k0_off1 i) S1x1024x1024.size inb, p⟩])) := by
  constructor
  · intro y z h0 h1 h2
    refine View.read_writes_cons_unit_of_mem v.view f inb p [] y z (off_eq i) fun a => ?_
    have hz : (z 0).val < 1 := (z 0).isLt
    fin_cases a
    · show (y 0).val = (i 1).val + (z 0).val; omega
    · show (y 1).val = 0 + (z 1).val; omega
    · show (y 2).val = 0 + (z 2).val; omega
  · intro y h0
    refine View.read_writes_cons_unit_of_not_mem v.view f inb p [] y (off_eq i) 0 ?_
    show (y 0).val < (i 1).val ∨ (i 1).val + 1 ≤ (y 0).val
    omega

set_option maxHeartbeats 1000000 in
/-- The body in its first phase: one slab of the scratch replaced, everything else as it was. -/
theorem runA (c : Dev nD) (i : grid0.Coords) (arg2 : Memref sig .tc .vmem S1024x2048 .bf16) (harg2 : arg2.IsWhole) (arg3 :
    Memref sig .tc .vmem S1024x256 .f32) (harg3 : arg3.IsWhole) (arg4 : Memref sig .tc .vmem S1x1x256 .f32) (harg4 :
    arg4.IsWhole) (arg5 : Memref sig .tc .vmem S2048x1024 .bf16) (harg5 : arg5.IsWhole) (arg6 : Memref sig .tc .vmem
    S8192x256 .bf16) (harg6 : arg6.IsWhole) (arg7 : Memref sig .tc .vmem S1024x256 .f32) (harg7 : arg7.IsWhole) (arg8 :
    Memref sig .tc .vmem S8x1024x1024 .bf16) (harg8 : arg8.IsWhole) (hc0 : k0_cond1 i = 1#1) (hc1 : ¬ k0_cond2 i = 1#1)
    (x0 : Vec F S1024x2048 .bf16) (x1 : Vec F S1024x256 .f32) (x2 : Vec F S1x1x256 .f32) (x3 : Vec F S2048x1024 .bf16)
    (x4 : Vec F S8192x256 .bf16) (x5 : Vec F S1024x256 .f32) (x8 : Vec F S8x1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ Y, ⌜Put (i 1).val (act x0 x3) x8 Y⌝ ∗ owns (c : Thread nD τ) arg8 fullShare Y)) -∗ K ⟨⟩))
      ⊢ wp frame (wpE (defs₀ (F := F)) Variants.none c none) E
          (cc0_mlp i arg2 harg2 arg3 harg3 arg4 harg4 arg5 harg5 arg6 harg6 arg7 harg7 arg8 harg8) K := by
  simp only [cc0_mlp_eq_skeleton]; unfold cc0_mlp_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0 hf1 hf2 hf3 hf4 hf5 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _
  isplitr
  swap
  · iexists _; isplitr
    swap; · iexact HS
    ipureintro; rfl
  ipureintro
  exact put_of_store arg8 fs i _ _

set_option maxHeartbeats 2000000 in
/-- The body in its second phase: the output block filled from the slabs, everything else as it was. -/
theorem runB (c : Dev nD) (i : grid0.Coords) (arg2 : Memref sig .tc .vmem S1024x2048 .bf16) (harg2 : arg2.IsWhole) (arg3 :
    Memref sig .tc .vmem S1024x256 .f32) (harg3 : arg3.IsWhole) (arg4 : Memref sig .tc .vmem S1x1x256 .f32) (harg4 :
    arg4.IsWhole) (arg5 : Memref sig .tc .vmem S2048x1024 .bf16) (harg5 : arg5.IsWhole) (arg6 : Memref sig .tc .vmem
    S8192x256 .bf16) (harg6 : arg6.IsWhole) (arg7 : Memref sig .tc .vmem S1024x256 .f32) (harg7 : arg7.IsWhole) (arg8 :
    Memref sig .tc .vmem S8x1024x1024 .bf16) (harg8 : arg8.IsWhole) (hc0 : ¬ k0_cond1 i = 1#1) (hc1 : k0_cond2 i = 1#1)
    (x0 : Vec F S1024x2048 .bf16) (x1 : Vec F S1024x256 .f32) (x2 : Vec F S1x1x256 .f32) (x3 : Vec F S2048x1024 .bf16)
    (x4 : Vec F S8192x256 .bf16) (x8 : Vec F S8x1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare x8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outB x1 x2 x4 x8)
            ∗ owns (c : Thread nD τ) arg8 fullShare x8) -∗ K ⟨⟩))
      ⊢ wp frame (wpE (defs₀ (F := F)) Variants.none c none) E
          (cc0_mlp i arg2 harg2 arg3 harg3 arg4 harg4 arg5 harg5 arg6 harg6 arg7 harg7 arg8 harg8) K := by
  simp only [cc0_mlp_eq_skeleton]; unfold cc0_mlp_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0 hf1 hf2 hf3 hf4 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover _ _)
  iexists fs; isplitr; · ipureintro; rfl
  iexact HS

end Cert.Kernel2Ideal.Mlp

end
-- ==== Proof.MlpRun.lean ====
/- The MLP call from launch to end.  The scratch's contents are followed from point to point: after step `s` of a row
   of the grid its first `s + 1` slabs hold what this row's first-phase steps left there. -/
module

public import proofs.«01_k».proof.Proof.MlpBody

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem N_eq : cfg0.N = 512 := N_0

theorem coord0 : ∀ t : Fin cfg0.N, (grid0.coords t 0).val = t.val / 16 :=
  (by decide +kernel : ∀ t : Fin grid0.N, (grid0.coords t 0).val = t.val / 16)

theorem coord1 : ∀ t : Fin cfg0.N, (grid0.coords t 1).val = t.val % 16 :=
  (by decide +kernel : ∀ t : Fin grid0.N, (grid0.coords t 1).val = t.val % 16)

theorem first_iff : ∀ t : Fin cfg0.N, k0_cond1 (grid0.coords t) = 1#1 ↔ t.val % 16 < 8 :=
  (by decide +kernel : ∀ t : Fin grid0.N, k0_cond1 (grid0.coords t) = 1#1 ↔ t.val % 16 < 8)

theorem second_iff : ∀ t : Fin cfg0.N, k0_cond2 (grid0.coords t) = 1#1 ↔ 8 ≤ t.val % 16 :=
  (by decide +kernel : ∀ t : Fin grid0.N, k0_cond2 (grid0.coords t) = 1#1 ↔ 8 ≤ t.val % 16)

/-- The output block is written back in the second phase, and only there. -/
theorem flush5 : ∀ t : Fin cfg0.N, (cfg0.win 5).flush t = decide (8 ≤ t.val % 16) :=
  (by decide +kernel : ∀ t : Fin grid0.N, win0_5.flush t = decide (8 ≤ t.val % 16))

/-- Step `k` of row `b` of the grid. -/
def pt (b k : ℕ) : Fin cfg0.N := ⟨(16 * b + k) % 512, lt_of_lt_of_eq (Nat.mod_lt _ (by decide)) N_eq.symm⟩

theorem pt_self (t : Fin cfg0.N) : pt (t.val / 16) (t.val % 16) = t := by
  have h : t.val < 512 := lt_of_lt_of_eq t.isLt N_eq
  apply Fin.ext; show (16 * (t.val / 16) + t.val % 16) % 512 = t.val
  omega

/-! ## What the scratch holds -/

/-- An index of a slab from an index of the scratch. -/
def inSlab (y : S8x1024x1024.Idx) : S1x1024x1024.Idx := fun a => match a with
  | ⟨0, _⟩ => ⟨0, Nat.one_pos⟩
  | ⟨1, _⟩ => y 1
  | ⟨2, _⟩ => y 2

/-- The scratch with all eight slabs of row `b` in place. -/
def full (c : Dev nD) (b : ℕ) : Vec F S8x1024x1024 .bf16 := fun y =>
  act (iblk m c 0 (pt b (y 0).val)) (iblk m c 3 (pt b (y 0).val)) (inSlab y)

/-- Before point `n`, the slabs this row has stored so far are in place. -/
def Good (c : Dev nD) (n : ℕ) (X : Vec F S8x1024x1024 .bf16) : Prop :=
  ∀ y : S8x1024x1024.Idx, (y 0).val < n % 16 → X y = full m c (n / 16) y

theorem good_first (c : Dev nD) (t : Fin cfg0.N) (h : t.val % 16 < 8) (X Y : Vec F S8x1024x1024 .bf16)
    (hX : Good m c t.val X) (hp : Put (grid0.coords t 1).val (act (iblk m c 0 t) (iblk m c 3 t)) X Y) :
    Good m c (t.val + 1) Y := by
  rw [coord1] at hp
  intro y hy
  have e : (t.val + 1) / 16 = t.val / 16 := by omega
  have e' : (t.val + 1) % 16 = t.val % 16 + 1 := by omega
  rw [e]; rw [e'] at hy
  by_cases h0 : (y 0).val = t.val % 16
  · rw [hp.1 y (inSlab y) h0 rfl rfl]
    unfold full
    rw [h0, pt_self]
  · rw [hp.2 y h0]; exact hX y (by omega)

theorem good_full (c : Dev nD) (t : Fin cfg0.N) (h : 8 ≤ t.val % 16) (X : Vec F S8x1024x1024 .bf16)
    (hX : Good m c t.val X) : X = full m c (t.val / 16) :=
  funext fun y => hX y (by have : (y 0).val < 8 := (y 0).isLt; omega)

theorem good_second (c : Dev nD) (t : Fin cfg0.N) (h : 8 ≤ t.val % 16) : Good m c (t.val + 1) (full m c (t.val / 16)) := by
  intro y hy
  have e : (t.val + 1) / 16 = t.val / 16 := by omega
  rw [e]

/-! ## The proof data -/

/-- The scratch as a memref. -/
abbrev scM : Memref sig .tc .vmem S8x1024x1024 .bf16 := Memref.whole cc0_scratch0

/-- The invariant before point `n`. -/
def Inv (c : Dev nD) (n : ℕ) : sProp 𝕄 :=
  iprop((∃ X, ⌜Good m c n X⌝ ∗ owns (c : Thread nD τ) scM fullShare X) ∗ (∃ r, prngReg c r))

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem inv_in (c : Dev nD) : (Pipeline.ΦA spec0 c : sProp 𝕄) ⊢ Inv m c 0 := by
  rw [PhiA_eq]; unfold Inv
  iintro ⟨⟨%d, H⟩, Hg⟩
  isplitl [H]
  · iexists d; isplitr
    · ipureintro; intro y hy; exact absurd hy (Nat.not_lt_zero _)
    iexact H
  iexact Hg

theorem inv_out (c : Dev nD) (n : ℕ) : Inv m c n ⊢ (Pipeline.ΦA spec0 c : sProp 𝕄) := by
  rw [PhiA_eq]; unfold Inv
  iintro ⟨⟨%d, -, H⟩, Hg⟩
  isplitl [H]
  · iexists d; iexact H
  iexact Hg

/-- The output block a second-phase point leaves. -/
def blockB (c : Dev nD) (t : Fin cfg0.N) : Vec F S1024x256 .f32 :=
  outB (iblk m c 1 t) (iblk m c 2 t) (iblk m c 4 t) (full m c (t.val / 16))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockB m c t
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = blockB m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (dats m 0 c).leavesExact 5 t)

/-- A first-phase point does not touch the output's buffer. -/
theorem leaves5_first (c : Dev nD) (t : Fin cfg0.N) (h : t.val % 16 < 8) :
    (dats m 0 c).leavesExact 5 t = iprop(∃ d, owns (c : Thread nD τ) (st0_5 t) fullShare ((dats m 0 c).before 5 t d)) := by
  refine Dat.leavesExact_idle _ 5 t ?_ ?_
  · show (!(k0_cond2 (grid0.coords t) == 1#1)) = true
    have hn : ¬ k0_cond2 (grid0.coords t) = 1#1 := fun hc => by have := (second_iff t).mp hc; omega
    simp [hn]
  · rw [flush5]; exact decide_eq_false (by omega)

/-- A second-phase point leaves its block there. -/
theorem leaves5_second (c : Dev nD) (t : Fin cfg0.N) (h : 8 ≤ t.val % 16) :
    (dats m 0 c).leavesExact 5 t = owns (c : Thread nD τ) (st0_5 t) fullShare (blockB m c t) := by
  have hi : cfg0.idle 5 (grid0.coords t) = false := by
    show (!(k0_cond2 (grid0.coords t) == 1#1)) = false
    simp [(second_iff t).mpr h]
  unfold Dat.leavesExact
  rw [show cfg0.idle 5 (cfg0.grid.coords t) = false from hi, after5]

theorem phi_start (c : Dev nD) (t : Fin cfg0.N) : (dats m 0 c).Φ t.castSucc = Inv m c t.val := by dsimp only [dats]; rfl
theorem phi_end (c : Dev nD) (t : Fin cfg0.N) : (dats m 0 c).Φ t.succ = Inv m c (t.val + 1) := by dsimp only [dats]; rfl

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [phi_start, phi_end, show (dats m 0 c).owesAt () t.succ = (dats m 0 c).owesAt () t.castSucc from rfl]
  unfold Inv
  by_cases h : t.val % 16 < 8
  · rw [leaves5_first m c t h]
    iintro ⟨⟨⟨%X, %hX, HS⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((first_iff t).mpr h)
      (fun hc => by have := (second_iff t).mp hc; omega)
      (iblk m c 0 t) (iblk m c 1 t) (iblk m c 2 t) (iblk m c 3 t) (iblk m c 4 t) ((dats m 0 c).before 5 t d5) X Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%Y, %hY, HS⟩⟩
    isplitl [HS Hg]
    · isplitl [HS]
      · iexists Y; isplitr
        · ipureintro; exact good_first m c t h X Y hX hY
        iexact HS
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · have h8 : 8 ≤ t.val % 16 := by omega
    rw [leaves5_second m c t h8]
    iintro ⟨⟨⟨%X, %hX, HS⟩, Hg⟩, Ho, ⟨%d0, H0⟩, ⟨%d1, H1⟩, ⟨%d2, H2⟩, ⟨%d3, H3⟩, ⟨%d4, H4⟩, ⟨%d5, H5⟩⟩
    obtain rfl := good_full m c t h8 X hX
    iapply (runB c (grid0.coords t) _ _ _ _ _ _ _ _ _ _ _ _ _ _ (fun hc => h ((first_iff t).mp hc))
      ((second_iff t).mpr h8)
      (iblk m c 0 t) (iblk m c 1 t) (iblk m c 2 t) (iblk m c 3 t) (iblk m c 4 t) (full m c (t.val / 16)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]
      · iexists _; isplitr
        · ipureintro; exact good_second m c t h8
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

theorem run_main : θ_run defs (onTc (τ := τ) (main (F := F))) (s₀ m ρ) (Pipeline.FramePost cfgs (dats m) 0 (V m)) :=
  (θ_run defs _ _).mono (fun _ h => h.1) (run_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel2Ideal.Mlp

end
-- ==== Proof.MlpValue.lean ====
/- The MLP call's value over the extended reals: at row `r` and column `j` the result is the residual plus the gate
   times the sum over the 8192 hidden units, whichever way the kernel cut that sum. -/
module

public import proofs.«01_k».proof.Proof.MlpRun
public import Idealize.ShloMosaic.Lib.Pointwise
public import Idealize.ShloMosaic.Lib.Claim
public import Idealize.ShloMosaic.Lib.Pipeline.ValueKit

@[expose] public section

set_option maxRecDepth 16384

noncomputable section

namespace Cert.Kernel2Ideal.Mlp

open Cert.Kernel2Ideal Cert.Kernel2Ideal.Gen
open Idealize.ShloMosaic Idealize.ShloMosaic.TcCoe
open Idealize.ShloMosaic.Pipeline (Dat)
open scoped BigOperators

/-- The squared rectifier. -/
def sq (a : EReal) : EReal := max a 0 * max a 0

/-- The hidden activation at a token and a hidden unit. -/
theorem act_apply (x0 : Vec Ideal S1024x2048 .bf16) (x3 : Vec Ideal S2048x1024 .bf16) (z : S1x1024x1024.Idx) :
    act x0 x3 z = sq (∑ d : Fin 2048, x0 (ix2 (z 1) d) * x3 (ix2 d (z 2))) := by
  unfold act
  pointwise [k0_pay1]
  rfl

/-- Unit `x` of slab `k`, counted among all hidden units. -/
def unitOf (k : Fin 8) (x : Fin 1024) : Fin 8192 := ⟨1024 * k.val + x.val, by omega⟩

/-- The output block at a token and a column. -/
def outAt (x1 : Vec Ideal S1024x256 .f32) (x2 : Vec Ideal S1x1x256 .f32) (x4 : Vec Ideal S8192x256 .bf16)
    (x8 : Vec Ideal S8x1024x1024 .bf16) (y : S1024x256.Idx) : EReal :=
  x1 y + x2 (ix3 0 0 (y 1)) * ∑ k : Fin 8, ∑ x : Fin 1024, x8 (ix3 k (y 0) x) * x4 (ix2 (unitOf k x) (y 1))

/-- One slab against its rows of the weight's block, as the unit sum. -/
theorem part (x4 : Vec Ideal S8192x256 .bf16) (x8 : Vec Ideal S8x1024x1024 .bf16) (k : Fin 8) (r s : ℕ) (hr : r ≤ 512)
    (hs : s = 1024 * k.val)
    (h : ∀ a, (![k.val, r, 0] : Fin 3 → Nat) a + S1x512x1024.size a ≤ S8x1024x1024.size a)
    (h' : ∀ a, (![s, 0] : Fin 2 → Nat) a + S1024x256.size a ≤ S8192x256.size a) (a : Fin 512) (q : Fin 1024)
    (hq : q.val = r + a.val) (j : Fin 256) :
    (∑ x : Fin 1024, slab x8 k.val r h (ix3 0 a x) * rows x4 s h' (ix2 x j))
      = ∑ x : Fin 1024, x8 (ix3 k q x) * x4 (ix2 (unitOf k x) j) := by
  refine Finset.sum_congr rfl fun x _ => ?_
  have e1 : slab x8 k.val r h (ix3 0 a x) = x8 (ix3 k q x) := by
    show x8 _ = x8 _
    congr 1
    funext b
    apply Fin.ext
    match b with
    | ⟨0, _⟩ => show k.val + 1 * 0 = k.val; omega
    | ⟨1, _⟩ => show r + 1 * a.val = q.val; omega
    | ⟨2, _⟩ => show 0 + 1 * x.val = x.val; omega
  have e2 : rows x4 s h' (ix2 x j) = x4 (ix2 (unitOf k x) j) := by
    show x4 _ = x4 _
    congr 1
    funext b
    apply Fin.ext
    match b with
    | ⟨0, _⟩ => show s + 1 * x.val = 1024 * k.val + x.val; omega
    | ⟨1, _⟩ => show 0 + 1 * j.val = j.val; omega
  rw [e1, e2]

theorem sum8 {f : Fin 8 → EReal} {a0 a1 a2 a3 a4 a5 a6 a7 : EReal} (h0 : a0 = f 0) (h1 : a1 = f 1) (h2 : a2 = f 2)
    (h3 : a3 = f 3) (h4 : a4 = f 4) (h5 : a5 = f 5) (h6 : a6 = f 6) (h7 : a7 = f 7) :
    a0 + a1 + a2 + a3 + a4 + a5 + a6 + a7 = ∑ k, f k := by
  rw [Fin.sum_univ_eight, h0, h1, h2, h3, h4, h5, h6, h7]

theorem emb_rows (r : ℕ) (h : ∀ a, (![r, 0] : Fin 2 → Nat) a + S512x256.size a ≤ S1024x256.size a) (hr : r ≤ 512)
    (j : S512x256.Idx) : (Rect.unit (s := S1024x256) ![r, 0] S512x256.size h).emb j
      = ix2 ⟨r + (j 0).val, by have : (j 0).val < 512 := (j 0).isLt; omega⟩ (j 1) := by
  funext b
  apply Fin.ext
  match b with
  | ⟨0, _⟩ => show r + 1 * (j 0).val = r + (j 0).val; omega
  | ⟨1, _⟩ => show 0 + 1 * (j 1).val = (j 1).val; omega

theorem lo_apply (x1 : Vec Ideal S1024x256 .f32) (x2 : Vec Ideal S1x1x256 .f32) (x4 : Vec Ideal S8192x256 .bf16)
    (x8 : Vec Ideal S8x1024x1024 .bf16) (j : S512x256.Idx) : lo x1 x2 x4 x8 j = outAt x1 x2 x4 x8 (rLo.emb j) := by
  rw [emb_rows 0 _ (by decide)]
  unfold lo outAt
  pointwise [k0_pay3, k0_pay4]
  refine congrArg₂ (· + ·) rfl (congrArg _ (sum8
    (part x4 x8 0 0 0 (by decide) rfl _ _ _ _ (Nat.zero_add _).symm _) (part x4 x8 1 0 1024 (by decide) rfl _ _ _ _ (Nat.zero_add _).symm _)
    (part x4 x8 2 0 2048 (by decide) rfl _ _ _ _ (Nat.zero_add _).symm _) (part x4 x8 3 0 3072 (by decide) rfl _ _ _ _ (Nat.zero_add _).symm _)
    (part x4 x8 4 0 4096 (by decide) rfl _ _ _ _ (Nat.zero_add _).symm _) (part x4 x8 5 0 5120 (by decide) rfl _ _ _ _ (Nat.zero_add _).symm _)
    (part x4 x8 6 0 6144 (by decide) rfl _ _ _ _ (Nat.zero_add _).symm _) (part x4 x8 7 0 7168 (by decide) rfl _ _ _ _ (Nat.zero_add _).symm _)))

theorem hi_apply (x1 : Vec Ideal S1024x256 .f32) (x2 : Vec Ideal S1x1x256 .f32) (x4 : Vec Ideal S8192x256 .bf16)
    (x8 : Vec Ideal S8x1024x1024 .bf16) (j : S512x256.Idx) : hi x1 x2 x4 x8 j = outAt x1 x2 x4 x8 (rHi.emb j) := by
  rw [emb_rows 512 _ (by decide)]
  unfold hi outAt
  pointwise [k0_pay2, k0_pay5, k0_pay6, k0_pay7, k0_pay8, k0_pay9]
  refine congrArg₂ (· + ·) rfl (congrArg _ (sum8
    (part x4 x8 0 512 0 (by decide) rfl _ _ _ _ rfl _) (part x4 x8 1 512 1024 (by decide) rfl _ _ _ _ rfl _)
    (part x4 x8 2 512 2048 (by decide) rfl _ _ _ _ rfl _) (part x4 x8 3 512 3072 (by decide) rfl _ _ _ _ rfl _)
    (part x4 x8 4 512 4096 (by decide) rfl _ _ _ _ rfl _) (part x4 x8 5 512 5120 (by decide) rfl _ _ _ _ rfl _)
    (part x4 x8 6 512 6144 (by decide) rfl _ _ _ _ rfl _) (part x4 x8 7 512 7168 (by decide) rfl _ _ _ _ rfl _)))

/-- The whole block: both halves at once. -/
theorem outB_apply (x1 : Vec Ideal S1024x256 .f32) (x2 : Vec Ideal S1x1x256 .f32) (x4 : Vec Ideal S8192x256 .bf16)
    (x8 : Vec Ideal S8x1024x1024 .bf16) (y : S1024x256.Idx) : outB x1 x2 x4 x8 y = outAt x1 x2 x4 x8 y := by
  unfold outB
  refine View.canon_apply_of_pieces (Val := Elt Ideal) (outAt x1 x2 x4 x8) _ ?_ y (cover _ _ y)
  intro p hp x
  simp only [List.mem_cons, List.not_mem_nil, or_false] at hp
  rcases hp with rfl | rfl
  · exact hi_apply x1 x2 x4 x8 x
  · exact lo_apply x1 x2 x4 x8 x

/-! ## The arrays the call reads, at an index, in terms of the arguments -/

variable (m : (ℓ : Loc nD τ sig) → Buf (Elt Ideal) ℓ) (c : Dev nD)

theorem arr_h (r : Fin 32768) (d : Fin 2048) :
    V m c main_v1 (ix2 r d) = m ((c : Thread nD τ).loc main_arg0) (ix3 ⟨r.val / 8192, by omega⟩ ⟨r.val % 8192, by omega⟩ d) := by
  entry_read
  pointwise

theorem arr_x (r : Fin 32768) (d : Fin 2048) :
    V m c main_v3 (ix2 r d) = m ((c : Thread nD τ).loc main_arg1) (ix3 ⟨r.val / 8192, by omega⟩ ⟨r.val % 8192, by omega⟩ d) := by
  entry_read
  pointwise

theorem arr_g (b : Fin 4) (j : Fin 2048) :
    V m c main_v6 (ix3 b 0 j) = m ((c : Thread nD τ).loc main_arg2) (ix2 b ⟨10240 + j.val, by omega⟩) := by
  entry_read
  pointwise

theorem arr_w1 (d : Fin 2048) (k : Fin 8192) :
    V m c main_v4 (ix2 d k) = m ((c : Thread nD τ).loc main_arg3) (ix2 d k) := by
  entry_read
  pointwise

theorem arr_w2 (k : Fin 8192) (j : Fin 2048) :
    V m c main_v5 (ix2 k j) = m ((c : Thread nD τ).loc main_arg4) (ix2 k j) := by
  entry_read
  pointwise

/-! ## Which block each window shows at point `t` -/

theorem ix_h : ∀ t : Fin cfg0.N, win0_0.index t 0 = t.val / 16 ∧ win0_0.index t 1 = 0 :=
  (by decide +kernel : ∀ t : Fin grid0.N, win0_0.index t 0 = t.val / 16 ∧ win0_0.index t 1 = 0)
theorem ix_x : ∀ t : Fin cfg0.N, win0_1.index t 0 = t.val / 16 ∧ win0_1.index t 1 = t.val % 16 - 8 :=
  (by decide +kernel : ∀ t : Fin grid0.N, win0_1.index t 0 = t.val / 16 ∧ win0_1.index t 1 = t.val % 16 - 8)
theorem ix_g : ∀ t : Fin cfg0.N, win0_2.index t 0 = t.val / 128 ∧ win0_2.index t 1 = 0 ∧ win0_2.index t 2 = t.val % 16 - 8 :=
  (by decide +kernel : ∀ t : Fin grid0.N,
    win0_2.index t 0 = t.val / 128 ∧ win0_2.index t 1 = 0 ∧ win0_2.index t 2 = t.val % 16 - 8)
theorem ix_w1 : ∀ t : Fin cfg0.N, win0_3.index t 0 = 0 ∧ win0_3.index t 1 = min (t.val % 16) 7 :=
  (by decide +kernel : ∀ t : Fin grid0.N, win0_3.index t 0 = 0 ∧ win0_3.index t 1 = min (t.val % 16) 7)
theorem ix_w2 : ∀ t : Fin cfg0.N, win0_4.index t 0 = 0 ∧ win0_4.index t 1 = t.val % 16 - 8 :=
  (by decide +kernel : ∀ t : Fin grid0.N, win0_4.index t 0 = 0 ∧ win0_4.index t 1 = t.val % 16 - 8)
theorem ix_o : ∀ t : Fin cfg0.N, win0_5.index t 0 = t.val / 16 ∧ win0_5.index t 1 = t.val % 16 - 8 :=
  (by decide +kernel : ∀ t : Fin grid0.N, win0_5.index t 0 = t.val / 16 ∧ win0_5.index t 1 = t.val % 16 - 8)

theorem lt_512 (t : Fin cfg0.N) : t.val < 512 := lt_of_lt_of_eq t.isLt N_eq

/-! ## The blocks at an index -/

theorem blk_h (t : Fin cfg0.N) (a : Fin 1024) (d : Fin 2048) : iblk m c 0 t (ix2 a d)
    = V m c main_v1 (ix2 ⟨1024 * (t.val / 16) + a.val, by have := lt_512 t; omega⟩ d) := by
  unfold iblk
  rw [View.read_apply]
  show V m c main_v1 _ = V m c main_v1 _
  congr 1
  funext b
  apply Fin.ext
  match b with
  | ⟨0, _⟩ => show win0_0.index t 0 * 1024 + 1 * a.val = 1024 * (t.val / 16) + a.val; rw [(ix_h t).1]; omega
  | ⟨1, _⟩ => show win0_0.index t 1 * 2048 + 1 * d.val = d.val; rw [(ix_h t).2]; omega

theorem blk_x (t : Fin cfg0.N) (a : Fin 1024) (j : Fin 256) : iblk m c 1 t (ix2 a j)
    = V m c main_v3 (ix2 ⟨1024 * (t.val / 16) + a.val, by have := lt_512 t; omega⟩
        ⟨256 * (t.val % 16 - 8) + j.val, by omega⟩) := by
  unfold iblk
  rw [View.read_apply]
  show V m c main_v3 _ = V m c main_v3 _
  congr 1
  funext b
  apply Fin.ext
  match b with
  | ⟨0, _⟩ => show win0_1.index t 0 * 1024 + 1 * a.val = 1024 * (t.val / 16) + a.val; rw [(ix_x t).1]; omega
  | ⟨1, _⟩ => show win0_1.index t 1 * 256 + 1 * j.val = 256 * (t.val % 16 - 8) + j.val; rw [(ix_x t).2]; omega

theorem blk_g (t : Fin cfg0.N) (j : Fin 256) : iblk m c 2 t (ix3 0 0 j)
    = V m c main_v6 (ix3 ⟨t.val / 128, by have := lt_512 t; omega⟩ 0 ⟨256 * (t.val % 16 - 8) + j.val, by omega⟩) := by
  unfold iblk
  rw [View.read_apply]
  show V m c main_v6 _ = V m c main_v6 _
  congr 1
  funext b
  apply Fin.ext
  match b with
  | ⟨0, _⟩ => show win0_2.index t 0 * 1 + 1 * 0 = t.val / 128; rw [(ix_g t).1]; omega
  | ⟨1, _⟩ => show win0_2.index t 1 * 1 + 1 * 0 = 0; rw [(ix_g t).2.1]
  | ⟨2, _⟩ => show win0_2.index t 2 * 256 + 1 * j.val = 256 * (t.val % 16 - 8) + j.val; rw [(ix_g t).2.2]; omega

theorem blk_w1 (t : Fin cfg0.N) (d : Fin 2048) (k : Fin 1024) : iblk m c 3 t (ix2 d k)
    = V m c main_v4 (ix2 d ⟨1024 * min (t.val % 16) 7 + k.val, by omega⟩) := by
  unfold iblk
  rw [View.read_apply]
  show V m c main_v4 _ = V m c main_v4 _
  congr 1
  funext b
  apply Fin.ext
  match b with
  | ⟨0, _⟩ => show win0_3.index t 0 * 2048 + 1 * d.val = d.val; rw [(ix_w1 t).1]; omega
  | ⟨1, _⟩ => show win0_3.index t 1 * 1024 + 1 * k.val = 1024 * min (t.val % 16) 7 + k.val; rw [(ix_w1 t).2]; omega

theorem blk_w2 (t : Fin cfg0.N) (k : Fin 8192) (j : Fin 256) : iblk m c 4 t (ix2 k j)
    = V m c main_v5 (ix2 k ⟨256 * (t.val % 16 - 8) + j.val, by omega⟩) := by
  unfold iblk
  rw [View.read_apply]
  show V m c main_v5 _ = V m c main_v5 _
  congr 1
  funext b
  apply Fin.ext
  match b with
  | ⟨0, _⟩ => show win0_4.index t 0 * 8192 + 1 * k.val = k.val; rw [(ix_w2 t).1]; omega
  | ⟨1, _⟩ => show win0_4.index t 1 * 256 + 1 * j.val = 256 * (t.val % 16 - 8) + j.val; rw [(ix_w2 t).2]; omega

/-! ## The call's result -/

/-- The hidden activation at row `r` of the tokens and hidden unit `u`. -/
def hid (h : Vec Ideal S4x8192x2048 .f32) (w1 : Vec Ideal S2048x8192 .f32) (r : Fin 32768) (u : Fin 8192) : EReal :=
  sq (∑ d : Fin 2048, h (ix3 ⟨r.val / 8192, by omega⟩ ⟨r.val % 8192, by omega⟩ d) * w1 (ix2 d u))

/-- The result at row `r` and column `j`. -/
def spec (h x : Vec Ideal S4x8192x2048 .f32) (g : Vec Ideal S4x12288 .f32) (w1 : Vec Ideal S2048x8192 .f32)
    (w2 : Vec Ideal S8192x2048 .f32) (r : Fin 32768) (j : Fin 2048) : EReal :=
  x (ix3 ⟨r.val / 8192, by omega⟩ ⟨r.val % 8192, by omega⟩ j)
    + g (ix2 ⟨r.val / 8192, by omega⟩ ⟨10240 + j.val, by omega⟩) * ∑ u : Fin 8192, hid h w1 r u * w2 (ix2 u j)

/-- The eight slabs of a row hold the hidden activations. -/
theorem full_apply (b : ℕ) (hb : b < 32) (k : Fin 8) (a x : Fin 1024) : full m c b (ix3 k a x)
    = hid (m ((c : Thread nD τ).loc main_arg0)) (m ((c : Thread nD τ).loc main_arg3)) ⟨1024 * b + a.val, by omega⟩ (unitOf k x) := by
  unfold full hid
  rw [act_apply]
  have hp : (pt b k.val).val = 16 * b + k.val := by show (16 * b + k.val) % 512 = _; omega
  refine congrArg sq (Finset.sum_congr rfl fun d _ => ?_)
  refine congrArg₂ (· * ·) ((blk_h m c (pt b k.val) a d).trans ?_) ((blk_w1 m c (pt b k.val) d x).trans ?_)
  · rw [arr_h]
    congr 2
    · apply Fin.ext; show (1024 * ((pt b k.val).val / 16) + a.val) / 8192 = (1024 * b + a.val) / 8192; rw [hp]; omega
    · apply Fin.ext; show (1024 * ((pt b k.val).val / 16) + a.val) % 8192 = (1024 * b + a.val) % 8192; rw [hp]; omega
  · rw [arr_w1]
    congr 2
    apply Fin.ext; show 1024 * min ((pt b k.val).val % 16) 7 + x.val = 1024 * k.val + x.val; rw [hp]; omega

/-- A sum over the hidden units, slab by slab. -/
theorem sum_units (f : Fin 8192 → EReal) : (∑ k : Fin 8, ∑ x : Fin 1024, f (unitOf k x)) = ∑ u, f u := by
  rw [← Fintype.sum_prod_type' (f := fun k x => f (unitOf k x))]
  refine Fintype.sum_equiv (finProdFinEquiv (m := 8) (n := 1024)) _ _ fun p => ?_
  congr 1
  apply Fin.ext
  show 1024 * p.1.val + p.2.val = p.2.val + 1024 * p.1.val
  omega

/-- The block a second-phase point leaves. -/
theorem blockB_apply (t : Fin cfg0.N) (a : Fin 1024) (j : Fin 256) : blockB m c t (ix2 a j)
    = spec (m ((c : Thread nD τ).loc main_arg0)) (m ((c : Thread nD τ).loc main_arg1)) (m ((c : Thread nD τ).loc main_arg2))
        (m ((c : Thread nD τ).loc main_arg3)) (m ((c : Thread nD τ).loc main_arg4))
        ⟨1024 * (t.val / 16) + a.val, by have := lt_512 t; omega⟩ ⟨256 * (t.val % 16 - 8) + j.val, by omega⟩ := by
  have ht := lt_512 t
  unfold blockB spec
  rw [outB_apply]
  unfold outAt
  refine congrArg₂ (· + ·) ((blk_x m c t a j).trans (arr_x m c _ _))
    (congrArg₂ (· * ·) (((blk_g m c t j).trans (arr_g m c _ _)).trans ?_) ?_)
  · congr 2
    apply Fin.ext; show t.val / 128 = (1024 * (t.val / 16) + a.val) / 8192; omega
  · rw [← sum_units]
    refine Finset.sum_congr rfl fun k _ => Finset.sum_congr rfl fun x _ => ?_
    exact congrArg₂ (· * ·) (full_apply m c _ (by omega) k a x) ((blk_w2 m c t (unitOf k x) j).trans (arr_w2 m c _ _))

/-- The result array after the run. -/
theorem final (i : S32768x2048.Idx) : (dats m 0 c).arrAt 5 cfg0.N i
    = spec (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  have h := (dats m 0 c).arrAt_eq_of_cover 5 (fun i : S32768x2048.Idx =>
    spec (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1)) ?_ ?_
  · exact congrFun h i
  · intro t hf
    funext y
    show (dats m 0 c).after 5 t y = _
    have h8 : 8 ≤ t.val % 16 := of_decide_eq_true ((flush5 t).symm.trans hf)
    have hy : y = ix2 (n0 := 1024) (n1 := 256) (y 0) (y 1) := eq_ix2 y
    rw [after5, View.read_apply]
    refine (congrArg (blockB m c t) hy).trans ((blockB_apply m c t (y 0) (y 1)).trans ?_)
    show spec _ _ _ _ _ _ _ = spec _ _ _ _ _ _ _
    congr 1
    · apply Fin.ext
      show 1024 * (t.val / 16) + (y 0).val = win0_5.index t 0 * 1024 + 1 * (y 0).val
      rw [(ix_o t).1]; omega
    · apply Fin.ext
      show 256 * (t.val % 16 - 8) + (y 1).val = win0_5.index t 1 * 256 + 1 * (y 1).val
      rw [(ix_o t).2]; omega
  · exact (by decide +kernel : (cfg0.win 5).Covers).cover _ (Memref.isWhole_whole _)

/-- The result array, as one function of the arguments. -/
def result (h x : Vec Ideal S4x8192x2048 .f32) (g : Vec Ideal S4x12288 .f32) (w1 : Vec Ideal S2048x8192 .f32)
    (w2 : Vec Ideal S8192x2048 .f32) : Vec Ideal S32768x2048 .f32 := fun i => spec h x g w1 w2 (i 0) (i 1)

variable (ρ : Dev nD → PrngReg)

/-- The run, read: the result and the arguments. -/
theorem run : θ_run defs (onTc (τ := τ) (main (F := Ideal))) ⟨m, fun _ => 0, ρ⟩ fun r => ∀ c : Dev nD,
      r.2.mem ((c : Thread nD τ).loc main_v7)
        = result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 5 |>.trans (funext fun i => final m c i), (h.2).1 c⟩)
    (θ_run_and (run_main m ρ) (frame m ρ))

end Cert.Kernel2Ideal.Mlp
end
-- ==== Proof.MlpRef.lean ====
/- The MLP's reference over the extended reals: the same number at each row and column, and so the claim. -/
module

public import proofs.«01_k».proof.Proof.MlpValue
public import proofs.«01_k».proof.Proof.Gen.Reference2Ideal.Run

@[expose] public section

set_option maxRecDepth 16384

noncomputable section

namespace Cert.Reference2Ideal.Mlp

open Cert.Reference2Ideal Cert.Reference2Ideal.Gen
open Idealize.ShloMosaic Idealize.ShloMosaic.TcCoe
open scoped BigOperators

theorem dot1 (h : Vec Ideal S4x8192x2048 .f32) (w : Vec Ideal S2048x8192 .f32) (b : Fin 4) (l : Fin 8192) (u : Fin 8192) :
    (Host.dotGeneral (F := Ideal) (φ₁ := .f32) (φ₂ := .f32) dot_S4x8192x2048_S2048x8192_S4x8192x8192_2_0_01_1_n_n none h w : FVec Ideal S4x8192x8192 .f32) (ix3 b l u)
      = ∑ d : Fin 2048, h (ix3 b l d) * w (ix2 d u) := by
  pointwise

theorem dot2 (y : Vec Ideal S4x8192x8192 .f32) (w : Vec Ideal S8192x2048 .f32) (b : Fin 4) (l : Fin 8192) (j : Fin 2048) :
    (Host.dotGeneral (F := Ideal) (φ₁ := .f32) (φ₂ := .f32) dot_S4x8192x8192_S8192x2048_S4x8192x2048_2_0_01_1_n_n none y w : FVec Ideal S4x8192x2048 .f32) (ix3 b l j)
      = ∑ u : Fin 8192, y (ix3 b l u) * w (ix2 u j) := by
  pointwise

theorem flat (z : Vec Ideal S4x8192x2048 .f32) (h) (r : Fin 32768) (j : Fin 2048) :
    shapeCast S32768x2048 z h (ix2 r j) = z (ix3 ⟨r.val / 8192, by omega⟩ ⟨r.val % 8192, by omega⟩ j) := by
  pointwise

theorem gate (g : Vec Ideal S4x12288 .f32) (b : Fin 4) (l : Fin 8192) (j : Fin 2048) :
    broadcastInDim S4x8192x2048 ![0, 1, 2] bcast_S4x1x2048_S4x8192x2048_0_1_2 (broadcastInDim S4x1x2048 ![0, 2] bcast_S4x2048_S4x1x2048_0_2 (extractStridedSlice S4x2048 ![0, 10240] g slices_S4x12288_S4x2048_0_10240)) (ix3 b l j)
      = g (ix2 b ⟨10240 + j.val, by omega⟩) := by
  pointwise

theorem zeros (i : S4x8192x8192.Idx) :
    (broadcastInDim S4x8192x8192 ![] bcast_S_S4x8192x8192 (constant (F := Ideal) S_ .f32 0x00000000#32) : FVec Ideal S4x8192x8192 .f32) i
      = (0 : EReal) := by
  pointwise

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v14)
        = Cert.Kernel2Ideal.Mlp.result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans ?_, (h c).2⟩) (Value.run m ρ)
  refine funext fun (i : S32768x2048.Idx) => ?_
  rw [show i = ix2 (n0 := 32768) (n1 := 2048) (i 0) (i 1) from eq_ix2 i]
  refine (flat _ _ (i 0) (i 1)).trans (congrArg₂ (· + ·) rfl (congrArg₂ (· * ·) (gate _ _ _ _) ((dot2 _ _ _ _ _).trans
    (Finset.sum_congr rfl fun u _ => congrArg₂ (· * ·) ?_ rfl))))
  exact congrArg₂ (· * ·) (congrArg₂ max (dot1 _ _ _ _ _) (zeros _)) (congrArg₂ max (dot1 _ _ _ _ _) (zeros _))

end Cert.Reference2Ideal.Mlp

end
-- ==== Proof.OutValue.lean ====
/- The out-projection call's two results over the extended reals: the residual after the mixing product, and its
   normalised and modulated form. -/
module

public import proofs.«01_k».proof.Proof.Gen.Kernel3Ideal.Value
public import Idealize.ShloMosaic.Lib.Pointwise
public import Idealize.ShloMosaic.Lib.Claim
public import Idealize.ShloMosaic.Lib.Pipeline.ValueKit

@[expose] public section

set_option maxRecDepth 16384

noncomputable section

namespace Cert.Kernel3Ideal.Out

open Cert.Kernel3Ideal Cert.Kernel3Ideal.Gen
open Idealize.ShloMosaic Idealize.ShloMosaic.TcCoe
open Idealize.ShloMosaic.Pipeline (Dat)
open scoped BigOperators

/-! ## What one block becomes -/

/-- Row `1024 + k` of the weight: the rows the second mixer meets. -/
def second (k : Fin 1024) : Fin 2048 := ⟨1024 + k.val, by omega⟩
def first (k : Fin 1024) : Fin 2048 := ⟨k.val, by omega⟩

/-- One row's root-mean-square norm, scaled by `n` and modulated by `s` and `b`, at column `j`. -/
def nrm (X : Fin 2048 → EReal) (n s b : EReal) (j : Fin 2048) : EReal :=
  X j * Ideal.rsqrt (Ideal.div (∑ x, X x * X x) (Ideal.ofBits FTy.f32 0x45000000#32) + Ideal.ofBits FTy.f32 0x358637BD#32)
    * n * (1 + s) + b

variable (x0 x1 : Vec Ideal S512x1024 .bf16) (x2 : Vec Ideal S512x2048 .f32) (x3 : Vec Ideal S1x6x2048 .f32)
  (x4 : Vec Ideal S1x2048 .f32) (x5 : Vec Ideal S2048x2048 .bf16)

/-- The first result's block. -/
def resB (a : Fin 512) (j : Fin 2048) : EReal :=
  x2 (ix2 a j) + x3 (ix3 0 2 j) * ((∑ k : Fin 1024, x0 (ix2 a k) * x5 (ix2 (first k) j))
    + ∑ k : Fin 1024, x1 (ix2 a k) * x5 (ix2 (second k) j))

/-- The second result's block. -/
def nrmB (a : Fin 512) (j : Fin 2048) : EReal :=
  nrm (resB x0 x1 x2 x3 x5 a) (x4 (ix2 0 j)) (x3 (ix3 0 4 j)) (x3 (ix3 0 3 j)) j

def loRow (a : Fin 256) : Fin 512 := ⟨a.val, by omega⟩
def hiRow (a : Fin 256) : Fin 512 := ⟨256 + a.val, by omega⟩

theorem res_lo (i : S256x2048.Idx) : k0_pay2 (View.ld x0 r0_0) (View.ld x5 r0_1) (View.ld x1 r0_0) (View.ld x5 r0_2)
    (View.ld x2 r0_3) (View.ld x3 r0_4) i = resB x0 x1 x2 x3 x5 (loRow (i 0)) (i 1) := by
  pointwise [k0_pay2]
  rfl

theorem res_hi (i : S256x2048.Idx) : k0_pay5 (View.ld x0 r0_8) (View.ld x5 r0_1) (View.ld x1 r0_8) (View.ld x5 r0_2)
    (View.ld x2 r0_9) (View.ld x3 r0_4) i = resB x0 x1 x2 x3 x5 (hiRow (i 0)) (i 1) := by
  pointwise [k0_pay5]
  rfl

theorem scaled (v0 : Vec Ideal S256x1024 .bf16) (v2 : Vec Ideal S1024x2048 .bf16) (v5 : Vec Ideal S256x1024 .bf16)
    (v7 : Vec Ideal S1024x2048 .bf16) (v11 : Vec Ideal S256x2048 .f32) (v13 : Vec Ideal S1x1x2048 .f32)
    (v29 : Vec Ideal S1x2048 .f32) (i : S256x2048.Idx) : k0_pay3 v0 v2 v5 v7 v11 v13 v29 i
      = k0_pay2 v0 v2 v5 v7 v11 v13 i * Ideal.rsqrt (Ideal.div
          (∑ x, k0_pay2 v0 v2 v5 v7 v11 v13 (ix2 (i 0) x) * k0_pay2 v0 v2 v5 v7 v11 v13 (ix2 (i 0) x))
            (Ideal.ofBits FTy.f32 0x45000000#32) + Ideal.ofBits FTy.f32 0x358637BD#32) * v29 (ix2 0 (i 1)) := by
  pointwise [k0_pay3]

theorem squares (v0 : Vec Ideal S256x1024 .bf16) (v2 : Vec Ideal S1024x2048 .bf16) (v5 : Vec Ideal S256x1024 .bf16)
    (v7 : Vec Ideal S1024x2048 .bf16) (v11 : Vec Ideal S256x2048 .f32) (v13 : Vec Ideal S1x1x2048 .f32)
    (i : S256x1.Idx) : k0_pay6 v0 v2 v5 v7 v11 v13 i
      = ∑ x, k0_pay5 v0 v2 v5 v7 v11 v13 (ix2 (i 0) x) * k0_pay5 v0 v2 v5 v7 v11 v13 (ix2 (i 0) x) := by
  pointwise [k0_pay6]

theorem modulated (X : FVec Ideal S256x2048 .f32) (i : S256x2048.Idx) :
    k0_pay4 X (View.ld x3 r0_6) (View.ld x3 r0_7) i = X i * (1 + x3 (ix3 0 4 (i 1))) + x3 (ix3 0 3 (i 1)) := by
  pointwise [k0_pay4]

theorem normed (X : FVec Ideal S256x2048 .f32) (Y : FVec Ideal S256x1 .f32) (i : S256x2048.Idx) :
    k0_pay1 X Y (View.ld x4 r0_5) (View.ld x3 r0_6) (View.ld x3 r0_7) i
      = X i * Ideal.rsqrt (Ideal.div (Y (ix2 (i 0) 0)) (Ideal.ofBits FTy.f32 0x45000000#32)
          + Ideal.ofBits FTy.f32 0x358637BD#32) * x4 (ix2 0 (i 1)) * (1 + x3 (ix3 0 4 (i 1))) + x3 (ix3 0 3 (i 1)) := by
  pointwise [k0_pay1]

theorem row_gain (j : Fin 2048) : View.ld x4 r0_5 (ix2 0 j) = x4 (ix2 0 j) := by
  pointwise

theorem nrm_lo (i : S256x2048.Idx) : k0_pay4 (k0_pay3 (View.ld x0 r0_0) (View.ld x5 r0_1) (View.ld x1 r0_0)
    (View.ld x5 r0_2) (View.ld x2 r0_3) (View.ld x3 r0_4) (View.ld x4 r0_5)) (View.ld x3 r0_6) (View.ld x3 r0_7) i
      = nrmB x0 x1 x2 x3 x4 x5 (loRow (i 0)) (i 1) := by
  rw [modulated, scaled]
  simp only [res_lo]
  exact congrArg₂ (· + ·) (congrArg₂ (· * ·) (congrArg₂ (· * ·) rfl (row_gain x4 (i 1))) rfl) rfl

theorem nrm_hi (i : S256x2048.Idx) : k0_pay1 (k0_pay5 (View.ld x0 r0_8) (View.ld x5 r0_1) (View.ld x1 r0_8)
    (View.ld x5 r0_2) (View.ld x2 r0_9) (View.ld x3 r0_4)) (k0_pay6 (View.ld x0 r0_8) (View.ld x5 r0_1) (View.ld x1 r0_8)
    (View.ld x5 r0_2) (View.ld x2 r0_9) (View.ld x3 r0_4)) (View.ld x4 r0_5) (View.ld x3 r0_6) (View.ld x3 r0_7) i
      = nrmB x0 x1 x2 x3 x4 x5 (hiRow (i 0)) (i 1) := by
  rw [normed, squares]
  simp only [res_hi]
  rfl

theorem emb_lo (i : S256x2048.Idx) : r0_3.emb i = ix2 (loRow (i 0)) (i 1) := by
  funext b
  apply Fin.ext
  match b with
  | ⟨0, _⟩ => show 0 + 1 * (i 0).val = (i 0).val; omega
  | ⟨1, _⟩ => show 0 + 1 * (i 1).val = (i 1).val; omega

theorem emb_hi (i : S256x2048.Idx) : r0_9.emb i = ix2 (hiRow (i 0)) (i 1) := by
  funext b
  apply Fin.ext
  match b with
  | ⟨0, _⟩ => show 256 + 1 * (i 0).val = 256 + (i 0).val; omega
  | ⟨1, _⟩ => show 0 + 1 * (i 1).val = (i 1).val; omega

theorem out6 (y : S512x2048.Idx) : out0_6 x0 x1 x2 x3 x4 x5 y = resB x0 x1 x2 x3 x5 (y 0) (y 1) := by
  unfold out0_6
  refine View.canon_apply_of_pieces (Val := Elt Ideal) (fun y : S512x2048.Idx => resB x0 x1 x2 x3 x5 (y 0) (y 1)) _ ?_ y
    (cover0_6 _ _ y)
  intro p hp x
  simp only [List.mem_cons, List.not_mem_nil, or_false] at hp
  rcases hp with rfl | rfl
  · refine (res_hi x0 x1 x2 x3 x5 x).trans ?_
    dsimp only
    rw [emb_hi]; rfl
  · refine (res_lo x0 x1 x2 x3 x5 x).trans ?_
    dsimp only
    rw [emb_lo]; rfl

theorem out7 (y : S512x2048.Idx) : out0_7 x0 x1 x2 x3 x4 x5 y = nrmB x0 x1 x2 x3 x4 x5 (y 0) (y 1) := by
  unfold out0_7
  refine View.canon_apply_of_pieces (Val := Elt Ideal) (fun y : S512x2048.Idx => nrmB x0 x1 x2 x3 x4 x5 (y 0) (y 1)) _ ?_ y
    (cover0_7 _ _ y)
  intro p hp x
  simp only [List.mem_cons, List.not_mem_nil, or_false] at hp
  rcases hp with rfl | rfl
  · refine (nrm_hi x0 x1 x2 x3 x4 x5 x).trans ?_
    dsimp only
    rw [emb_hi]; rfl
  · refine (nrm_lo x0 x1 x2 x3 x4 x5 x).trans ?_
    dsimp only
    rw [emb_lo]; rfl

/-! ## The arrays the call reads, at an index, in terms of the arguments -/

variable (m : (ℓ : Loc nD τ sig) → Buf (Elt Ideal) ℓ) (c : Dev nD)

theorem arr_r (r : Fin 32768) (k : Fin 1024) :
    V m c main_v3 (ix2 r k) = m ((c : Thread nD τ).loc main_arg0) (ix3 ⟨r.val / 8192, by omega⟩ ⟨r.val % 8192, by omega⟩ k) := by
  entry_read
  pointwise

theorem arr_d (r : Fin 32768) (k : Fin 1024) :
    V m c main_v5 (ix2 r k) = m ((c : Thread nD τ).loc main_arg1) (ix3 ⟨r.val / 8192, by omega⟩ ⟨r.val % 8192, by omega⟩ k) := by
  entry_read
  pointwise

theorem arr_x (r : Fin 32768) (k : Fin 2048) :
    V m c main_v0 (ix2 r k) = m ((c : Thread nD τ).loc main_arg2) (ix3 ⟨r.val / 8192, by omega⟩ ⟨r.val % 8192, by omega⟩ k) := by
  entry_read
  pointwise

theorem arr_m (b : Fin 4) (p : Fin 6) (j : Fin 2048) :
    V m c main_v1 (ix3 b p j) = m ((c : Thread nD τ).loc main_arg3) (ix2 b ⟨p.val * 2048 + j.val, by omega⟩) := by
  entry_read
  pointwise

theorem arr_n (j : Fin 2048) :
    V m c main_v6 (ix2 0 j) = m ((c : Thread nD τ).loc main_arg4) (ix1 j) := by
  entry_read
  pointwise

theorem arr_w (k j : Fin 2048) :
    V m c main_v7 (ix2 k j) = m ((c : Thread nD τ).loc main_arg5) (ix2 k j) := by
  entry_read
  pointwise

/-! ## Which block each window shows at point `t` -/

theorem ix_r : ∀ t : Fin cfg0.N, win0_0.index t 0 = t.val ∧ win0_0.index t 1 = 0 :=
  (by decide +kernel : ∀ t : Fin grid0.N, win0_0.index t 0 = t.val ∧ win0_0.index t 1 = 0)
theorem ix_d : ∀ t : Fin cfg0.N, win0_1.index t 0 = t.val ∧ win0_1.index t 1 = 0 :=
  (by decide +kernel : ∀ t : Fin grid0.N, win0_1.index t 0 = t.val ∧ win0_1.index t 1 = 0)
theorem ix_x : ∀ t : Fin cfg0.N, win0_2.index t 0 = t.val ∧ win0_2.index t 1 = 0 :=
  (by decide +kernel : ∀ t : Fin grid0.N, win0_2.index t 0 = t.val ∧ win0_2.index t 1 = 0)
theorem ix_m : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem ix_n : ∀ t : Fin cfg0.N, win0_4.index t 0 = 0 ∧ win0_4.index t 1 = 0 :=
  (by decide +kernel : ∀ t : Fin grid0.N, win0_4.index t 0 = 0 ∧ win0_4.index t 1 = 0)
theorem ix_w : ∀ t : Fin cfg0.N, win0_5.index t 0 = 0 ∧ win0_5.index t 1 = 0 :=
  (by decide +kernel : ∀ t : Fin grid0.N, win0_5.index t 0 = 0 ∧ win0_5.index t 1 = 0)
theorem ix_o : ∀ t : Fin cfg0.N, win0_6.index t 0 = t.val ∧ win0_6.index t 1 = 0 :=
  (by decide +kernel : ∀ t : Fin grid0.N, win0_6.index t 0 = t.val ∧ win0_6.index t 1 = 0)
theorem ix_p : ∀ t : Fin cfg0.N, win0_7.index t 0 = t.val ∧ win0_7.index t 1 = 0 :=
  (by decide +kernel : ∀ t : Fin grid0.N, win0_7.index t 0 = t.val ∧ win0_7.index t 1 = 0)

theorem lt_64 (t : Fin cfg0.N) : t.val < 64 := lt_of_lt_of_eq t.isLt N_0

/-- Row `a` of block `t`, among all rows. -/
def rowOf (t : Fin cfg0.N) (a : Fin 512) : Fin 32768 := ⟨512 * t.val + a.val, by have := lt_64 t; omega⟩

/-! ## The blocks at an index -/

theorem blk_r (t : Fin cfg0.N) (a : Fin 512) (k : Fin 1024) : iblk m c 0 t (ix2 a k) = V m c main_v3 (ix2 (rowOf t a) k) := by
  unfold iblk
  rw [View.read_apply]
  show V m c main_v3 _ = V m c main_v3 _
  congr 1
  funext b
  apply Fin.ext
  match b with
  | ⟨0, _⟩ => show win0_0.index t 0 * 512 + 1 * a.val = 512 * t.val + a.val; rw [(ix_r t).1]; omega
  | ⟨1, _⟩ => show win0_0.index t 1 * 1024 + 1 * k.val = k.val; rw [(ix_r t).2]; omega

theorem blk_d (t : Fin cfg0.N) (a : Fin 512) (k : Fin 1024) : iblk m c 1 t (ix2 a k) = V m c main_v5 (ix2 (rowOf t a) k) := by
  unfold iblk
  rw [View.read_apply]
  show V m c main_v5 _ = V m c main_v5 _
  congr 1
  funext b
  apply Fin.ext
  match b with
  | ⟨0, _⟩ => show win0_1.index t 0 * 512 + 1 * a.val = 512 * t.val + a.val; rw [(ix_d t).1]; omega
  | ⟨1, _⟩ => show win0_1.index t 1 * 1024 + 1 * k.val = k.val; rw [(ix_d t).2]; omega

theorem blk_x (t : Fin cfg0.N) (a : Fin 512) (j : Fin 2048) : iblk m c 2 t (ix2 a j) = V m c main_v0 (ix2 (rowOf t a) j) := by
  unfold iblk
  rw [View.read_apply]
  show V m c main_v0 _ = V m c main_v0 _
  congr 1
  funext b
  apply Fin.ext
  match b with
  | ⟨0, _⟩ => show win0_2.index t 0 * 512 + 1 * a.val = 512 * t.val + a.val; rw [(ix_x t).1]; omega
  | ⟨1, _⟩ => show win0_2.index t 1 * 2048 + 1 * j.val = j.val; rw [(ix_x t).2]; omega

theorem blk_m (t : Fin cfg0.N) (p : Fin 6) (j : Fin 2048) : iblk m c 3 t (ix3 0 p j)
    = V m c main_v1 (ix3 ⟨t.val / 16, by have := lt_64 t; omega⟩ p j) := by
  unfold iblk
  rw [View.read_apply]
  show V m c main_v1 _ = V m c main_v1 _
  congr 1
  funext b
  apply Fin.ext
  match b with
  | ⟨0, _⟩ => show win0_3.index t 0 * 1 + 1 * 0 = t.val / 16; rw [(ix_m t).1]; omega
  | ⟨1, _⟩ => show win0_3.index t 1 * 6 + 1 * p.val = p.val; rw [(ix_m t).2.1]; omega
  | ⟨2, _⟩ => show win0_3.index t 2 * 2048 + 1 * j.val = j.val; rw [(ix_m t).2.2]; omega

theorem blk_n (t : Fin cfg0.N) (j : Fin 2048) : iblk m c 4 t (ix2 0 j) = V m c main_v6 (ix2 0 j) := by
  unfold iblk
  rw [View.read_apply]
  show V m c main_v6 _ = V m c main_v6 _
  congr 1
  funext b
  apply Fin.ext
  match b with
  | ⟨0, _⟩ => show win0_4.index t 0 * 1 + 1 * 0 = 0; rw [(ix_n t).1]
  | ⟨1, _⟩ => show win0_4.index t 1 * 2048 + 1 * j.val = j.val; rw [(ix_n t).2]; omega

theorem blk_w (t : Fin cfg0.N) (k j : Fin 2048) : iblk m c 5 t (ix2 k j) = V m c main_v7 (ix2 k j) := by
  unfold iblk
  rw [View.read_apply]
  show V m c main_v7 _ = V m c main_v7 _
  congr 1
  funext b
  apply Fin.ext
  match b with
  | ⟨0, _⟩ => show win0_5.index t 0 * 2048 + 1 * k.val = k.val; rw [(ix_w t).1]; omega
  | ⟨1, _⟩ => show win0_5.index t 1 * 2048 + 1 * j.val = j.val; rw [(ix_w t).2]; omega

/-! ## The two results -/

/-- Row `r`'s image in the batch. -/
def bat (r : Fin 32768) : Fin 4 := ⟨r.val / 8192, by omega⟩
/-- Row `r`'s token. -/
def tok (r : Fin 32768) : Fin 8192 := ⟨r.val % 8192, by omega⟩
/-- Column `j` of part `p` of the modulation. -/
def part (p : Fin 6) (j : Fin 2048) : Fin 12288 := ⟨p.val * 2048 + j.val, by omega⟩

/-- The residual after the mixing product, at row `r` and column `j`. -/
def res (yr yd : Vec Ideal S4x8192x1024 .f32) (x : Vec Ideal S4x8192x2048 .f32) (g : Vec Ideal S4x12288 .f32)
    (w : Vec Ideal S2048x2048 .f32) (r : Fin 32768) (j : Fin 2048) : EReal :=
  x (ix3 (bat r) (tok r) j) + g (ix2 (bat r) (part 2 j))
    * ((∑ k : Fin 1024, yr (ix3 (bat r) (tok r) k) * w (ix2 (first k) j))
      + ∑ k : Fin 1024, yd (ix3 (bat r) (tok r) k) * w (ix2 (second k) j))

/-- Its normalised and modulated form. -/
def nrmed (yr yd : Vec Ideal S4x8192x1024 .f32) (x : Vec Ideal S4x8192x2048 .f32) (g : Vec Ideal S4x12288 .f32)
    (n : Vec Ideal S2048 .f32) (w : Vec Ideal S2048x2048 .f32) (r : Fin 32768) (j : Fin 2048) : EReal :=
  nrm (res yr yd x g w r) (n (ix1 j)) (g (ix2 (bat r) (part 4 j))) (g (ix2 (bat r) (part 3 j))) j

theorem mod_at (t : Fin cfg0.N) (a : Fin 512) (p : Fin 6) (j : Fin 2048) : iblk m c 3 t (ix3 0 p j)
    = m ((c : Thread nD τ).loc main_arg3) (ix2 (bat (rowOf t a)) (part p j)) := by
  rw [blk_m, arr_m]
  congr 2
  apply Fin.ext
  have := lt_64 t
  show t.val / 16 = (512 * t.val + a.val) / 8192
  omega

theorem resB_eq (t : Fin cfg0.N) (a : Fin 512) (j : Fin 2048) :
    resB (iblk m c 0 t) (iblk m c 1 t) (iblk m c 2 t) (iblk m c 3 t) (iblk m c 5 t) a j
      = res (m ((c : Thread nD τ).loc main_arg0)) (m ((c : Thread nD τ).loc main_arg1)) (m ((c : Thread nD τ).loc main_arg2))
          (m ((c : Thread nD τ).loc main_arg3)) (m ((c : Thread nD τ).loc main_arg5)) (rowOf t a) j := by
  unfold resB res
  refine congrArg₂ (· + ·) ((blk_x m c t a j).trans (arr_x m c _ _)) (congrArg₂ (· * ·) (mod_at m c t a 2 j)
    (congrArg₂ (· + ·) (Finset.sum_congr rfl fun k _ => congrArg₂ (· * ·) ?_ ?_)
      (Finset.sum_congr rfl fun k _ => congrArg₂ (· * ·) ?_ ?_)))
  · exact (blk_r m c t a k).trans (arr_r m c _ _)
  · exact (blk_w m c t _ j).trans (arr_w m c _ _)
  · exact (blk_d m c t a k).trans (arr_d m c _ _)
  · exact (blk_w m c t _ j).trans (arr_w m c _ _)

theorem nrmB_eq (t : Fin cfg0.N) (a : Fin 512) (j : Fin 2048) :
    nrmB (iblk m c 0 t) (iblk m c 1 t) (iblk m c 2 t) (iblk m c 3 t) (iblk m c 4 t) (iblk m c 5 t) a j
      = nrmed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (rowOf t a) j := by
  unfold nrmB nrmed
  rw [show resB (iblk m c 0 t) (iblk m c 1 t) (iblk m c 2 t) (iblk m c 3 t) (iblk m c 5 t) a = _ from
    funext fun j => resB_eq m c t a j]
  rw [show iblk m c 4 t (ix2 0 j) = m ((c : Thread nD τ).loc main_arg4) (ix1 j) from
    (blk_n m c t j).trans (arr_n m c j)]
  rw [mod_at m c t a 4 j, mod_at m c t a 3 j]

theorem final6 (i : S32768x2048.Idx) : (dats m 0 c).arrAt 6 cfg0.N i
    = res (m ((c : Thread nD τ).loc main_arg0)) (m ((c : Thread nD τ).loc main_arg1)) (m ((c : Thread nD τ).loc main_arg2))
          (m ((c : Thread nD τ).loc main_arg3)) (m ((c : Thread nD τ).loc main_arg5)) (i 0) (i 1) := by
  have h := (dats m 0 c).arrAt_eq_of_cover 6 (fun i : S32768x2048.Idx =>
    res (m ((c : Thread nD τ).loc main_arg0)) (m ((c : Thread nD τ).loc main_arg1)) (m ((c : Thread nD τ).loc main_arg2))
          (m ((c : Thread nD τ).loc main_arg3)) (m ((c : Thread nD τ).loc main_arg5)) (i 0) (i 1)) ?_
    ((by decide +kernel : (cfg0.win 6).Covers).cover _ (Memref.isWhole_whole _))
  · exact congrFun h i
  · intro t hf
    funext y
    show (dats m 0 c).after 6 t y = _
    rw [after0_6, View.read_apply]
    refine (out6 _ _ _ _ _ _ y).trans ((resB_eq m c t (y 0) (y 1)).trans ?_)
    show res _ _ _ _ _ _ _ = res _ _ _ _ _ _ _
    congr 1
    · apply Fin.ext
      show 512 * t.val + (y 0).val = win0_6.index t 0 * 512 + 1 * (y 0).val
      rw [(ix_o t).1]; omega
    · apply Fin.ext
      show (y 1).val = win0_6.index t 1 * 2048 + 1 * (y 1).val
      rw [(ix_o t).2]; omega

theorem final7 (i : S32768x2048.Idx) : (dats m 0 c).arrAt 7 cfg0.N i
    = nrmed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (i 0) (i 1) := by
  have h := (dats m 0 c).arrAt_eq_of_cover 7 (fun i : S32768x2048.Idx =>
    nrmed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (i 0) (i 1)) ?_
    ((by decide +kernel : (cfg0.win 7).Covers).cover _ (Memref.isWhole_whole _))
  · exact congrFun h i
  · intro t hf
    funext y
    show (dats m 0 c).after 7 t y = _
    rw [after0_7, View.read_apply]
    refine (out7 _ _ _ _ _ _ y).trans ((nrmB_eq m c t (y 0) (y 1)).trans ?_)
    show nrmed _ _ _ _ _ _ _ _ = nrmed _ _ _ _ _ _ _ _
    congr 1
    · apply Fin.ext
      show 512 * t.val + (y 0).val = win0_7.index t 0 * 512 + 1 * (y 0).val
      rw [(ix_p t).1]; omega
    · apply Fin.ext
      show (y 1).val = win0_7.index t 1 * 2048 + 1 * (y 1).val
      rw [(ix_p t).2]; omega

/-- The first result array, as one function of the arguments. -/
def result0 (yr yd : Vec Ideal S4x8192x1024 .f32) (x : Vec Ideal S4x8192x2048 .f32) (g : Vec Ideal S4x12288 .f32)
    (w : Vec Ideal S2048x2048 .f32) : Vec Ideal S32768x2048 .f32 := fun i => res yr yd x g w (i 0) (i 1)

/-- The second result array, as one function of the arguments. -/
def result1 (yr yd : Vec Ideal S4x8192x1024 .f32) (x : Vec Ideal S4x8192x2048 .f32) (g : Vec Ideal S4x12288 .f32)
    (n : Vec Ideal S2048 .f32) (w : Vec Ideal S2048x2048 .f32) : Vec Ideal S32768x2048 .bf16 :=
  fun i => nrmed yr yd x g n w (i 0) (i 1)

variable (ρ : Dev nD → PrngReg)

/-- The run, read: both results and the arguments. -/
theorem run : θ_run defs (onTc (τ := τ) (main (F := Ideal))) ⟨m, fun _ => 0, ρ⟩ fun r => ∀ c : Dev nD,
      r.2.mem ((c : Thread nD τ).loc main_v8_0)
        = result0 (m ((c : Thread nD τ).loc main_arg0)) (m ((c : Thread nD τ).loc main_arg1))
            (m ((c : Thread nD τ).loc main_arg2)) (m ((c : Thread nD τ).loc main_arg3)) (m ((c : Thread nD τ).loc main_arg5))
      ∧ r.2.mem ((c : Thread nD τ).loc main_v8_1)
        = result1 (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (funext fun i => final6 m c i),
    (h c).2.1.trans (funext fun i => final7 m c i), (h c).2.2⟩) (Value.run_blocks m ρ)

end Cert.Kernel3Ideal.Out
end
-- ==== Proof.OutRef.lean ====
/- The out-projection's reference over the extended reals: its two results are the call's. -/
module

public import proofs.«01_k».proof.Proof.OutValue
public import proofs.«01_k».proof.Proof.Gen.Reference3Ideal.Run

@[expose] public section

set_option maxRecDepth 16384

noncomputable section

namespace Cert.Reference3Ideal.Out

open Cert.Reference3Ideal Cert.Reference3Ideal.Gen
open Cert.Kernel3Ideal.Out (res nrmed nrm first second bat tok part result0 result1)
open Idealize.ShloMosaic Idealize.ShloMosaic.TcCoe
open scoped BigOperators

/-- Part `p` of the modulation, spread over the tokens. -/
theorem gate (o : ℕ) (g : Vec Ideal S4x12288 .f32) (h : S4x12288.Slices ![0, o] S4x2048) (b : Fin 4) (l : Fin 8192)
    (j : Fin 2048) (q : Fin 12288) (hq : q.val = o + j.val) :
    broadcastInDim S4x8192x2048 ![0, 1, 2] bcast_S4x1x2048_S4x8192x2048_0_1_2
      (broadcastInDim S4x1x2048 ![0, 2] bcast_S4x2048_S4x1x2048_0_2 (extractStridedSlice S4x2048 ![0, o] g h)) (ix3 b l j)
      = g (ix2 b q) := by
  have hb : o + j.val < 12288 := hq ▸ q.isLt
  rw [show q = ⟨o + j.val, hb⟩ from Fin.ext hq]
  pointwise

/-- The mixing product at an index: the two mixers' columns one after the other. -/
theorem mix (yr yd : Vec Ideal S4x8192x1024 .f32) (w : Vec Ideal S2048x2048 .f32) (b : Fin 4) (l : Fin 8192) (j : Fin 2048) :
    (Host.dotGeneral (F := Ideal) (φ₁ := .f32) (φ₂ := .f32) dot_S4x8192x2048_S2048x2048_S4x8192x2048_2_0_01_1_n_n none
      (concatenate S4x8192x2048 2 [⟨S4x8192x1024, yr⟩, ⟨S4x8192x1024, yd⟩]
        concatenates_S4x8192x1024_S4x8192x1024_S4x8192x2048_d2) w : FVec Ideal S4x8192x2048 .f32) (ix3 b l j)
      = (∑ k : Fin 1024, yr (ix3 b l k) * w (ix2 (first k) j)) + ∑ k : Fin 1024, yd (ix3 b l k) * w (ix2 (second k) j) := by
  pointwise
  rfl

theorem flat (z : Vec Ideal S4x8192x2048 .f32) (h) (r : Fin 32768) (j : Fin 2048) :
    shapeCast S32768x2048 z h (ix2 r j) = z (ix3 (bat r) (tok r) j) := by
  pointwise
  rfl

theorem flat_cast (z : FVec Ideal S4x8192x2048 .f32) (h) (h') (r : Fin 32768) (j : Fin 2048) :
    (truncf .bf16 (shapeCast S32768x2048 z h : FVec Ideal S32768x2048 .f32) h' : FVec Ideal S32768x2048 .bf16) (ix2 r j)
      = z (ix3 (bat r) (tok r) j) := by
  pointwise
  rfl

theorem normed (X : FVec Ideal S4x8192x2048 .f32) (n : Vec Ideal S2048 .f32) (b : Fin 4) (l : Fin 8192) (j : Fin 2048) :
    (mulf (mulf X (broadcastInDim S4x8192x2048 ![0, 1, 2] bcast_S4x8192x1_S4x8192x2048_0_1_2 (Host.rsqrt (addf (Host.divf
        (broadcastInDim S4x8192x1 ![0, 1] bcast_S4x8192_S4x8192x1_0_1 (Host.reduceAdd (mulf X X)
          (constant S_ .f32 0x00000000#32) reducesTo_S4x8192x2048_S4x8192_d2 h_S_))
        (broadcastInDim S4x8192x1 ![] bcast_S_S4x8192x1 (constant S_ .f32 0x45000000#32)))
        (broadcastInDim S4x8192x1 ![] bcast_S_S4x8192x1 (constant S_ .f32 0x358637BD#32))))))
      (broadcastInDim S4x8192x2048 ![0, 1, 2] bcast_S1x1x2048_S4x8192x2048_0_1_2
        (broadcastInDim S1x1x2048 ![2] bcast_S2048_S1x1x2048_2 n)) : FVec Ideal S4x8192x2048 .f32) (ix3 b l j)
      = X (ix3 b l j) * Ideal.rsqrt (Ideal.div (∑ x, X (ix3 b l x) * X (ix3 b l x)) (Ideal.ofBits FTy.f32 0x45000000#32)
          + Ideal.ofBits FTy.f32 0x358637BD#32) * n (ix1 j) := by
  pointwise

theorem scale (o : ℕ) (g : Vec Ideal S4x12288 .f32) (h : S4x12288.Slices ![0, o] S4x2048) (b : Fin 4) (l : Fin 8192)
    (j : Fin 2048) (q : Fin 12288) (hq : q.val = o + j.val) :
    (broadcastInDim S4x8192x2048 ![0, 1, 2] bcast_S4x1x2048_S4x8192x2048_0_1_2
      (addf (broadcastInDim S4x1x2048 ![] bcast_S_S4x1x2048 (constant (F := Ideal) S_ .f32 0x3F800000#32))
        (broadcastInDim S4x1x2048 ![0, 2] bcast_S4x2048_S4x1x2048_0_2 (extractStridedSlice S4x2048 ![0, o] g h)))
        : FVec Ideal S4x8192x2048 .f32) (ix3 b l j)
      = (1 : EReal) + g (ix2 b q) := by
  have hb : o + j.val < 12288 := hq ▸ q.isLt
  rw [show q = ⟨o + j.val, hb⟩ from Fin.ext hq]
  pointwise

variable (m : (ℓ : Loc nD τ sig) → Buf (Elt Ideal) ℓ) (ρ : Dev nD → PrngReg)

/-- The residual before it is flattened. -/
theorem res_at (yr yd : Vec Ideal S4x8192x1024 .f32) (x : Vec Ideal S4x8192x2048 .f32) (g : Vec Ideal S4x12288 .f32)
    (w : Vec Ideal S2048x2048 .f32) (r : Fin 32768) (j : Fin 2048) :
    (addf x (mulf (broadcastInDim S4x8192x2048 ![0, 1, 2] bcast_S4x1x2048_S4x8192x2048_0_1_2
        (broadcastInDim S4x1x2048 ![0, 2] bcast_S4x2048_S4x1x2048_0_2
          (extractStridedSlice S4x2048 ![0, 4096] g slices_S4x12288_S4x2048_0_4096)))
      (Host.dotGeneral (F := Ideal) (φ₁ := .f32) (φ₂ := .f32) dot_S4x8192x2048_S2048x2048_S4x8192x2048_2_0_01_1_n_n none
        (concatenate S4x8192x2048 2 [⟨S4x8192x1024, yr⟩, ⟨S4x8192x1024, yd⟩]
          concatenates_S4x8192x1024_S4x8192x1024_S4x8192x2048_d2) w)) : FVec Ideal S4x8192x2048 .f32)
      (ix3 (bat r) (tok r) j) = res yr yd x g w r j :=
  congrArg₂ (· + ·) rfl (congrArg₂ (· * ·) (gate 4096 g _ _ _ _ (part 2 j) rfl) (mix yr yd w _ _ _))

theorem run : θ_run defs (onTc (τ := τ) (main (F := Ideal))) ⟨m, fun _ => 0, ρ⟩ fun r => ∀ c : Dev nD,
      r.2.mem ((c : Thread nD τ).loc main_v33)
        = result0 (m ((c : Thread nD τ).loc main_arg0)) (m ((c : Thread nD τ).loc main_arg1))
            (m ((c : Thread nD τ).loc main_arg2)) (m ((c : Thread nD τ).loc main_arg3)) (m ((c : Thread nD τ).loc main_arg5))
      ∧ r.2.mem ((c : Thread nD τ).loc main_v35)
        = result1 (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1.trans ?_, (h c).2.1.trans ?_, (h c).2.2⟩) (Value.run m ρ)
  · refine funext fun (i : S32768x2048.Idx) => ?_
    rw [show i = ix2 (n0 := 32768) (n1 := 2048) (i 0) (i 1) from eq_ix2 i]
    exact (flat _ _ (i 0) (i 1)).trans (res_at _ _ _ _ _ (i 0) (i 1))
  · refine funext fun (i : S32768x2048.Idx) => ?_
    rw [show i = ix2 (n0 := 32768) (n1 := 2048) (i 0) (i 1) from eq_ix2 i]
    refine (flat_cast _ _ _ (i 0) (i 1)).trans ?_
    refine (congrArg₂ (· + ·) (congrArg₂ (· * ·) (normed _ _ _ _ _) (scale 8192 _ _ _ _ _ (part 4 (i 1)) rfl))
      (gate 6144 _ _ _ _ _ (part 3 (i 1)) rfl)).trans ?_
    exact congrArg (fun X => nrm X (m ((c : Thread nD τ).loc main_arg4) (ix1 (i 1)))
        (m ((c : Thread nD τ).loc main_arg3) (ix2 (bat (i 0)) (part 4 (i 1))))
        (m ((c : Thread nD τ).loc main_arg3) (ix2 (bat (i 0)) (part 3 (i 1)))) (i 1))
      (funext fun x => res_at (m ((c : Thread nD τ).loc main_arg0)) (m ((c : Thread nD τ).loc main_arg1))
        (m ((c : Thread nD τ).loc main_arg2)) (m ((c : Thread nD τ).loc main_arg3)) (m ((c : Thread nD τ).loc main_arg5))
        (i 0) x)

end Cert.Reference3Ideal.Out

end
-- ==== Proof.Keeps.lean ====
/-
# A body that keeps what it holds

A frame says nothing of what a kernel's body computes: it only says that the body never touches anything but the
buffers it is handed, and that it ends. For such a claim one assertion `R` — the buffers the body is handed, those it
may store into at some contents — holds before and after every statement, and this module gives, for that single
assertion, one rule per kind of statement: a value returned, a sequence, a load, a store, a branch, a counted loop.
-/
module

public import Idealize.ShloMosaic.Lib.Pipeline.FrameBody
public import Idealize.ShloMosaic.Lib.Tactic
public import Idealize.ShloMosaic.Lib.Exec.Geometry

@[expose] public section

noncomputable section

namespace Cert.Kernel.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (UR sig nD τ) ℕ

/-- `R` lets the memref be read: what `R` holds can be opened to a share of the memref's elements and closed again. -/
def Reads (c : Dev nD) (R : sProp 𝕄) {cs : CoreSpace} {s : Shape} {e : EltTy} (m : Memref sig .tc cs s e) : Prop :=
  R ⊢ iprop(∃ (q : PosShare TreeShare) (f : Buf Val (m.view.loc (c : Thread nD τ))),
    (m.view.loc (c : Thread nD τ) ↦[m.view.set]{q} f) ∗ ((m.view.loc (c : Thread nD τ) ↦[m.view.set]{q} f) -∗ R))

/-- `R` lets the memref be written: what `R` holds can be opened to the memref's elements at some contents, and closed
    again whatever they hold then. -/
def Writes (c : Dev nD) (R : sProp 𝕄) {cs : CoreSpace} {s : Shape} {e : EltTy} (m : Memref sig .tc cs s e) : Prop :=
  R ⊢ iprop(∃ f : Buf Val (m.view.loc (c : Thread nD τ)), (m.view.loc (c : Thread nD τ) ↦[m.view.set]{fullShare} f)
    ∗ (∀ g : Buf Val (m.view.loc (c : Thread nD τ)), (m.view.loc (c : Thread nD τ) ↦[m.view.set]{fullShare} g) -∗ R))

/-- What may be written may be read. -/
theorem Writes.reads {c : Dev nD} {R : sProp 𝕄} {cs : CoreSpace} {s : Shape} {e : EltTy} {m : Memref sig .tc cs s e}
    (h : Writes c R m) : Reads c R m := by
  unfold Reads
  unfold Writes at h
  iintro H
  ihave H' := h $$ H
  icases H' with ⟨%f, Hf, Hc⟩
  iexists fullShare, f
  isplitl [Hf]; · iexact Hf
  iintro Hf
  iapply Hc; iexact Hf

/-- The program runs to an end from `R`, touching only what `R` holds, and gives `R` back. -/
def Keeps (defs₀ : Defs nD τ sig Val Λ) (𝒱₀ : Variants) (c : Dev nD) (R : sProp 𝕄) {α : Type} (p : Prog (TpuEff nD τ sig Val Λ .tc) α) : Prop :=
  R ⊢ wp frame (wpE defs₀ 𝒱₀ (c : Thread nD τ) none) Set.univ p (fun _ => R)

variable {defs₀ : Defs nD τ sig Val Λ} {𝒱₀ : Variants} {c : Dev nD}

theorem Keeps.pure {R : sProp 𝕄} {α : Type} (a : α) : Keeps defs₀ 𝒱₀ c R (Pure.pure a) := by
  show R ⊢ wp frame (wpE defs₀ 𝒱₀ (c : Thread nD τ) none) Set.univ (.ret a) (fun _ => R)
  rw [wp_ret]
  iintro H
  imodintro
  iexact H

theorem Keeps.bind {R : sProp 𝕄} {α β : Type} {p : Prog (TpuEff nD τ sig Val Λ .tc) α} {k : α → Prog (TpuEff nD τ sig Val Λ .tc) β}
    (hp : Keeps defs₀ 𝒱₀ c R p) (hk : ∀ a, Keeps defs₀ 𝒱₀ c R (k a)) : Keeps defs₀ 𝒱₀ c R (p >>= k) := by
  unfold Keeps
  rw [wp_bind]
  exact hp.trans (wp_mono _ _ _ fun a => hk a)

theorem Keeps.load {R : sProp 𝕄} {cs : CoreSpace} {s : Shape} {e : EltTy} {m : Memref sig .tc cs s e} (h : Reads c R m)
    (r : LoadRect s) (hl : m.view.LoadsAt r) : Keeps defs₀ 𝒱₀ c R (Prog.lift (.load m r hl)) := by
  show R ⊢ wp frame (wpE defs₀ 𝒱₀ (c : Thread nD τ) none) Set.univ (.op (.load m r hl) .ret) (fun _ => R)
  unfold Reads at h
  iintro H
  ihave H' := h $$ H
  icases H' with ⟨%q, %f, Hf, Hc⟩
  iapply (wp_load 𝒱₀ (c : Thread nD τ) none Set.univ (m := m) (r := r) (hl := hl) (k := .ret) (q := q) (f := f) (S := m.view.set)
    (View.setOn_subset_set _ _)) $$ Hf
  iintro Hf
  rw [wp_ret]
  imodintro
  iapply Hc; iexact Hf

theorem Keeps.store {R : sProp 𝕄} {cs : CoreSpace} {s : Shape} {e : EltTy} {m : Memref sig .tc cs s e} (h : Writes c R m)
    (r : Rect s) (w : r.shape.Idx → Val e) (Mk : Finset r.shape.Idx) (hx : (m.access r).Stores Mk)
    (hm : Mk = Finset.univ ∨ ∀ a, r.stride a = 1) : Keeps defs₀ 𝒱₀ c R (Prog.lift (.store m r w Mk hx hm)) := by
  show R ⊢ wp frame (wpE defs₀ 𝒱₀ (c : Thread nD τ) none) Set.univ (.op (.store m r w Mk hx hm) .ret) (fun _ => R)
  unfold Writes at h
  iintro H
  ihave H' := h $$ H
  icases H' with ⟨%f, Hf, Hc⟩
  iapply (wp_store 𝒱₀ (c : Thread nD τ) none Set.univ (m := m) (r := r) (w := w) (Mk := Mk) (hx := hx) (hm := hm) (k := .ret) (f := f)
    (S := m.view.set) (View.setOn_slice_subset_set _ _ _)) $$ Hf
  iintro Hf
  rw [wp_ret]
  imodintro
  iapply Hc; iexact Hf

theorem Keeps.ite {R : sProp 𝕄} {α : Type} {P : Prop} [Decidable P] {p q : Prog (TpuEff nD τ sig Val Λ .tc) α}
    (hp : P → Keeps defs₀ 𝒱₀ c R p) (hq : ¬P → Keeps defs₀ 𝒱₀ c R q) : Keeps defs₀ 𝒱₀ c R (if P then p else q) := by
  split
  · exact hp ‹_›
  · exact hq ‹_›

theorem Keeps.dite {R : sProp 𝕄} {α : Type} {P : Prop} [Decidable P] {p : P → Prog (TpuEff nD τ sig Val Λ .tc) α}
    {q : ¬P → Prog (TpuEff nD τ sig Val Λ .tc) α}
    (hp : ∀ h, Keeps defs₀ 𝒱₀ c R (p h)) (hq : ∀ h, Keeps defs₀ 𝒱₀ c R (q h)) : Keeps defs₀ 𝒱₀ c R (if h : P then p h else q h) := by
  split
  · exact hp ‹_›
  · exact hq ‹_›

theorem Keeps.loop {R : sProp 𝕄} {w : Nat} {σ : Type} (l : Scf.Loop w) (hok : l.OK) (init : σ)
    (body : Fin l.trips → σ → Prog (TpuEff nD τ sig Val Λ .tc) σ)
    (hb : ∀ k a, Keeps defs₀ 𝒱₀ c R (body k a)) : Keeps defs₀ 𝒱₀ c R (Scf.Loop.for l hok init body) := by
  unfold Keeps
  refine .trans ?_ (Scf.wp_for frame (wpE defs₀ 𝒱₀ (c : Thread nD τ) none) Set.univ l.lb l.ub l.st hok init body (fun _ _ => R)
    (fun k a => hb k a))
  iintro H
  isplitl [H]; · iexact H
  iintro %a H
  iexact H

/-! ## What lets a memref be read or written -/

/-- Owning a memref at known contents, at any share, lets it be read. -/
theorem reads_owns {cs : CoreSpace} {s : Shape} {e : EltTy} {m : Memref sig .tc cs s e} {q : PosShare TreeShare}
    (X : s.Idx → Val e) : Reads c (owns (c : Thread nD τ) m q X : sProp 𝕄) m := by
  unfold Reads owns
  iintro ⟨%f, %hf, Hf⟩
  iexists q, f
  isplitl [Hf]; · iexact Hf
  iintro Hf
  iexists f
  isplitr [Hf]
  · ipureintro; exact hf
  iexact Hf

/-- Owning it in full at some contents lets it be written. -/
theorem writes_owns {cs : CoreSpace} {s : Shape} {e : EltTy} {m : Memref sig .tc cs s e} :
    Writes c (iprop(∃ d, owns (c : Thread nD τ) m fullShare d) : sProp 𝕄) m := by
  unfold Writes owns
  iintro ⟨%d, %f, %hf, Hf⟩
  iexists f
  isplitl [Hf]; · iexact Hf
  iintro %g Hg
  iexists (m.view.read Val g), g
  isplitr [Hg]
  · ipureintro; rfl
  iexact Hg

/-! What one conjunct lets be read or written, the conjunction does. -/

theorem Reads.left {A B : sProp 𝕄} {cs : CoreSpace} {s : Shape} {e : EltTy} {m : Memref sig .tc cs s e}
    (h : Reads c A m) : Reads c iprop(A ∗ B) m := by
  unfold Reads at h ⊢
  iintro ⟨HA, HB⟩
  ihave H' := h $$ HA
  icases H' with ⟨%q, %f, Hf, Hc⟩
  iexists q, f
  isplitl [Hf]; · iexact Hf
  iintro Hf
  isplitl [Hf Hc]
  · iapply Hc; iexact Hf
  iexact HB

theorem Reads.right {A B : sProp 𝕄} {cs : CoreSpace} {s : Shape} {e : EltTy} {m : Memref sig .tc cs s e}
    (h : Reads c B m) : Reads c iprop(A ∗ B) m := by
  unfold Reads at h ⊢
  iintro ⟨HA, HB⟩
  ihave H' := h $$ HB
  icases H' with ⟨%q, %f, Hf, Hc⟩
  iexists q, f
  isplitl [Hf]; · iexact Hf
  iintro Hf
  isplitl [HA]; · iexact HA
  iapply Hc; iexact Hf

theorem Writes.left {A B : sProp 𝕄} {cs : CoreSpace} {s : Shape} {e : EltTy} {m : Memref sig .tc cs s e}
    (h : Writes c A m) : Writes c iprop(A ∗ B) m := by
  unfold Writes at h ⊢
  iintro ⟨HA, HB⟩
  ihave H' := h $$ HA
  icases H' with ⟨%f, Hf, Hc⟩
  iexists f
  isplitl [Hf]; · iexact Hf
  iintro %g Hf
  isplitl [Hf Hc]
  · iapply Hc; iexact Hf
  iexact HB

theorem Writes.right {A B : sProp 𝕄} {cs : CoreSpace} {s : Shape} {e : EltTy} {m : Memref sig .tc cs s e}
    (h : Writes c B m) : Writes c iprop(A ∗ B) m := by
  unfold Writes at h ⊢
  iintro ⟨HA, HB⟩
  ihave H' := h $$ HB
  icases H' with ⟨%f, Hf, Hc⟩
  iexists f
  isplitl [Hf]; · iexact Hf
  iintro %g Hf
  isplitl [HA]; · iexact HA
  iapply Hc; iexact Hf

end Cert.Kernel.Keep

end
-- ==== Proof.DsaBody.lean ====
/-
# The sparse attention's body keeps the buffers it is handed

The body of the sparse attention's kernel is one long program: rounds of a bit-by-bit search over the indexer's scores
for the threshold of the largest of them (population counts of comparison masks under nested loops and conditionals), and
then a running softmax over the keys that reach it. Whatever it computes, each of its statements reads one of the ten
blocks it is given, or reads or overwrites the output's block or one of its twelve scratch buffers. So an assertion that
lets the ten be read and the thirteen be written holds before and after every statement, and the body ends with it.
-/
module

public import proofs.«01_k».proof.Proof.Gen.Kernel
public import proofs.«01_k».proof.Proof.Keeps

@[expose] public section

-- the printed body is a sequence of some hundreds of statements, each nested in the one before it
set_option maxRecDepth 65536

noncomputable section

namespace Cert.Kernel.Dsa

open Cert.Kernel Cert.Kernel.Keep
open Idealize.ShloMosaic Idealize.ShloMosaic.TcCoe Idealize.ShloMosaic.Tactic
open Idealize.SL Idealize.SL.RA Idealize.SL.BI Idealize.SL.Sem
open Idealize.ShloMosaic.Rounds

variable {F : FTy → Type} [BitOps F]

local notation "𝕄" => MT nD τ sig Unit (Elt F) ℕ (UR sig nD τ) ℕ

/-- The body's ten input blocks, which the assertion lets be read, and its output block and twelve scratch buffers, which
    it lets be written. -/
structure Blocks (c : Dev nD) (R : sProp 𝕄) where
  a2 : Memref sig .tc .vmem S256x1024 .bf16
  w2 : a2.IsWhole
  h2 : Reads c R a2
  a3 : Memref sig .tc .vmem S256x1024 .bf16
  w3 : a3.IsWhole
  h3 : Reads c R a3
  a4 : Memref sig .tc .vmem S256x128 .bf16
  w4 : a4.IsWhole
  h4 : Reads c R a4
  a5 : Memref sig .tc .vmem S128x1024 .bf16
  w5 : a5.IsWhole
  h5 : Reads c R a5
  a6 : Memref sig .tc .vmem S128x128 .bf16
  w6 : a6.IsWhole
  h6 : Reads c R a6
  a7 : Memref sig .tc .vmem S8192x256 .bf16
  w7 : a7.IsWhole
  h7 : Reads c R a7
  a8 : Memref sig .tc .vmem S1x32x256x256 .bf16
  w8 : a8.IsWhole
  h8 : Reads c R a8
  a9 : Memref sig .tc .vmem S8192x128 .bf16
  w9 : a9.IsWhole
  h9 : Reads c R a9
  a10 : Memref sig .tc .vmem S8192x128 .bf16
  w10 : a10.IsWhole
  h10 : Reads c R a10
  a11 : Memref sig .tc .vmem S1x1024 .f32
  w11 : a11.IsWhole
  h11 : Reads c R a11
  a12 : Memref sig .tc .vmem S256x1024 .bf16
  w12 : a12.IsWhole
  h12 : Writes c R a12
  a13 : Memref sig .tc .vmem S8192x128 .i32
  w13 : a13.IsWhole
  h13 : Writes c R a13
  a14 : Memref sig .tc .vmem S8192x128 .i32
  w14 : a14.IsWhole
  h14 : Writes c R a14
  a15 : Memref sig .tc .vmem S32x32x8x128 .i32
  w15 : a15.IsWhole
  h15 : Writes c R a15
  a16 : Memref sig .tc .vmem S32x32x8x128 .i32
  w16 : a16.IsWhole
  h16 : Writes c R a16
  a17 : Memref sig .tc .vmem S32x8x128 .i32
  w17 : a17.IsWhole
  h17 : Writes c R a17
  a18 : Memref sig .tc .vmem S2x256x512 .f32
  w18 : a18.IsWhole
  h18 : Writes c R a18
  a19 : Memref sig .tc .vmem S2x256x512 .f32
  w19 : a19.IsWhole
  h19 : Writes c R a19
  a20 : Memref sig .tc .vmem S128x1024 .bf16
  w20 : a20.IsWhole
  h20 : Writes c R a20
  a21 : Memref sig .tc .vmem S128x1024 .bf16
  w21 : a21.IsWhole
  h21 : Writes c R a21
  a22 : Memref sig .tc .vmem S2x128x512 .f32
  w22 : a22.IsWhole
  h22 : Writes c R a22
  a23 : Memref sig .tc .vmem S2x512 .f32
  w23 : a23.IsWhole
  h23 : Writes c R a23
  a24 : Memref sig .tc .vmem S2x512 .f32
  w24 : a24.IsWhole
  h24 : Writes c R a24

/-- Each of the thirteen that may be written may be read. -/
theorem Blocks.reads {c : Dev nD} {R : sProp 𝕄} (b : Blocks c R) :
    Reads c R b.a12 ∧ Reads c R b.a13 ∧ Reads c R b.a14 ∧ Reads c R b.a15 ∧ Reads c R b.a16 ∧ Reads c R b.a17 ∧
    Reads c R b.a18 ∧ Reads c R b.a19 ∧ Reads c R b.a20 ∧ Reads c R b.a21 ∧ Reads c R b.a22 ∧ Reads c R b.a23 ∧
    Reads c R b.a24 :=
  ⟨b.h12.reads, b.h13.reads, b.h14.reads, b.h15.reads, b.h16.reads, b.h17.reads, b.h18.reads, b.h19.reads,
    b.h20.reads, b.h21.reads, b.h22.reads, b.h23.reads, b.h24.reads⟩

/-- What every tuple's program keeps, said of its first component and the tuple of the rest. -/
theorem each_tuple {c : Dev nD} {R : sProp 𝕄} {α γ : Type} {β : α → Type}
    {p : (Σ' a, β a) → Prog (TpuEff nD τ sig (Elt F) Λ₀ .tc) γ}
    (h : ∀ a b, Keeps (defs₀ (F := F)) Variants.none c R (p ⟨a, b⟩)) :
    ∀ x, Keeps (defs₀ (F := F)) Variants.none c R (p x) :=
  fun x => h x.1 x.2

/-- The same of a pair. -/
theorem each_pair {c : Dev nD} {R : sProp 𝕄} {α β γ : Type} {p : α × β → Prog (TpuEff nD τ sig (Elt F) Λ₀ .tc) γ}
    (h : ∀ a b, Keeps (defs₀ (F := F)) Variants.none c R (p (a, b))) :
    ∀ x, Keeps (defs₀ (F := F)) Variants.none c R (p x) :=
  fun x => h x.1 x.2

-- below, `Keeps` is taken apart by its lemmas alone
attribute [local irreducible] Keeps

/-! ## The body, in the pieces in which it is printed

Each proof below walks down its piece. Every statement is one of: an earlier piece, a load, a store, a value returned,
a counted loop, a branch, a sequence. -/

/-- Of the first half of the rows, the statements that only count the key blocks to visit: no buffer is touched. -/
theorem first_counts {c : Dev nD} {R : sProp 𝕄} (b : Blocks c R) (i : grid0.Coords)
    (v8 : BitVec 32) (v18 : BitVec 32) (v32 : BitVec 1) (v33 : BitVec 32) :
    Keeps (defs₀ (F := F)) Variants.none c R (k0_part348
      i b.a2 b.w2 b.a3 b.w3 b.a4 b.w4 b.a5 b.w5 b.a6 b.w6 b.a7 b.w7 b.a8 b.w8 b.a9 b.w9 b.a10 b.w10 b.a11 b.w11 b.a12
      b.w12 b.a13 b.w13 b.a14 b.w14 b.a15 b.w15 b.a16 b.w16 b.a17 b.w17 b.a18 b.w18 b.a19 b.w19 b.a20 b.w20 b.a21
      b.w21 b.a22 b.w22 b.a23 b.w23 b.a24 b.w24
      v8 v18 v32 v33) :=
  Keeps.pure _

/-- The same statements of the second half of the rows. -/
theorem second_counts {c : Dev nD} {R : sProp 𝕄} (b : Blocks c R) (i : grid0.Coords)
    (v9 : BitVec 32) (v2579 : BitVec 32) (v2593 : BitVec 1) :
    Keeps (defs₀ (F := F)) Variants.none c R (k0_part409
      i b.a2 b.w2 b.a3 b.w3 b.a4 b.w4 b.a5 b.w5 b.a6 b.w6 b.a7 b.w7 b.a8 b.w8 b.a9 b.w9 b.a10 b.w10 b.a11 b.w11 b.a12
      b.w12 b.a13 b.w13 b.a14 b.w14 b.a15 b.w15 b.a16 b.w16 b.a17 b.w17 b.a18 b.w18 b.a19 b.w19 b.a20 b.w20 b.a21
      b.w21 b.a22 b.w22 b.a23 b.w23 b.a24 b.w24
      v9 v2579 v2593) :=
  Keeps.pure _

-- one pass over the piece's statements
set_option maxHeartbeats 0 in
/-- The statements that clear the packed bit planes at the first point, and those that score the first keys. -/
theorem first_start {c : Dev nD} {R : sProp 𝕄} (b : Blocks c R) (i : grid0.Coords) :
    Keeps (defs₀ (F := F)) Variants.none c R (k0_part347
      i b.a2 b.w2 b.a3 b.w3 b.a4 b.w4 b.a5 b.w5 b.a6 b.w6 b.a7 b.w7 b.a8 b.w8 b.a9 b.w9 b.a10 b.w10 b.a11 b.w11 b.a12
      b.w12 b.a13 b.w13 b.a14 b.w14 b.a15 b.w15 b.a16 b.w16 b.a17 b.w17 b.a18 b.w18 b.a19 b.w19 b.a20 b.w20 b.a21
      b.w21 b.a22 b.w22 b.a23 b.w23 b.a24 b.w24) := by
  obtain ⟨g12, g13, g14, g15, g16, g17, g18, g19, g20, g21, g22, g23, g24⟩ := b.reads
  have h2 := b.h2; have h3 := b.h3; have h4 := b.h4; have h5 := b.h5; have h6 := b.h6; have h7 := b.h7;
  have h8 := b.h8; have h9 := b.h9; have h10 := b.h10; have h11 := b.h11; have h12 := b.h12; have h13 := b.h13;
  have h14 := b.h14; have h15 := b.h15; have h16 := b.h16; have h17 := b.h17; have h18 := b.h18; have h19 := b.h19;
  have h20 := b.h20; have h21 := b.h21; have h22 := b.h22; have h23 := b.h23; have h24 := b.h24
  delta k0_part347
  repeat' first
    | with_reducible exact Keeps.load (by assumption) _ _
    | with_reducible exact Keeps.store (by assumption) _ _ _ _ _
    | with_reducible exact Keeps.pure _
    | with_reducible refine Keeps.loop _ _ _ _ fun _ => ?_
    | with_reducible refine Keeps.ite (fun _ => ?_) (fun _ => ?_)
    | with_reducible refine Keeps.dite (fun _ => ?_) (fun _ => ?_)
    | with_reducible refine Keeps.bind ?_ ?_
    | with_reducible refine each_tuple fun _ => ?_
    | with_reducible refine each_pair fun _ _ => ?_
    | intro _
    | exact Keeps.pure _
    | refine Keeps.bind ?_ ?_

-- one pass over the piece's statements
set_option maxHeartbeats 0 in
/-- The search of the first half of the rows: two counted loops over the key blocks, and the branches between them. -/
theorem first_search {c : Dev nD} {R : sProp 𝕄} (b : Blocks c R) (i : grid0.Coords)
    (v7 : FVec F S16x256 .bf16) (v88 : BitVec 32) (v110 : IVec S1x128 32) (v330 : FVec F S1x1024 .f32)
    (v339 : FVec F S1x1024 .f32) :
    Keeps (defs₀ (F := F)) Variants.none c R (k0_part355
      i b.a2 b.w2 b.a3 b.w3 b.a4 b.w4 b.a5 b.w5 b.a6 b.w6 b.a7 b.w7 b.a8 b.w8 b.a9 b.w9 b.a10 b.w10 b.a11 b.w11 b.a12
      b.w12 b.a13 b.w13 b.a14 b.w14 b.a15 b.w15 b.a16 b.w16 b.a17 b.w17 b.a18 b.w18 b.a19 b.w19 b.a20 b.w20 b.a21
      b.w21 b.a22 b.w22 b.a23 b.w23 b.a24 b.w24
      v7 v88 v110 v330 v339) := by
  obtain ⟨g12, g13, g14, g15, g16, g17, g18, g19, g20, g21, g22, g23, g24⟩ := b.reads
  have h2 := b.h2; have h3 := b.h3; have h4 := b.h4; have h5 := b.h5; have h6 := b.h6; have h7 := b.h7;
  have h8 := b.h8; have h9 := b.h9; have h10 := b.h10; have h11 := b.h11; have h12 := b.h12; have h13 := b.h13;
  have h14 := b.h14; have h15 := b.h15; have h16 := b.h16; have h17 := b.h17; have h18 := b.h18; have h19 := b.h19;
  have h20 := b.h20; have h21 := b.h21; have h22 := b.h22; have h23 := b.h23; have h24 := b.h24
  repeat' first
    | with_reducible exact Keeps.load (by assumption) _ _
    | with_reducible exact Keeps.store (by assumption) _ _ _ _ _
    | with_reducible exact Keeps.pure _
    | with_reducible refine Keeps.loop _ _ _ _ fun _ => ?_
    | with_reducible refine Keeps.ite (fun _ => ?_) (fun _ => ?_)
    | with_reducible refine Keeps.dite (fun _ => ?_) (fun _ => ?_)
    | with_reducible refine Keeps.bind ?_ ?_
    | with_reducible refine each_tuple fun _ => ?_
    | with_reducible refine each_pair fun _ _ => ?_
    | intro _
    | exact Keeps.pure _
    | refine Keeps.bind ?_ ?_

-- one pass over the piece's statements
set_option maxHeartbeats 0 in
/-- The search of the second half of the rows. -/
theorem second_search {c : Dev nD} {R : sProp 𝕄} (b : Blocks c R) (i : grid0.Coords)
    (v7 : FVec F S16x256 .bf16) (v2686 : BitVec 32) (v2708 : IVec S1x128 32) (v2928 : FVec F S1x1024 .f32)
    (v2937 : FVec F S1x1024 .f32) (v2946 : FVec F S2x512 .f32) (v2947 : Vec F S2x512 .f32) :
    Keeps (defs₀ (F := F)) Variants.none c R (k0_part417
      i b.a2 b.w2 b.a3 b.w3 b.a4 b.w4 b.a5 b.w5 b.a6 b.w6 b.a7 b.w7 b.a8 b.w8 b.a9 b.w9 b.a10 b.w10 b.a11 b.w11 b.a12
      b.w12 b.a13 b.w13 b.a14 b.w14 b.a15 b.w15 b.a16 b.w16 b.a17 b.w17 b.a18 b.w18 b.a19 b.w19 b.a20 b.w20 b.a21
      b.w21 b.a22 b.w22 b.a23 b.w23 b.a24 b.w24
      v7 v2686 v2708 v2928 v2937 v2946 v2947) := by
  obtain ⟨g12, g13, g14, g15, g16, g17, g18, g19, g20, g21, g22, g23, g24⟩ := b.reads
  have h2 := b.h2; have h3 := b.h3; have h4 := b.h4; have h5 := b.h5; have h6 := b.h6; have h7 := b.h7;
  have h8 := b.h8; have h9 := b.h9; have h10 := b.h10; have h11 := b.h11; have h12 := b.h12; have h13 := b.h13;
  have h14 := b.h14; have h15 := b.h15; have h16 := b.h16; have h17 := b.h17; have h18 := b.h18; have h19 := b.h19;
  have h20 := b.h20; have h21 := b.h21; have h22 := b.h22; have h23 := b.h23; have h24 := b.h24
  repeat' first
    | with_reducible exact Keeps.load (by assumption) _ _
    | with_reducible exact Keeps.store (by assumption) _ _ _ _ _
    | with_reducible exact Keeps.pure _
    | with_reducible refine Keeps.loop _ _ _ _ fun _ => ?_
    | with_reducible refine Keeps.ite (fun _ => ?_) (fun _ => ?_)
    | with_reducible refine Keeps.dite (fun _ => ?_) (fun _ => ?_)
    | with_reducible refine Keeps.bind ?_ ?_
    | with_reducible refine each_tuple fun _ => ?_
    | with_reducible refine each_pair fun _ _ => ?_
    | intro _
    | exact Keeps.pure _
    | refine Keeps.bind ?_ ?_

-- one pass over the piece's statements
set_option maxHeartbeats 0 in
/-- The first half of the rows: the indexer's scores, the search for their threshold, the running softmax. -/
theorem first_rows {c : Dev nD} {R : sProp 𝕄} (b : Blocks c R) (i : grid0.Coords) :
    Keeps (defs₀ (F := F)) Variants.none c R (k0_part470
      i b.a2 b.w2 b.a3 b.w3 b.a4 b.w4 b.a5 b.w5 b.a6 b.w6 b.a7 b.w7 b.a8 b.w8 b.a9 b.w9 b.a10 b.w10 b.a11 b.w11 b.a12
      b.w12 b.a13 b.w13 b.a14 b.w14 b.a15 b.w15 b.a16 b.w16 b.a17 b.w17 b.a18 b.w18 b.a19 b.w19 b.a20 b.w20 b.a21
      b.w21 b.a22 b.w22 b.a23 b.w23 b.a24 b.w24) := by
  obtain ⟨g12, g13, g14, g15, g16, g17, g18, g19, g20, g21, g22, g23, g24⟩ := b.reads
  have h2 := b.h2; have h3 := b.h3; have h4 := b.h4; have h5 := b.h5; have h6 := b.h6; have h7 := b.h7;
  have h8 := b.h8; have h9 := b.h9; have h10 := b.h10; have h11 := b.h11; have h12 := b.h12; have h13 := b.h13;
  have h14 := b.h14; have h15 := b.h15; have h16 := b.h16; have h17 := b.h17; have h18 := b.h18; have h19 := b.h19;
  have h20 := b.h20; have h21 := b.h21; have h22 := b.h22; have h23 := b.h23; have h24 := b.h24
  repeat' first
    | with_reducible exact first_counts b _ _ _ _ _
    | with_reducible exact first_start b _
    | with_reducible exact first_search b _ _ _ _ _ _
    | with_reducible exact Keeps.load (by assumption) _ _
    | with_reducible exact Keeps.store (by assumption) _ _ _ _ _
    | with_reducible exact Keeps.pure _
    | with_reducible refine Keeps.loop _ _ _ _ fun _ => ?_
    | with_reducible refine Keeps.ite (fun _ => ?_) (fun _ => ?_)
    | with_reducible refine Keeps.dite (fun _ => ?_) (fun _ => ?_)
    | with_reducible refine Keeps.bind ?_ ?_
    | with_reducible refine each_tuple fun _ => ?_
    | with_reducible refine each_pair fun _ _ => ?_
    | intro _
    | delta k0_part351
    | exact Keeps.pure _
    | refine Keeps.bind ?_ ?_

-- one pass over the piece's statements
set_option maxHeartbeats 0 in
/-- The second half of the rows. -/
theorem second_rows {c : Dev nD} {R : sProp 𝕄} (b : Blocks c R) (i : grid0.Coords)
    (v5 : IVec S256x128 32) (v6 : IVec S256x128 32) (v7 : FVec F S16x256 .bf16) (v9 : BitVec 32) (v10 : BitVec 32)
    (v2506 : Vec F S1x1024 .f32) (v2511 : FVec F S128x512 .f32) (v2516 : FVec F S128x128 .f32) :
    Keeps (defs₀ (F := F)) Variants.none c R (k0_part471
      i b.a2 b.w2 b.a3 b.w3 b.a4 b.w4 b.a5 b.w5 b.a6 b.w6 b.a7 b.w7 b.a8 b.w8 b.a9 b.w9 b.a10 b.w10 b.a11 b.w11 b.a12
      b.w12 b.a13 b.w13 b.a14 b.w14 b.a15 b.w15 b.a16 b.w16 b.a17 b.w17 b.a18 b.w18 b.a19 b.w19 b.a20 b.w20 b.a21
      b.w21 b.a22 b.w22 b.a23 b.w23 b.a24 b.w24
      v5 v6 v7 v9 v10 v2506 v2511 v2516) := by
  obtain ⟨g12, g13, g14, g15, g16, g17, g18, g19, g20, g21, g22, g23, g24⟩ := b.reads
  have h2 := b.h2; have h3 := b.h3; have h4 := b.h4; have h5 := b.h5; have h6 := b.h6; have h7 := b.h7;
  have h8 := b.h8; have h9 := b.h9; have h10 := b.h10; have h11 := b.h11; have h12 := b.h12; have h13 := b.h13;
  have h14 := b.h14; have h15 := b.h15; have h16 := b.h16; have h17 := b.h17; have h18 := b.h18; have h19 := b.h19;
  have h20 := b.h20; have h21 := b.h21; have h22 := b.h22; have h23 := b.h23; have h24 := b.h24
  repeat' first
    | with_reducible exact second_counts b _ _ _ _
    | with_reducible exact second_search b _ _ _ _ _ _ _ _
    | with_reducible exact Keeps.load (by assumption) _ _
    | with_reducible exact Keeps.store (by assumption) _ _ _ _ _
    | with_reducible exact Keeps.pure _
    | with_reducible refine Keeps.loop _ _ _ _ fun _ => ?_
    | with_reducible refine Keeps.ite (fun _ => ?_) (fun _ => ?_)
    | with_reducible refine Keeps.dite (fun _ => ?_) (fun _ => ?_)
    | with_reducible refine Keeps.bind ?_ ?_
    | with_reducible refine each_tuple fun _ => ?_
    | with_reducible refine each_pair fun _ _ => ?_
    | intro _
    | delta k0_part413
    | exact Keeps.pure _
    | refine Keeps.bind ?_ ?_

-- one pass over the piece's statements
set_option maxHeartbeats 0 in
/-- The body, at any grid point, on any blocks. -/
theorem keeps_blocks {c : Dev nD} {R : sProp 𝕄} (b : Blocks c R) (i : grid0.Coords) :
    Keeps (defs₀ (F := F)) Variants.none c R (cc0_dsa
      i b.a2 b.w2 b.a3 b.w3 b.a4 b.w4 b.a5 b.w5 b.a6 b.w6 b.a7 b.w7 b.a8 b.w8 b.a9 b.w9 b.a10 b.w10 b.a11 b.w11 b.a12
      b.w12 b.a13 b.w13 b.a14 b.w14 b.a15 b.w15 b.a16 b.w16 b.a17 b.w17 b.a18 b.w18 b.a19 b.w19 b.a20 b.w20 b.a21
      b.w21 b.a22 b.w22 b.a23 b.w23 b.a24 b.w24) := by
  obtain ⟨g12, g13, g14, g15, g16, g17, g18, g19, g20, g21, g22, g23, g24⟩ := b.reads
  have h2 := b.h2; have h3 := b.h3; have h4 := b.h4; have h5 := b.h5; have h6 := b.h6; have h7 := b.h7;
  have h8 := b.h8; have h9 := b.h9; have h10 := b.h10; have h11 := b.h11; have h12 := b.h12; have h13 := b.h13;
  have h14 := b.h14; have h15 := b.h15; have h16 := b.h16; have h17 := b.h17; have h18 := b.h18; have h19 := b.h19;
  have h20 := b.h20; have h21 := b.h21; have h22 := b.h22; have h23 := b.h23; have h24 := b.h24
  repeat' first
    | with_reducible exact first_rows b _
    | with_reducible exact second_rows b _ _ _ _ _ _ _ _ _
    | with_reducible exact Keeps.load (by assumption) _ _
    | with_reducible exact Keeps.store (by assumption) _ _ _ _ _
    | with_reducible exact Keeps.pure _
    | with_reducible refine Keeps.loop _ _ _ _ fun _ => ?_
    | with_reducible refine Keeps.ite (fun _ => ?_) (fun _ => ?_)
    | with_reducible refine Keeps.dite (fun _ => ?_) (fun _ => ?_)
    | with_reducible refine Keeps.bind ?_ ?_
    | with_reducible refine each_tuple fun _ => ?_
    | with_reducible refine each_pair fun _ _ => ?_
    | intro _
    | exact Keeps.pure _
    | refine Keeps.bind ?_ ?_

/-- The body, at any grid point and on any memrefs, keeps an assertion that lets its ten input blocks be read and its
    output block and its twelve scratch buffers be written. -/
theorem keeps (c : Dev nD) (R : sProp 𝕄) (i : grid0.Coords)
    (arg2 : Memref sig .tc .vmem S256x1024 .bf16) (harg2 : arg2.IsWhole)
    (arg3 : Memref sig .tc .vmem S256x1024 .bf16) (harg3 : arg3.IsWhole)
    (arg4 : Memref sig .tc .vmem S256x128 .bf16) (harg4 : arg4.IsWhole)
    (arg5 : Memref sig .tc .vmem S128x1024 .bf16) (harg5 : arg5.IsWhole)
    (arg6 : Memref sig .tc .vmem S128x128 .bf16) (harg6 : arg6.IsWhole)
    (arg7 : Memref sig .tc .vmem S8192x256 .bf16) (harg7 : arg7.IsWhole)
    (arg8 : Memref sig .tc .vmem S1x32x256x256 .bf16) (harg8 : arg8.IsWhole)
    (arg9 : Memref sig .tc .vmem S8192x128 .bf16) (harg9 : arg9.IsWhole)
    (arg10 : Memref sig .tc .vmem S8192x128 .bf16) (harg10 : arg10.IsWhole)
    (arg11 : Memref sig .tc .vmem S1x1024 .f32) (harg11 : arg11.IsWhole)
    (arg12 : Memref sig .tc .vmem S256x1024 .bf16) (harg12 : arg12.IsWhole)
    (arg13 : Memref sig .tc .vmem S8192x128 .i32) (harg13 : arg13.IsWhole)
    (arg14 : Memref sig .tc .vmem S8192x128 .i32) (harg14 : arg14.IsWhole)
    (arg15 : Memref sig .tc .vmem S32x32x8x128 .i32) (harg15 : arg15.IsWhole)
    (arg16 : Memref sig .tc .vmem S32x32x8x128 .i32) (harg16 : arg16.IsWhole)
    (arg17 : Memref sig .tc .vmem S32x8x128 .i32) (harg17 : arg17.IsWhole)
    (arg18 : Memref sig .tc .vmem S2x256x512 .f32) (harg18 : arg18.IsWhole)
    (arg19 : Memref sig .tc .vmem S2x256x512 .f32) (harg19 : arg19.IsWhole)
    (arg20 : Memref sig .tc .vmem S128x1024 .bf16) (harg20 : arg20.IsWhole)
    (arg21 : Memref sig .tc .vmem S128x1024 .bf16) (harg21 : arg21.IsWhole)
    (arg22 : Memref sig .tc .vmem S2x128x512 .f32) (harg22 : arg22.IsWhole)
    (arg23 : Memref sig .tc .vmem S2x512 .f32) (harg23 : arg23.IsWhole)
    (arg24 : Memref sig .tc .vmem S2x512 .f32) (harg24 : arg24.IsWhole)
    (h2 : Reads c R arg2) (h3 : Reads c R arg3) (h4 : Reads c R arg4) (h5 : Reads c R arg5) (h6 : Reads c R arg6)
    (h7 : Reads c R arg7) (h8 : Reads c R arg8) (h9 : Reads c R arg9) (h10 : Reads c R arg10)
    (h11 : Reads c R arg11) (h12 : Writes c R arg12) (h13 : Writes c R arg13) (h14 : Writes c R arg14)
    (h15 : Writes c R arg15) (h16 : Writes c R arg16) (h17 : Writes c R arg17) (h18 : Writes c R arg18)
    (h19 : Writes c R arg19) (h20 : Writes c R arg20) (h21 : Writes c R arg21) (h22 : Writes c R arg22)
    (h23 : Writes c R arg23) (h24 : Writes c R arg24) :
    Keeps (defs₀ (F := F)) Variants.none c R (cc0_dsa i
      arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19
      harg19 arg20 harg20 arg21 harg21 arg22 harg22 arg23 harg23 arg24 harg24) :=
  keeps_blocks ⟨
    arg2, harg2, h2, arg3, harg3, h3, arg4, harg4, h4, arg5, harg5, h5, arg6, harg6, h6, arg7, harg7, h7,
    arg8, harg8, h8, arg9, harg9, h9, arg10, harg10, h10, arg11, harg11, h11, arg12, harg12, h12,
    arg13, harg13, h13, arg14, harg14, h14, arg15, harg15, h15, arg16, harg16, h16, arg17, harg17, h17,
    arg18, harg18, h18, arg19, harg19, h19, arg20, harg20, h20, arg21, harg21, h21, arg22, harg22, h22,
    arg23, harg23, h23, arg24, harg24, h24⟩ i

end Cert.Kernel.Dsa

end
-- ==== Proof.DsaRun.lean ====
/-
# The sparse attention runs to its end and leaves its arguments alone

The launch of the sparse attention's kernel: a pipeline of 128 points over eleven windows, eight of which read parts of one
array, with twelve scratch buffers that live across the points. Nothing is said of what the kernel leaves in its output's
blocks nor of what its scratch holds between two points, only that both are there: so the body's obligation at a point is
that it keeps what it is handed (`keeps`), and the frame follows — every argument array ends as it began, and every
semaphore counter at zero.
-/
module

public import proofs.«01_k».proof.Proof.Gen.Kernel.Launch
public import proofs.«01_k».proof.Proof.Gen.Kernel.Points
public import proofs.«01_k».proof.Proof.Gen.Kernel.Frame
public import proofs.«01_k».proof.Proof.DsaBody
public import Idealize.ShloMosaic.Lib.Claim

@[expose] public section

set_option maxRecDepth 16384

noncomputable section

namespace Cert.Kernel.Dsa

open Cert.Kernel Cert.Kernel.Gen Cert.Kernel.Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## What the pipeline holds at each point -/

/-- The output window is the one nothing is said of. -/
def forgets : Fin 11 → Bool := fun w => w.val == 10

/-- The arrays as launched, each input's buffer at its block after every point, the output's at contents nobody names, the
    scratch buffers at some contents; the windows on one array hold each a share of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! The body leaves each input's buffer at its block, -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
/-! and finds it there at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-! The buffer each window is staged in at a point, -/
abbrev ms0 (t : Fin cfg0.N) : Memref sig .tc .vmem S256x1024 .bf16 := win0_0.stage (cfg0.slots t 0)
abbrev ms1 (t : Fin cfg0.N) : Memref sig .tc .vmem S256x1024 .bf16 := win0_1.stage (cfg0.slots t 1)
abbrev ms2 (t : Fin cfg0.N) : Memref sig .tc .vmem S256x128 .bf16 := win0_2.stage (cfg0.slots t 2)
abbrev ms3 (t : Fin cfg0.N) : Memref sig .tc .vmem S128x1024 .bf16 := win0_3.stage (cfg0.slots t 3)
abbrev ms4 (t : Fin cfg0.N) : Memref sig .tc .vmem S128x128 .bf16 := win0_4.stage (cfg0.slots t 4)
abbrev ms5 (t : Fin cfg0.N) : Memref sig .tc .vmem S8192x256 .bf16 := win0_5.stage (cfg0.slots t 5)
abbrev ms6 (t : Fin cfg0.N) : Memref sig .tc .vmem S1x32x256x256 .bf16 := win0_6.stage (cfg0.slots t 6)
abbrev ms7 (t : Fin cfg0.N) : Memref sig .tc .vmem S8192x128 .bf16 := win0_7.stage (cfg0.slots t 7)
abbrev ms8 (t : Fin cfg0.N) : Memref sig .tc .vmem S8192x128 .bf16 := win0_8.stage (cfg0.slots t 8)
abbrev ms9 (t : Fin cfg0.N) : Memref sig .tc .vmem S1x1024 .f32 := win0_9.stage (cfg0.slots t 9)
abbrev ms10 (t : Fin cfg0.N) : Memref sig .tc .vmem S256x1024 .bf16 := win0_10.stage (cfg0.slots t 10)
/-! and the scratch buffers. -/
abbrev sc0 : Memref sig .tc .vmem S8192x128 .i32 := Memref.whole cc0_scratch0
abbrev sc1 : Memref sig .tc .vmem S8192x128 .i32 := Memref.whole cc0_scratch1
abbrev sc2 : Memref sig .tc .vmem S32x32x8x128 .i32 := Memref.whole cc0_scratch2
abbrev sc3 : Memref sig .tc .vmem S32x32x8x128 .i32 := Memref.whole cc0_scratch3
abbrev sc4 : Memref sig .tc .vmem S32x8x128 .i32 := Memref.whole cc0_scratch4
abbrev sc5 : Memref sig .tc .vmem S2x256x512 .f32 := Memref.whole cc0_scratch5
abbrev sc6 : Memref sig .tc .vmem S2x256x512 .f32 := Memref.whole cc0_scratch6
abbrev sc7 : Memref sig .tc .vmem S128x1024 .bf16 := Memref.whole cc0_scratch7
abbrev sc8 : Memref sig .tc .vmem S128x1024 .bf16 := Memref.whole cc0_scratch8
abbrev sc9 : Memref sig .tc .vmem S2x128x512 .f32 := Memref.whole cc0_scratch9
abbrev sc10 : Memref sig .tc .vmem S2x512 .f32 := Memref.whole cc0_scratch10
abbrev sc11 : Memref sig .tc .vmem S2x512 .f32 := Memref.whole cc0_scratch11

/-- Before and after every statement of the body: each input's buffer at its block, the output's and the scratch buffers at
    some contents, the generator's register, and what the core owes. -/
def held (c : Dev nD) (t : Fin cfg0.N) : sProp 𝕄 :=
  iprop(owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (iblk m c 7 t)
    ∗ owns (c : Thread nD τ) (ms8 t) fullShare (iblk m c 8 t)
    ∗ owns (c : Thread nD τ) (ms9 t) fullShare (iblk m c 9 t)
    ∗ (∃ d, owns (c : Thread nD τ) (ms10 t) fullShare d)
    ∗ (∃ d, owns (c : Thread nD τ) sc0 fullShare d)
    ∗ (∃ d, owns (c : Thread nD τ) sc1 fullShare d)
    ∗ (∃ d, owns (c : Thread nD τ) sc2 fullShare d)
    ∗ (∃ d, owns (c : Thread nD τ) sc3 fullShare d)
    ∗ (∃ d, owns (c : Thread nD τ) sc4 fullShare d)
    ∗ (∃ d, owns (c : Thread nD τ) sc5 fullShare d)
    ∗ (∃ d, owns (c : Thread nD τ) sc6 fullShare d)
    ∗ (∃ d, owns (c : Thread nD τ) sc7 fullShare d)
    ∗ (∃ d, owns (c : Thread nD τ) sc8 fullShare d)
    ∗ (∃ d, owns (c : Thread nD τ) sc9 fullShare d)
    ∗ (∃ d, owns (c : Thread nD τ) sc10 fullShare d)
    ∗ (∃ d, owns (c : Thread nD τ) sc11 fullShare d)
    ∗ (∃ r, prngReg c r)
    ∗ (dats m 0 c).owesAt () t.castSucc)

/-- What the pipeline hands the body at a point, window by window, -/
def bodyPre (c : Dev nD) (t : Fin cfg0.N) : sProp 𝕄 :=
  iprop((dats m 0 c).Φ t.castSucc
    ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare d))

/-- and what it takes back. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms10 t) fullShare d))

/-- The pipeline's invariant is the scratch buffers at some contents and the generator's register. -/
theorem Φ_eq (c : Dev nD) :
    (Pipeline.ΦA spec0 c : sProp 𝕄) = iprop(iprop((∃ d, owns (c : Thread nD τ) sc0 fullShare d)
    ∗ (∃ d, owns (c : Thread nD τ) sc1 fullShare d)
    ∗ (∃ d, owns (c : Thread nD τ) sc2 fullShare d)
    ∗ (∃ d, owns (c : Thread nD τ) sc3 fullShare d)
    ∗ (∃ d, owns (c : Thread nD τ) sc4 fullShare d)
    ∗ (∃ d, owns (c : Thread nD τ) sc5 fullShare d)
    ∗ (∃ d, owns (c : Thread nD τ) sc6 fullShare d)
    ∗ (∃ d, owns (c : Thread nD τ) sc7 fullShare d)
    ∗ (∃ d, owns (c : Thread nD τ) sc8 fullShare d)
    ∗ (∃ d, owns (c : Thread nD τ) sc9 fullShare d)
    ∗ (∃ d, owns (c : Thread nD τ) sc10 fullShare d)
    ∗ (∃ d, owns (c : Thread nD τ) sc11 fullShare d))
    ∗ (∃ r, prngReg c r)) := by
  unfold Pipeline.ΦA; rw [scopedRest0_eq]; simp only [sc0, sc1, sc2, sc3, sc4, sc5, sc6, sc7, sc8, sc9, sc10, sc11, owns_whole]; rfl

theorem bodyPre_held (c : Dev nD) (t : Fin cfg0.N) : bodyPre m c t ⊢ held m c t := by
  unfold bodyPre held
  simp only [before_0, before_1, before_2, before_3, before_4, before_5, before_6, before_7, before_8, before_9]
  rw [show (dats m 0 c).Φ t.castSucc = Pipeline.ΦA spec0 c from rfl, Φ_eq]
  iintro ⟨⟨⟨S0, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [Hg]; · iexact Hg
  iexact Ho

theorem held_bodyPost (c : Dev nD) (t : Fin cfg0.N) : held m c t ⊢ bodyPost m c t := by
  unfold bodyPost held
  rw [show (dats m 0 c).Φ t.succ = Pipeline.ΦA spec0 c from rfl, Φ_eq]
  rw [show (dats m 0 c).owesAt () t.succ = (dats m 0 c).owesAt () t.castSucc from rfl]
  iintro ⟨H0, H1, H2, H3, H4, H5, H6, H7, H8, H9, H10, S0, S1, S2, S3, S4, S5, S6, S7, S8, S9, S10, S11, Hg, Ho⟩
  isplitl [S0 S1 S2 S3 S4 S5 S6 S7 S8 S9 S10 S11 Hg]
  · isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The body at a point -/

-- each of the twenty-three memrefs is looked for among the conjuncts held
set_option maxHeartbeats 4000000 in
/-- The body at any point keeps what it is handed. -/
theorem sound_body (c : Dev nD) (t : Fin cfg0.N) :
    bodyPre m c t ⊢ wp frame (wpE (defs₀ (F := F)) Variants.none c none) Set.univ (bodyAt0 t) (fun _ => bodyPost m c t) := by
  refine (bodyPre_held m c t).trans (.trans ?_ (wp_mono _ _ _ fun _ => held_bodyPost m c t))
  refine keeps c (held m c t) (grid0.coords t)
    _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ <;> unfold held <;>
  repeat first
    | with_reducible exact reads_owns _
    | with_reducible exact writes_owns
    | with_reducible exact Reads.left (reads_owns _)
    | with_reducible exact Writes.left writes_owns
    | with_reducible refine Reads.right ?_
    | with_reducible refine Writes.right ?_

/-- The body table's row at a point is the body there. -/
theorem row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) :
    BodyObligation (dats (F := F) m 0 c) (defs₀ (F := F)) Variants.none () Set.univ forgets := fun t => by
  rw [bigSep_W0, bigSep_W0, row]
  exact triple_restated (sound_body m c t) rfl .rfl fun _ => .rfl

/-! ## The run and the frame -/

set_option backward.isDefEq.respectTransparency.types false in
/-- The launch ends with every input array as launched, and every counter at zero. -/
theorem run_quiescent : θ_run defs (onTc (τ := τ) (main (F := F))) (s₀ m ρ) (fun r =>
    (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame: every fair execution ends, with the three arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 8 rfl).trans ((A_eq m c 8).trans (V_main_arg0 m c)),
      (h.1.arr_in c 6 rfl).trans ((A_eq m c 6).trans (V_main_arg1 m c)),
      (h.1.arr_in c 9 rfl).trans ((A_eq m c 9).trans (V_main_arg2 m c))⟩, h.2⟩) (run_quiescent m ρ)

end Cert.Kernel.Dsa

end
-- ==== Proof.lean ====
/- The certificate: each call's frames, and the values of the MLP and of the out-projection. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Skeleton
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.MlpRef
public import proofs.«01_k».proof.Proof.OutRef
public import proofs.«01_k».proof.Proof.DsaRun
public import Idealize.ShloMosaic.Lib.Claim
public import Idealize.ShloMosaic.Lib.Quiescent

@[expose] public section

set_option maxRecDepth 16384

open Idealize.ShloMosaic Idealize.SL.Sem

/-- The two readings of the MLP program run one body. -/
theorem Cert.Proof.mlp_bodies :
    @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => ?_)
  obtain ⟨l, h⟩ := l
  match l, h with
  | 0, _ => rfl
  | n + 1, h => exact absurd h (Nat.not_lt.2 (Nat.le_add_left _ _))

theorem Cert.Proof.mlp_tables :
    @Cert.Kernel2.defs Bits _ Cert.Kernel2.Gen.facts = @Cert.Kernel2Ideal.defs Bits _ Cert.Kernel2Ideal.Gen.facts :=
  congrArg (Pipeline.defs (@Cert.Kernel2.pcfgs Bits Cert.Kernel2.Gen.facts)) Cert.Proof.mlp_bodies

/-- The machine's MLP program is the ideal one's text, so its frame is the same run at the machine's floats. -/
theorem Cert.Proof.mlp_frame : @Cert.quiescent_Kernel2 Cert.Kernel2.Gen.facts := fun m ρ _ => by
  rw [Cert.Proof.mlp_tables]
  exact Cert.Kernel2Ideal.Mlp.frame (F := Bits) m ρ

/-- The references declare no semaphore, so their counters end at zero. -/
theorem Cert.Proof.mlp_reference_frame : @Cert.quiescent_Reference2Ideal Cert.Reference2Ideal.Gen.facts :=
  fun m ρ _ => (θ_run _ _ _).mono (fun r h => ⟨fun c => (h c).2, sem_eq_zero_of_no_sems (by decide) r.2⟩)
    (Cert.Reference2Ideal.Value.run (F := Ideal) m ρ)

theorem Cert.Proof.out_reference_frame : @Cert.quiescent_Reference3Ideal Cert.Reference3Ideal.Gen.facts :=
  fun m ρ _ => (θ_run _ _ _).mono (fun r h => ⟨fun c => (h c).2.2, sem_eq_zero_of_no_sems (by decide) r.2⟩)
    (Cert.Reference3Ideal.Value.run (F := Ideal) m ρ)

theorem Cert.Proof.mlp_value :
    @Cert.algebraic_Kernel2Ideal_Reference2Ideal Cert.Kernel2Ideal.Gen.facts Cert.Reference2Ideal.Gen.facts :=
  fun m ρ m' ρ' _ hag =>
    ⟨fun c => Cert.Kernel2Ideal.Mlp.result _ _ _ _ _, Cert.Kernel2Ideal.Mlp.run m ρ,
      (θ_run _ _ _).mono (fun r h c => ⟨(h c).1.trans (by
        obtain ⟨h0, h1, h2, h3, h4⟩ := hag c
        rw [h0, h1, h2, h3, h4]), (h c).2⟩) (Cert.Reference2Ideal.Mlp.run m' ρ')⟩

theorem Cert.Proof.out_value :
    @Cert.algebraic_Kernel3Ideal_Reference3Ideal Cert.Kernel3Ideal.Gen.facts Cert.Reference3Ideal.Gen.facts :=
  fun m ρ m' ρ' _ hag =>
    ⟨fun c => Cert.Kernel3Ideal.Out.result0 _ _ _ _ _, fun c => Cert.Kernel3Ideal.Out.result1 _ _ _ _ _ _,
      Cert.Kernel3Ideal.Out.run m ρ,
      (θ_run _ _ _).mono (fun r h c => by
        obtain ⟨h0, h1, h2, h3, h4, h5⟩ := hag c
        exact ⟨(h c).1.trans (by rw [h0, h1, h2, h3, h5]), (h c).2.1.trans (by rw [h0, h1, h2, h3, h4, h5]), (h c).2.2⟩)
        (Cert.Reference3Ideal.Out.run m' ρ')⟩

theorem Cert.Proof.claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel.Dsa.frame m ρ,
    Cert.Proof.mlp_frame,
    fun m ρ _ => Cert.Kernel2Ideal.Mlp.frame m ρ,
    Cert.Proof.mlp_reference_frame,
    fun m ρ _ => Cert.Kernel3.Gen.frame m ρ,
    fun m ρ _ => Cert.Kernel3Ideal.Gen.frame m ρ,
    Cert.Proof.out_reference_frame,
    trivial, Cert.Proof.mlp_value, trivial, Cert.Proof.out_value⟩

end
